-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "dead" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)) (v6 : (c : Dev Cert.Kernel2Ideal.nD) → Buf (Elt Ideal) ((c.tc : Thread Cert.Kernel2Ideal.nD Cert.Kernel2Ideal.τ).loc Cert.Kernel2Ideal.main_v2_6)) (v7 : (c : Dev Cert.Kernel2Ideal.nD) → Buf (Elt Ideal) ((c.tc : Thread Cert.Kernel2Ideal.nD Cert.Kernel2Ideal.τ).loc Cert.Kernel2Ideal.main_v2_7)) (v8 : (c : Dev Cert.Kernel2Ideal.nD) → Buf (Elt Ideal) ((c.tc : Thread Cert.Kernel2Ideal.nD Cert.Kernel2Ideal.τ).loc Cert.Kernel2Ideal.main_v2_8)) (v9 : (c : Dev Cert.Kernel2Ideal.nD) → Buf (Elt Ideal) ((c.tc : Thread Cert.Kernel2Ideal.nD Cert.Kernel2Ideal.τ).loc Cert.Kernel2Ideal.main_v2_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_v2_6) = v6 c
          ∧ r.2.mem ((c.tc : Thread Cert.Kernel2Ideal.nD Cert.Kernel2Ideal.τ).loc Cert.Kernel2Ideal.main_v2_7) = v7 c
          ∧ r.2.mem ((c.tc : Thread Cert.Kernel2Ideal.nD Cert.Kernel2Ideal.τ).loc Cert.Kernel2Ideal.main_v2_8) = v8 c
          ∧ r.2.mem ((c.tc : Thread Cert.Kernel2Ideal.nD Cert.Kernel2Ideal.τ).loc Cert.Kernel2Ideal.main_v2_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_v14) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_v22) = v5 c
          ∧ r.2.mem ((c.tc : Thread Cert.Reference2Ideal.nD Cert.Reference2Ideal.τ).loc Cert.Reference2Ideal.main_v24) = v6 c
          ∧ r.2.mem ((c.tc : Thread Cert.Reference2Ideal.nD Cert.Reference2Ideal.τ).loc Cert.Reference2Ideal.main_v26) = v7 c
          ∧ r.2.mem ((c.tc : Thread Cert.Reference2Ideal.nD Cert.Reference2Ideal.τ).loc Cert.Reference2Ideal.main_v29) = v8 c
          ∧ r.2.mem ((c.tc : Thread Cert.Reference2Ideal.nD Cert.Reference2Ideal.τ).loc Cert.Reference2Ideal.main_v32) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "masked" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v54)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v54) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)) (v5 : (c : Dev Cert.Kernel5Ideal.nD) → Buf (Elt Ideal) ((c.tc : Thread Cert.Kernel5Ideal.nD Cert.Kernel5Ideal.τ).loc Cert.Kernel5Ideal.main_v2_5)) (v6 : (c : Dev Cert.Kernel5Ideal.nD) → Buf (Elt Ideal) ((c.tc : Thread Cert.Kernel5Ideal.nD Cert.Kernel5Ideal.τ).loc Cert.Kernel5Ideal.main_v2_6)) (v7 : (c : Dev Cert.Kernel5Ideal.nD) → Buf (Elt Ideal) ((c.tc : Thread Cert.Kernel5Ideal.nD Cert.Kernel5Ideal.τ).loc Cert.Kernel5Ideal.main_v2_7)) (v8 : (c : Dev Cert.Kernel5Ideal.nD) → Buf (Elt Ideal) ((c.tc : Thread Cert.Kernel5Ideal.nD Cert.Kernel5Ideal.τ).loc Cert.Kernel5Ideal.main_v2_8)) (v9 : (c : Dev Cert.Kernel5Ideal.nD) → Buf (Elt Ideal) ((c.tc : Thread Cert.Kernel5Ideal.nD Cert.Kernel5Ideal.τ).loc Cert.Kernel5Ideal.main_v2_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_v2_5) = v5 c
          ∧ r.2.mem ((c.tc : Thread Cert.Kernel5Ideal.nD Cert.Kernel5Ideal.τ).loc Cert.Kernel5Ideal.main_v2_6) = v6 c
          ∧ r.2.mem ((c.tc : Thread Cert.Kernel5Ideal.nD Cert.Kernel5Ideal.τ).loc Cert.Kernel5Ideal.main_v2_7) = v7 c
          ∧ r.2.mem ((c.tc : Thread Cert.Kernel5Ideal.nD Cert.Kernel5Ideal.τ).loc Cert.Kernel5Ideal.main_v2_8) = v8 c
          ∧ r.2.mem ((c.tc : Thread Cert.Kernel5Ideal.nD Cert.Kernel5Ideal.τ).loc Cert.Kernel5Ideal.main_v2_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_v17) = v4 c
          ∧ r.2.mem ((c.tc : Thread Cert.Reference5Ideal.nD Cert.Reference5Ideal.τ).loc Cert.Reference5Ideal.main_v20) = v5 c
          ∧ r.2.mem ((c.tc : Thread Cert.Reference5Ideal.nD Cert.Reference5Ideal.τ).loc Cert.Reference5Ideal.main_v11) = v6 c
          ∧ r.2.mem ((c.tc : Thread Cert.Reference5Ideal.nD Cert.Reference5Ideal.τ).loc Cert.Reference5Ideal.main_v12) = v7 c
          ∧ r.2.mem ((c.tc : Thread Cert.Reference5Ideal.nD Cert.Reference5Ideal.τ).loc Cert.Reference5Ideal.main_v21) = v8 c
          ∧ r.2.mem ((c.tc : Thread Cert.Reference5Ideal.nD Cert.Reference5Ideal.τ).loc Cert.Reference5Ideal.main_v22) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x4096x8x64 : Shape := ⟨4, ![4, 4096, 8, 64]⟩
abbrev S512 : Shape := ⟨1, ![512]⟩
abbrev S16384x512 : Shape := ⟨2, ![16384, 512]⟩
abbrev S_ : Shape := ⟨0, ![]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x256 : Shape := ⟨2, ![256, 256]⟩
abbrev S128x512 : Shape := ⟨2, ![128, 512]⟩
abbrev S4096x512 : Shape := ⟨2, ![4096, 512]⟩
abbrev S8x128x128 : Shape := ⟨3, ![8, 128, 128]⟩
abbrev S8x128x64 : Shape := ⟨3, ![8, 128, 64]⟩
abbrev S128x64 : Shape := ⟨2, ![128, 64]⟩
abbrev S1x128x128 : Shape := ⟨3, ![1, 128, 128]⟩
abbrev S1x128x64 : Shape := ⟨3, ![1, 128, 64]⟩
abbrev S1 : Shape := ⟨1, ![1]⟩
abbrev S1x1x1 : Shape := ⟨3, ![1, 1, 1]⟩
abbrev S1x64 : Shape := ⟨2, ![1, 64]⟩

abbrev nBuf : Space → Nat
  | .hbm => 27
  | .vmem => 12
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S512, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .bf16⟩
  | .hbm, ⟨13, _⟩ => ⟨S1x512, .f32⟩
  | .hbm, ⟨14, _⟩ => ⟨S128, .i32⟩
  | .hbm, ⟨15, _⟩ => ⟨S128x1, .i32⟩
  | .hbm, ⟨16, _⟩ => ⟨S1x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x256, .f32⟩
  | .hbm, ⟨24, _⟩ => ⟨S256x256, .f32⟩
  | .hbm, ⟨25, _⟩ => ⟨S256x256, .bf16⟩
  | .hbm, ⟨26, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S256x256, .bf16⟩
  | .local _ .vmem, ⟨8, _⟩ => ⟨S128x512, .bf16⟩
  | .local _ .vmem, ⟨9, _⟩ => ⟨S128x512, .bf16⟩
  | .local _ .vmem, ⟨10, _⟩ => ⟨S8x128x128, .f32⟩
  | .local _ .vmem, ⟨11, _⟩ => ⟨S8x128x64, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c0_i32 : BitVec 32 := 0#32
  let v8 : BitVec 32 := Scalar.subi arg1 c0_i32
  let c0_i32_3 : BitVec 32 := 0#32
  let v9 : BitVec 32 := Scalar.maxsi v8 c0_i32_3
  let c128_i32 : BitVec 32 := 128#32
  let v10 : BitVec 32 := Scalar.muli v9 c128_i32
  v10
def k0_mult2 (i : grid0.Coords) : BitVec 32 :=
  let arg1 : BitVec 32 := BitVec.ofNat 32 (i 1).val
  let c1_i32 : BitVec 32 := 1#32
  let v12 : BitVec 32 := Scalar.subi arg1 c1_i32
  let c0_i32_4 : BitVec 32 := 0#32
  let v13 : BitVec 32 := Scalar.maxsi v12 c0_i32_4
  let c128_i32_5 : BitVec 32 := 128#32
  let v14 : BitVec 32 := Scalar.muli v13 c128_i32_5
  v14
def k0_mult3 (i : grid0.Coords) : BitVec 32 :=
  let arg1 : BitVec 32 := BitVec.ofNat 32 (i 1).val
  let c2_i32 : BitVec 32 := 2#32
  let v16 : BitVec 32 := Scalar.subi arg1 c2_i32
  let c0_i32_6 : BitVec 32 := 0#32
  let v17 : BitVec 32 := Scalar.maxsi v16 c0_i32_6
  let c128_i32_7 : BitVec 32 := 128#32
  let v18 : BitVec 32 := Scalar.muli v17 c128_i32_7
  v18
def k0_off1 (i : grid0.Coords) (c0_i32 : BitVec 32) : Fin 2 → Nat :=
  let arg1 : BitVec 32 := BitVec.ofNat 32 (i 1).val
  let v8 : BitVec 32 := Scalar.subi arg1 c0_i32
  let c0_i32_3 : BitVec 32 := 0#32
  let v9 : BitVec 32 := Scalar.maxsi v8 c0_i32_3
  let c128_i32 : BitVec 32 := 128#32
  let v10 : BitVec 32 := Scalar.muli v9 c128_i32
  let v11 : BitVec 32 := v10
  let v22 : Index := Scalar.indexCast v11
  let c0_10 : Index := 0#32
  ![v22.toNat, 0]
def k0_mult4 (arg10 : BitVec 32) : BitVec 32 :=
  let c128_i32_333 : BitVec 32 := 128#32
  let v1072 : BitVec 32 := Scalar.muli arg10 c128_i32_333
  v1072

def k0_off2 (arg10 : BitVec 32) : Fin 2 → Nat :=
  let c128_i32_333 : BitVec 32 := 128#32
  let v1072 : BitVec 32 := Scalar.muli arg10 c128_i32_333
  let v1073 : BitVec 32 := v1072
  let v1076 : Index := Scalar.indexCast v1073
  let c0_336 : Index := 0#32
  ![v1076.toNat, 0]

def k0_chk1 (arg10 : BitVec 32) : Prop :=
  (128 ∣ (k0_mult4 arg10).toNat) ∧
  (∀ a, (k0_off2 arg10) a + S128x512.size a ≤ S4096x512.size a)
theorem k0_mult4_dvd : ∀ (arg10 : BitVec 32) (k0_hw1 : k0_chk1 arg10), 128 ∣ (k0_mult4 arg10).toNat := fun arg10 k0_hw1 => k0_hw1.1
theorem k0_off2_inb : ∀ (arg10 : BitVec 32) (k0_hw1 : k0_chk1 arg10), ∀ a, (k0_off2 arg10) a + S128x512.size a ≤ S4096x512.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "dead" => some ⊥
  | _ => none
-- ==== ReferenceIdeal.lean ====
abbrev S4x4096x8x64 : Shape := ⟨4, ![4, 4096, 8, 64]⟩
abbrev S512 : Shape := ⟨1, ![512]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S4x4096x8 : Shape := ⟨3, ![4, 4096, 8]⟩
abbrev S4x4096x8x1 : Shape := ⟨4, ![4, 4096, 8, 1]⟩
abbrev S4x4096x512 : Shape := ⟨3, ![4, 4096, 512]⟩
abbrev S1x1x512 : Shape := ⟨3, ![1, 1, 512]⟩
abbrev S16384x512 : Shape := ⟨2, ![16384, 512]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S512, .f32⟩
  | .hbm, ⟨4, _⟩ => ⟨S4x8x4096x4096, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4x8x4096x4096, .f32⟩
  | .hbm, ⟨15, _⟩ => ⟨S4x8x4096x4096, .f32⟩
  | .hbm, ⟨16, _⟩ => ⟨S_, .f32⟩
  | .hbm, ⟨17, _⟩ => ⟨S4x8x4096x4096, .f32⟩
  | .hbm, ⟨18, _⟩ => ⟨S4x8x4096x4096, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .i1⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S_, .f32⟩
  | .hbm, ⟨32, _⟩ => ⟨S_, .f32⟩
  | .hbm, ⟨33, _⟩ => ⟨S4x8x4096x4096, .i1⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S_, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .i1⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S_, .f32⟩
  | .hbm, ⟨59, _⟩ => ⟨S_, .f32⟩
  | .hbm, ⟨60, _⟩ => ⟨S4x8x4096x4096, .i1⟩
  | .hbm, ⟨61, _⟩ => ⟨S4x8x4096x4096, .f32⟩
  | .hbm, ⟨62, _⟩ => ⟨S4x8x4096x4096, .f32⟩
  | .hbm, ⟨63, _⟩ => ⟨S4x8x64x4096, .f32⟩
  | .hbm, ⟨64, _⟩ => ⟨S4x4096x8x64, .f32⟩
  | .hbm, ⟨65, _⟩ => ⟨S4x4096x8x64, .f32⟩
  | .hbm, ⟨66, _⟩ => ⟨S_, .f32⟩
  | .hbm, ⟨67, _⟩ => ⟨S4x4096x8, .f32⟩
  | .hbm, ⟨68, _⟩ => ⟨S4x4096x8x1, .f32⟩
  | .hbm, ⟨69, _⟩ => ⟨S_, .f32⟩
  | .hbm, ⟨70, _⟩ => ⟨S4x4096x8x1, .f32⟩
  | .hbm, ⟨71, _⟩ => ⟨S4x4096x8x1, .f32⟩
  | .hbm, ⟨72, _⟩ => ⟨S_, .f32⟩
  | .hbm, ⟨73, _⟩ => ⟨S4x4096x8x1, .f32⟩
  | .hbm, ⟨74, _⟩ => ⟨S4x4096x8x1, .f32⟩
  | .hbm, ⟨75, _⟩ => ⟨S4x4096x8x1, .f32⟩
  | .hbm, ⟨76, _⟩ => ⟨S4x4096x8x64, .f32⟩
  | .hbm, ⟨77, _⟩ => ⟨S4x4096x8x64, .f32⟩
  | .hbm, ⟨78, _⟩ => ⟨S4x4096x512, .f32⟩
  | .hbm, ⟨79, _⟩ => ⟨S1x1x512, .f32⟩
  | .hbm, ⟨80, _⟩ => ⟨S4x4096x512, .f32⟩
  | .hbm, ⟨81, _⟩ => ⟨S4x4096x512, .f32⟩
  | .hbm, ⟨82, _⟩ => ⟨S16384x512, .f32⟩
  | .hbm, ⟨83, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v11 : Ref sig .tc := ⟨.hbm, 35, rfl⟩
abbrev main_call2_cst : Ref sig .tc := ⟨.hbm, 36, rfl⟩
abbrev main_call2_v0 : Ref sig .tc := ⟨.hbm, 37, rfl⟩
abbrev main_v12 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_v24 : Ref sig .tc := ⟨.hbm, 71, rfl⟩
abbrev main_cst_4 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x3072 : Shape := ⟨2, ![1024, 3072]⟩
abbrev S16384x1024 : Shape := ⟨2, ![16384, 1024]⟩
abbrev S16384x512 : Shape := ⟨2, ![16384, 512]⟩
abbrev S1x4x512x4096 : Shape := ⟨4, ![1, 4, 512, 4096]⟩
abbrev S1x4x512x512 : Shape := ⟨4, ![1, 4, 512, 512]⟩
abbrev S512x1024 : Shape := ⟨2, ![512, 1024]⟩
abbrev S512x512 : Shape := ⟨2, ![512, 512]⟩
abbrev S1x1x512x512 : Shape := ⟨4, ![1, 1, 512, 512]⟩
abbrev S1024x512 : Shape := ⟨2, ![1024, 512]⟩

abbrev nBuf : Space → Nat
  | .hbm => 14
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S16384x1024, .f32⟩
  | .hbm, ⟨3, _⟩ => ⟨S1024x3072, .bf16⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S1x4x512x4096, .f32⟩
  | .hbm, ⟨11, _⟩ => ⟨S1x4x512x4096, .f32⟩
  | .hbm, ⟨12, _⟩ => ⟨S1x4x512x512, .f32⟩
  | .hbm, ⟨13, _⟩ => ⟨S1x4x512x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x1x512x512, .f32⟩
  | .local _ .vmem, ⟨16, _⟩ => ⟨S1x1x512x512, .f32⟩
  | .local _ .vmem, ⟨17, _⟩ => ⟨S1x1x512x512, .f32⟩
  | .local _ .vmem, ⟨18, _⟩ => ⟨S1x1x512x512, .f32⟩
  | .local _ .vmem, ⟨19, _⟩ => ⟨S1x1x512x512, .f32⟩
  | .local _ .vmem, ⟨20, _⟩ => ⟨S1x1x512x512, .f32⟩
  | .local _ .vmem, ⟨21, _⟩ => ⟨S1x1x512x512, .f32⟩
  | .local _ .vmem, ⟨22, _⟩ => ⟨S1x1x512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev main_v2_7 : Ref sig .tc := ⟨.hbm, 11, rfl⟩
abbrev main_v2_8 : Ref sig .tc := ⟨.hbm, 12, rfl⟩
abbrev main_v2_9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let v55 : BitVec 1 := Scalar.cmpi .eq v9 c7_i32
  let v56 : BitVec 32 := Scalar.extui v55
  let c0_i32_38 : BitVec 32 := 0#32
  let v57 : BitVec 1 := Scalar.cmpi .ne v56 c0_i32_38
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S1024x3072 : Shape := ⟨2, ![1024, 3072]⟩
abbrev S4x4096x3072 : Shape := ⟨3, ![4, 4096, 3072]⟩
abbrev S4x4096x512 : Shape := ⟨3, ![4, 4096, 512]⟩
abbrev S_ : Shape := ⟨0, ![]⟩
abbrev S16384x512 : Shape := ⟨2, ![16384, 512]⟩
abbrev S4x512x4096 : Shape := ⟨3, ![4, 512, 4096]⟩
abbrev S1x4x512x4096 : Shape := ⟨4, ![1, 4, 512, 4096]⟩
abbrev S4x512x512 : Shape := ⟨3, ![4, 512, 512]⟩
abbrev S1x4x512x512 : Shape := ⟨4, ![1, 4, 512, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S4x4096x3072, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S_, .f32⟩
  | .hbm, ⟨10, _⟩ => ⟨S4x4096x512, .f32⟩
  | .hbm, ⟨11, _⟩ => ⟨S4x4096x512, .f32⟩
  | .hbm, ⟨12, _⟩ => ⟨S16384x512, .f32⟩
  | .hbm, ⟨13, _⟩ => ⟨S16384x512, .bf16⟩
  | .hbm, ⟨14, _⟩ => ⟨S16384x512, .f32⟩
  | .hbm, ⟨15, _⟩ => ⟨S16384x512, .bf16⟩
  | .hbm, ⟨16, _⟩ => ⟨S16384x512, .f32⟩
  | .hbm, ⟨17, _⟩ => ⟨S16384x512, .bf16⟩
  | .hbm, ⟨18, _⟩ => ⟨S_, .f32⟩
  | .hbm, ⟨19, _⟩ => ⟨S4x4096x512, .f32⟩
  | .hbm, ⟨20, _⟩ => ⟨S4x4096x512, .f32⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x512, .bf16⟩
  | .hbm, ⟨25, _⟩ => ⟨S16384x512, .f32⟩
  | .hbm, ⟨26, _⟩ => ⟨S16384x512, .bf16⟩
  | .hbm, ⟨27, _⟩ => ⟨S4x512x4096, .f32⟩
  | .hbm, ⟨28, _⟩ => ⟨S1x4x512x4096, .f32⟩
  | .hbm, ⟨29, _⟩ => ⟨S4x512x4096, .f32⟩
  | .hbm, ⟨30, _⟩ => ⟨S1x4x512x4096, .f32⟩
  | .hbm, ⟨31, _⟩ => ⟨S4x512x512, .f32⟩
  | .hbm, ⟨32, _⟩ => ⟨S4x512x512, .f32⟩
  | .hbm, ⟨33, _⟩ => ⟨S1x4x512x512, .f32⟩
  | .hbm, ⟨34, _⟩ => ⟨S4x512x512, .f32⟩
  | .hbm, ⟨35, _⟩ => ⟨S4x512x512, .f32⟩
  | .hbm, ⟨36, _⟩ => ⟨S1x4x512x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Kernel3.lean ====
abbrev S4x4096x512 : Shape := ⟨3, ![4, 4096, 512]⟩
abbrev S4x4096x1024 : Shape := ⟨3, ![4, 4096, 1024]⟩
abbrev S1024x1024 : Shape := ⟨2, ![1024, 1024]⟩
abbrev S1024 : Shape := ⟨1, ![1024]⟩
abbrev S1024x2048 : Shape := ⟨2, ![1024, 2048]⟩
abbrev S2x128x128 : Shape := ⟨3, ![2, 128, 128]⟩
abbrev S512x1024 : Shape := ⟨2, ![512, 1024]⟩
abbrev S16384x512 : Shape := ⟨2, ![16384, 512]⟩
abbrev S16384x1024 : Shape := ⟨2, ![16384, 1024]⟩
abbrev S1x1024 : Shape := ⟨2, ![1, 1024]⟩
abbrev S1024x16384 : Shape := ⟨2, ![1024, 16384]⟩
abbrev S2048x16384 : Shape := ⟨2, ![2048, 16384]⟩
abbrev S512x512 : Shape := ⟨2, ![512, 512]⟩
abbrev S1024x512 : Shape := ⟨2, ![1024, 512]⟩
abbrev S2048x512 : Shape := ⟨2, ![2048, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1024x256 : Shape := ⟨2, ![1024, 256]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 24
  | .vmem => 18
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S2x128x128, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S16384x512, .f32⟩
  | .hbm, ⟨13, _⟩ => ⟨S16384x512, .bf16⟩
  | .hbm, ⟨14, _⟩ => ⟨S16384x512, .f32⟩
  | .hbm, ⟨15, _⟩ => ⟨S16384x512, .bf16⟩
  | .hbm, ⟨16, _⟩ => ⟨S16384x1024, .f32⟩
  | .hbm, ⟨17, _⟩ => ⟨S1x1024, .f32⟩
  | .hbm, ⟨18, _⟩ => ⟨S1x1024, .f32⟩
  | .hbm, ⟨19, _⟩ => ⟨S1024x2048, .bf16⟩
  | .hbm, ⟨20, _⟩ => ⟨S2x128x128, .bf16⟩
  | .hbm, ⟨21, _⟩ => ⟨S16384x1024, .f32⟩
  | .hbm, ⟨22, _⟩ => ⟨S1024x16384, .bf16⟩
  | .hbm, ⟨23, _⟩ => ⟨S2048x16384, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S2x128x128, .bf16⟩
  | .local _ .vmem, ⟨12, _⟩ => ⟨S512x1024, .f32⟩
  | .local _ .vmem, ⟨13, _⟩ => ⟨S512x1024, .f32⟩
  | .local _ .vmem, ⟨14, _⟩ => ⟨S1024x512, .bf16⟩
  | .local _ .vmem, ⟨15, _⟩ => ⟨S1024x512, .bf16⟩
  | .local _ .vmem, ⟨16, _⟩ => ⟨S2048x512, .f32⟩
  | .local _ .vmem, ⟨17, _⟩ => ⟨S2048x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x512 : Shape := ⟨3, ![4, 4096, 512]⟩
abbrev S4x4096x1024 : Shape := ⟨3, ![4, 4096, 1024]⟩
abbrev S1024x1024 : Shape := ⟨2, ![1024, 1024]⟩
abbrev S1024 : Shape := ⟨1, ![1024]⟩
abbrev S1024x2048 : Shape := ⟨2, ![1024, 2048]⟩
abbrev S2x128x128 : Shape := ⟨3, ![2, 128, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x2048 : Shape := ⟨2, ![16384, 2048]⟩
abbrev S16384x8x256 : Shape := ⟨3, ![16384, 8, 256]⟩
abbrev S16384x8x128 : Shape := ⟨3, ![16384, 8, 128]⟩
abbrev S1x128x128 : Shape := ⟨3, ![1, 128, 128]⟩
abbrev S128x128 : Shape := ⟨2, ![128, 128]⟩
abbrev S16384x8x1x128 : Shape := ⟨4, ![16384, 8, 1, 128]⟩
abbrev S16384x8x2x128 : Shape := ⟨4, ![16384, 8, 2, 128]⟩
abbrev S1024x16384 : Shape := ⟨2, ![1024, 16384]⟩
abbrev S2048x16384 : Shape := ⟨2, ![2048, 16384]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S2x128x128, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x1024, .f32⟩
  | .hbm, ⟨36, _⟩ => ⟨S4x4096x1024, .f32⟩
  | .hbm, ⟨37, _⟩ => ⟨S1x1x1024, .f32⟩
  | .hbm, ⟨38, _⟩ => ⟨S4x4096x1024, .f32⟩
  | .hbm, ⟨39, _⟩ => ⟨S4x4096x1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S16384x1024, .f32⟩
  | .hbm, ⟨44, _⟩ => ⟨S16384x2048, .f32⟩
  | .hbm, ⟨45, _⟩ => ⟨S16384x8x256, .f32⟩
  | .hbm, ⟨46, _⟩ => ⟨S16384x8x128, .f32⟩
  | .hbm, ⟨47, _⟩ => ⟨S1x128x128, .f32⟩
  | .hbm, ⟨48, _⟩ => ⟨S128x128, .f32⟩
  | .hbm, ⟨49, _⟩ => ⟨S16384x8x128, .f32⟩
  | .hbm, ⟨50, _⟩ => ⟨S16384x8x128, .f32⟩
  | .hbm, ⟨51, _⟩ => ⟨S1x128x128, .f32⟩
  | .hbm, ⟨52, _⟩ => ⟨S128x128, .f32⟩
  | .hbm, ⟨53, _⟩ => ⟨S16384x8x128, .f32⟩
  | .hbm, ⟨54, _⟩ => ⟨S16384x8x1x128, .f32⟩
  | .hbm, ⟨55, _⟩ => ⟨S16384x8x1x128, .f32⟩
  | .hbm, ⟨56, _⟩ => ⟨S16384x8x2x128, .f32⟩
  | .hbm, ⟨57, _⟩ => ⟨S1024x16384, .f32⟩
  | .hbm, ⟨58, _⟩ => ⟨S1024x16384, .bf16⟩
  | .hbm, ⟨59, _⟩ => ⟨S16384x2048, .f32⟩
  | .hbm, ⟨60, _⟩ => ⟨S2048x16384, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel4.lean ====
abbrev S4x4096x8x64 : Shape := ⟨4, ![4, 4096, 8, 64]⟩
abbrev S8x257 : Shape := ⟨2, ![8, 257]⟩
abbrev S512 : Shape := ⟨1, ![512]⟩
abbrev S16384x512 : Shape := ⟨2, ![16384, 512]⟩
abbrev S_ : Shape := ⟨0, ![]⟩
abbrev S1025 : Shape := ⟨1, ![1025]⟩
abbrev S1025x1 : Shape := ⟨2, ![1025, 1]⟩
abbrev S8x1025 : Shape := ⟨2, ![8, 1025]⟩
abbrev S1x8x1x1025 : Shape := ⟨4, ![1, 8, 1, 1025]⟩
abbrev S1x8x256x1025 : Shape := ⟨4, ![1, 8, 256, 1025]⟩
abbrev S8x262400 : Shape := ⟨2, ![8, 262400]⟩
abbrev S8x262144 : Shape := ⟨2, ![8, 262144]⟩
abbrev S8x256x1024 : Shape := ⟨3, ![8, 256, 1024]⟩
abbrev S8x256x768 : Shape := ⟨3, ![8, 256, 768]⟩
abbrev S768 : Shape := ⟨1, ![768]⟩
abbrev S1x768 : Shape := ⟨2, ![1, 768]⟩
abbrev S256 : Shape := ⟨1, ![256]⟩
abbrev S256x1 : Shape := ⟨2, ![256, 1]⟩
abbrev S256x768 : Shape := ⟨2, ![256, 768]⟩
abbrev S1x256x768 : Shape := ⟨3, ![1, 256, 768]⟩
abbrev S8x256x3x256 : Shape := ⟨4, ![8, 256, 3, 256]⟩
abbrev S8x3x256x256 : Shape := ⟨4, ![8, 3, 256, 256]⟩
abbrev S1x512 : Shape := ⟨2, ![1, 512]⟩
abbrev S256x512 : Shape := ⟨2, ![256, 512]⟩
abbrev S256x64 : Shape := ⟨2, ![256, 64]⟩
abbrev S256x256 : Shape := ⟨2, ![256, 256]⟩
abbrev S1x1x256x256 : Shape := ⟨4, ![1, 1, 256, 256]⟩
abbrev S1x64 : Shape := ⟨2, ![1, 64]⟩

abbrev nBuf : Space → Nat
  | .hbm => 114
  | .vmem => 18
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S8x257, .f32⟩
  | .hbm, ⟨4, _⟩ => ⟨S512, .f32⟩
  | .hbm, ⟨5, _⟩ => ⟨S16384x512, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S1025, .i32⟩
  | .hbm, ⟨15, _⟩ => ⟨S_, .i32⟩
  | .hbm, ⟨16, _⟩ => ⟨S1025, .i32⟩
  | .hbm, ⟨17, _⟩ => ⟨S1025, .i1⟩
  | .hbm, ⟨18, _⟩ => ⟨S_, .i32⟩
  | .hbm, ⟨19, _⟩ => ⟨S1025, .i32⟩
  | .hbm, ⟨20, _⟩ => ⟨S1025, .i32⟩
  | .hbm, ⟨21, _⟩ => ⟨S1025, .i32⟩
  | .hbm, ⟨22, _⟩ => ⟨S_, .i32⟩
  | .hbm, ⟨23, _⟩ => ⟨S1025, .i32⟩
  | .hbm, ⟨24, _⟩ => ⟨S1025, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1025, .i32⟩
  | .hbm, ⟨29, _⟩ => ⟨S1025, .i32⟩
  | .hbm, ⟨30, _⟩ => ⟨S_, .i32⟩
  | .hbm, ⟨31, _⟩ => ⟨S1025, .i32⟩
  | .hbm, ⟨32, _⟩ => ⟨S1025, .i32⟩
  | .hbm, ⟨33, _⟩ => ⟨S_, .i32⟩
  | .hbm, ⟨34, _⟩ => ⟨S1025, .i32⟩
  | .hbm, ⟨35, _⟩ => ⟨S1025, .i32⟩
  | .hbm, ⟨36, _⟩ => ⟨S_, .i32⟩
  | .hbm, ⟨37, _⟩ => ⟨S1025, .i32⟩
  | .hbm, ⟨38, _⟩ => ⟨S1025, .i1⟩
  | .hbm, ⟨39, _⟩ => ⟨S_, .i32⟩
  | .hbm, ⟨40, _⟩ => ⟨S1025, .i32⟩
  | .hbm, ⟨41, _⟩ => ⟨S1025, .i32⟩
  | .hbm, ⟨42, _⟩ => ⟨S1025, .i32⟩
  | .hbm, ⟨43, _⟩ => ⟨S1025x1, .i32⟩
  | .hbm, ⟨44, _⟩ => ⟨S8x1025, .f32⟩
  | .hbm, ⟨45, _⟩ => ⟨S1x8x1x1025, .f32⟩
  | .hbm, ⟨46, _⟩ => ⟨S1x8x256x1025, .f32⟩
  | .hbm, ⟨47, _⟩ => ⟨S8x262400, .f32⟩
  | .hbm, ⟨48, _⟩ => ⟨S8x262144, .f32⟩
  | .hbm, ⟨49, _⟩ => ⟨S8x256x1024, .f32⟩
  | .hbm, ⟨50, _⟩ => ⟨S8x256x768, .f32⟩
  | .hbm, ⟨51, _⟩ => ⟨S768, .i32⟩
  | .hbm, ⟨52, _⟩ => ⟨S1x768, .i32⟩
  | .hbm, ⟨53, _⟩ => ⟨S_, .i32⟩
  | .hbm, ⟨54, _⟩ => ⟨S_, .i32⟩
  | .hbm, ⟨55, _⟩ => ⟨S1x768, .i32⟩
  | .hbm, ⟨56, _⟩ => ⟨S1x768, .i32⟩
  | .hbm, ⟨57, _⟩ => ⟨S1x768, .i32⟩
  | .hbm, ⟨58, _⟩ => ⟨S_, .i32⟩
  | .hbm, ⟨59, _⟩ => ⟨S1x768, .i32⟩
  | .hbm, ⟨60, _⟩ => ⟨S1x768, .i1⟩
  | .hbm, ⟨61, _⟩ => ⟨S1x768, .i32⟩
  | .hbm, ⟨62, _⟩ => ⟨S1x768, .i32⟩
  | .hbm, ⟨63, _⟩ => ⟨S_, .i32⟩
  | .hbm, ⟨64, _⟩ => ⟨S1x768, .i32⟩
  | .hbm, ⟨65, _⟩ => ⟨S1x768, .i1⟩
  | .hbm, ⟨66, _⟩ => ⟨S1x768, .i1⟩
  | .hbm, ⟨67, _⟩ => ⟨S_, .i32⟩
  | .hbm, ⟨68, _⟩ => ⟨S1x768, .i32⟩
  | .hbm, ⟨69, _⟩ => ⟨S1x768, .i32⟩
  | .hbm, ⟨70, _⟩ => ⟨S1x768, .i32⟩
  | .hbm, ⟨71, _⟩ => ⟨S_, .i32⟩
  | .hbm, ⟨72, _⟩ => ⟨S1x768, .i32⟩
  | .hbm, ⟨73, _⟩ => ⟨S1x768, .i32⟩
  | .hbm, ⟨74, _⟩ => ⟨S256, .i32⟩
  | .hbm, ⟨75, _⟩ => ⟨S256x1, .i32⟩
  | .hbm, ⟨76, _⟩ => ⟨S_, .i32⟩
  | .hbm, ⟨77, _⟩ => ⟨S_, .i32⟩
  | .hbm, ⟨78, _⟩ => ⟨S256x1, .i32⟩
  | .hbm, ⟨79, _⟩ => ⟨S256x1, .i32⟩
  | .hbm, ⟨80, _⟩ => ⟨S256x1, .i32⟩
  | .hbm, ⟨81, _⟩ => ⟨S_, .i32⟩
  | .hbm, ⟨82, _⟩ => ⟨S256x1, .i32⟩
  | .hbm, ⟨83, _⟩ => ⟨S256x1, .i1⟩
  | .hbm, ⟨84, _⟩ => ⟨S256x1, .i32⟩
  | .hbm, ⟨85, _⟩ => ⟨S256x1, .i32⟩
  | .hbm, ⟨86, _⟩ => ⟨S_, .i32⟩
  | .hbm, ⟨87, _⟩ => ⟨S256x1, .i32⟩
  | .hbm, ⟨88, _⟩ => ⟨S256x1, .i1⟩
  | .hbm, ⟨89, _⟩ => ⟨S256x1, .i1⟩
  | .hbm, ⟨90, _⟩ => ⟨S_, .i32⟩
  | .hbm, ⟨91, _⟩ => ⟨S256x1, .i32⟩
  | .hbm, ⟨92, _⟩ => ⟨S256x1, .i32⟩
  | .hbm, ⟨93, _⟩ => ⟨S256x1, .i32⟩
  | .hbm, ⟨94, _⟩ => ⟨S256x768, .i32⟩
  | .hbm, ⟨95, _⟩ => ⟨S256x768, .i32⟩
  | .hbm, ⟨96, _⟩ => ⟨S256x768, .i1⟩
  | .hbm, ⟨97, _⟩ => ⟨S_, .i32⟩
  | .hbm, ⟨98, _⟩ => ⟨S256x1, .i32⟩
  | .hbm, ⟨99, _⟩ => ⟨S256x1, .i32⟩
  | .hbm, ⟨100, _⟩ => ⟨S256x768, .i32⟩
  | .hbm, ⟨101, _⟩ => ⟨S256x768, .i32⟩
  | .hbm, ⟨102, _⟩ => ⟨S256x768, .i1⟩
  | .hbm, ⟨103, _⟩ => ⟨S256x768, .i1⟩
  | .hbm, ⟨104, _⟩ => ⟨S1x256x768, .i1⟩
  | .hbm, ⟨105, _⟩ => ⟨S_, .f32⟩
  | .hbm, ⟨106, _⟩ => ⟨S_, .f32⟩
  | .hbm, ⟨107, _⟩ => ⟨S8x256x768, .i1⟩
  | .hbm, ⟨108, _⟩ => ⟨S8x256x768, .f32⟩
  | .hbm, ⟨109, _⟩ => ⟨S8x256x768, .f32⟩
  | .hbm, ⟨110, _⟩ => ⟨S8x256x3x256, .f32⟩
  | .hbm, ⟨111, _⟩ => ⟨S8x3x256x256, .f32⟩
  | .hbm, ⟨112, _⟩ => ⟨S1x512, .f32⟩
  | .hbm, ⟨113, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x3x256x256, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_9 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_c_10 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_11 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x3x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel4Ideal.lean ====
variable {F : FTy → Type} [FloatOps F] [Named F]
def κ : String → Option EReal := fun
  | "masked" => some ⊥
  | _ => none
-- ==== Reference4Ideal.lean ====
abbrev S4x4096x8x64 : Shape := ⟨4, ![4, 4096, 8, 64]⟩
abbrev S8x257 : Shape := ⟨2, ![8, 257]⟩
abbrev S512 : Shape := ⟨1, ![512]⟩
abbrev S4x8x4096x4096 : Shape := ⟨4, ![4, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S8x4096x4096 : Shape := ⟨3, ![8, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x8 : Shape := ⟨3, ![4, 4096, 8]⟩
abbrev S4x4096x8x1 : Shape := ⟨4, ![4, 4096, 8, 1]⟩
abbrev S4x4096x512 : Shape := ⟨3, ![4, 4096, 512]⟩
abbrev S1x1x512 : Shape := ⟨3, ![1, 1, 512]⟩
abbrev S16384x512 : Shape := ⟨2, ![16384, 512]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S8x257, .f32⟩
  | .hbm, ⟨4, _⟩ => ⟨S512, .f32⟩
  | .hbm, ⟨5, _⟩ => ⟨S4x8x4096x4096, .f32⟩
  | .hbm, ⟨6, _⟩ => ⟨S_, .f32⟩
  | .hbm, ⟨7, _⟩ => ⟨S4x8x4096x4096, .f32⟩
  | .hbm, ⟨8, _⟩ => ⟨S4x8x4096x4096, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S1x4096, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S1x4096, .i32⟩
  | .hbm, ⟨50, _⟩ => ⟨S4096x1, .i32⟩
  | .hbm, ⟨51, _⟩ => ⟨S_, .i32⟩
  | .hbm, ⟨52, _⟩ => ⟨S4096x1, .i32⟩
  | .hbm, ⟨53, _⟩ => ⟨S4096x1, .i32⟩
  | .hbm, ⟨54, _⟩ => ⟨S4096x4096, .i32⟩
  | .hbm, ⟨55, _⟩ => ⟨S4096x4096, .i32⟩
  | .hbm, ⟨56, _⟩ => ⟨S4096x4096, .i1⟩
  | .hbm, ⟨57, _⟩ => ⟨S4096x4096, .i1⟩
  | .hbm, ⟨58, _⟩ => ⟨S_, .i32⟩
  | .hbm, ⟨59, _⟩ => ⟨S4096x4096, .i32⟩
  | .hbm, ⟨60, _⟩ => ⟨S4096x4096, .i1⟩
  | .hbm, ⟨61, _⟩ => ⟨S_, .i32⟩
  | .hbm, ⟨62, _⟩ => ⟨S4096x4096, .i32⟩
  | .hbm, ⟨63, _⟩ => ⟨S4096x4096, .i32⟩
  | .hbm, ⟨64, _⟩ => ⟨S4096x4096, .i32⟩
  | .hbm, ⟨65, _⟩ => ⟨S4096x4096x1, .i32⟩
  | .hbm, ⟨66, _⟩ => ⟨S8x4096x4096, .f32⟩
  | .hbm, ⟨67, _⟩ => ⟨S1x8x4096x4096, .f32⟩
  | .hbm, ⟨68, _⟩ => ⟨S4x8x4096x4096, .f32⟩
  | .hbm, ⟨69, _⟩ => ⟨S4x8x4096x4096, .f32⟩
  | .hbm, ⟨70, _⟩ => ⟨S_, .f32⟩
  | .hbm, ⟨71, _⟩ => ⟨S_, .f32⟩
  | .hbm, ⟨72, _⟩ => ⟨S4x8x4096x4096, .i1⟩
  | .hbm, ⟨73, _⟩ => ⟨S4x8x4096x4096, .f32⟩
  | .hbm, ⟨74, _⟩ => ⟨S4x8x4096x4096, .f32⟩
  | .hbm, ⟨75, _⟩ => ⟨S_, .f32⟩
  | .hbm, ⟨76, _⟩ => ⟨S4x8x4096, .f32⟩
  | .hbm, ⟨77, _⟩ => ⟨S_, .f32⟩
  | .hbm, ⟨78, _⟩ => ⟨S4x8x4096, .f32⟩
  | .hbm, ⟨79, _⟩ => ⟨S4x8x4096, .f32⟩
  | .hbm, ⟨80, _⟩ => ⟨S4x8x4096x1, .f32⟩
  | .hbm, ⟨81, _⟩ => ⟨S4x8x4096x4096, .f32⟩
  | .hbm, ⟨82, _⟩ => ⟨S4x8x4096x4096, .f32⟩
  | .hbm, ⟨83, _⟩ => ⟨S4x8x4096x4096, .f32⟩
  | .hbm, ⟨84, _⟩ => ⟨S_, .f32⟩
  | .hbm, ⟨85, _⟩ => ⟨S4x8x4096, .f32⟩
  | .hbm, ⟨86, _⟩ => ⟨S4x8x4096x1, .f32⟩
  | .hbm, ⟨87, _⟩ => ⟨S4x8x4096x4096, .f32⟩
  | .hbm, ⟨88, _⟩ => ⟨S4x8x4096x4096, .f32⟩
  | .hbm, ⟨89, _⟩ => ⟨S4x8x64x4096, .f32⟩
  | .hbm, ⟨90, _⟩ => ⟨S4x4096x8x64, .f32⟩
  | .hbm, ⟨91, _⟩ => ⟨S4x4096x8x64, .f32⟩
  | .hbm, ⟨92, _⟩ => ⟨S_, .f32⟩
  | .hbm, ⟨93, _⟩ => ⟨S4x4096x8, .f32⟩
  | .hbm, ⟨94, _⟩ => ⟨S4x4096x8x1, .f32⟩
  | .hbm, ⟨95, _⟩ => ⟨S_, .f32⟩
  | .hbm, ⟨96, _⟩ => ⟨S4x4096x8x1, .f32⟩
  | .hbm, ⟨97, _⟩ => ⟨S4x4096x8x1, .f32⟩
  | .hbm, ⟨98, _⟩ => ⟨S_, .f32⟩
  | .hbm, ⟨99, _⟩ => ⟨S4x4096x8x1, .f32⟩
  | .hbm, ⟨100, _⟩ => ⟨S4x4096x8x1, .f32⟩
  | .hbm, ⟨101, _⟩ => ⟨S4x4096x8x1, .f32⟩
  | .hbm, ⟨102, _⟩ => ⟨S4x4096x8x64, .f32⟩
  | .hbm, ⟨103, _⟩ => ⟨S4x4096x8x64, .f32⟩
  | .hbm, ⟨104, _⟩ => ⟨S4x4096x512, .f32⟩
  | .hbm, ⟨105, _⟩ => ⟨S1x1x512, .f32⟩
  | .hbm, ⟨106, _⟩ => ⟨S4x4096x512, .f32⟩
  | .hbm, ⟨107, _⟩ => ⟨S4x4096x512, .f32⟩
  | .hbm, ⟨108, _⟩ => ⟨S16384x512, .f32⟩
  | .hbm, ⟨109, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_3 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_4 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_9 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_cst_11 : Ref sig .tc := ⟨.hbm, 95, rfl⟩
abbrev main_v53 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩

abbrev nD : Nat := 1
abbrev τ : Topo := Topo.v7x

variable {F : FTy → Type} [FloatOps F]
-- ==== Kernel5.lean ====
abbrev S16x32x1024 : Shape := ⟨3, ![16, 32, 1024]⟩
abbrev S1024x3072 : Shape := ⟨2, ![1024, 3072]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 14
  | .vmem => 12
  | .smem => 0
  | _ => 0

abbrev bufTy : (tb : Table) → Fin (tcTables nBuf tb) → BufTy
  | .hbm, ⟨0, _⟩ => ⟨S16x32x1024, .f32⟩
  | .hbm, ⟨1, _⟩ => ⟨S1024x3072, .f32⟩
  | .hbm, ⟨2, _⟩ => ⟨S512x1024, .f32⟩
  | .hbm, ⟨3, _⟩ => ⟨S1024x3072, .bf16⟩
  | .hbm, ⟨4, _⟩ => ⟨S512x512, .bf16⟩
  | .hbm, ⟨5, _⟩ => ⟨S512x512, .f32⟩
  | .hbm, ⟨6, _⟩ => ⟨S512x512, .f32⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S512x512, .f32⟩
  | .hbm, ⟨11, _⟩ => ⟨S512x512, .f32⟩
  | .hbm, ⟨12, _⟩ => ⟨S512x512, .bf16⟩
  | .hbm, ⟨13, _⟩ => ⟨S512x512, .bf16⟩
  | .local _ .vmem, ⟨0, _⟩ => ⟨S512x1024, .f32⟩
  | .local _ .vmem, ⟨1, _⟩ => ⟨S1024x3072, .bf16⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev main_v2_7 : Ref sig .tc := ⟨.hbm, 11, rfl⟩
abbrev main_v2_8 : Ref sig .tc := ⟨.hbm, 12, rfl⟩
abbrev main_v2_9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference5Ideal.lean ====
abbrev S16x32x1024 : Shape := ⟨3, ![16, 32, 1024]⟩
abbrev S1024x3072 : Shape := ⟨2, ![1024, 3072]⟩
abbrev S16x32x3072 : Shape := ⟨3, ![16, 32, 3072]⟩
abbrev S16x32x512 : Shape := ⟨3, ![16, 32, 512]⟩
abbrev S512x512 : Shape := ⟨2, ![512, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1024x3072, .f32⟩
  | .hbm, ⟨2, _⟩ => ⟨S16x32x3072, .f32⟩
  | .hbm, ⟨3, _⟩ => ⟨S16x32x512, .f32⟩
  | .hbm, ⟨4, _⟩ => ⟨S16x32x512, .f32⟩
  | .hbm, ⟨5, _⟩ => ⟨S16x32x512, .f32⟩
  | .hbm, ⟨6, _⟩ => ⟨S16x32x512, .f32⟩
  | .hbm, ⟨7, _⟩ => ⟨S16x32x512, .f32⟩
  | .hbm, ⟨8, _⟩ => ⟨S16x32x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S512x512, .bf16⟩
  | .hbm, ⟨20, _⟩ => ⟨S512x512, .bf16⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S512x512, .bf16⟩
  | .hbm, ⟨26, _⟩ => ⟨S512x512, .bf16⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Proof.KI.Kit.lean ====
/-
  The launch's set-up for the kernel whose body loops by a called label: what every buffer holds when the region is
  entered (`V`), the windows' blocks there (`iblk`), that the argument arrays are never written, and the staging and
  scratch buffers a grid point works on.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What core `c`'s buffer `b` holds when the region is entered: the launch contents after the host operations. -/
abbrev V (c : Dev nD) (b : Ref sig .tc) : Buf (Elt F) ((c : Thread nD τ).loc b) := StableHlo.after hostOps0 (fun b => m (c, b)) b

/-- No host operation leaves a buffer unallocated. -/
theorem hostOps0_fresh : (hostOps0 : List (HloOp τ sig (Elt F))).Forall fun op => op.fresh = ∅ := by
  simp only [List.Forall]; repeat' constructor

set_option maxHeartbeats 800000 in
/-- The program runs its host operations and then enters the region with the buffers at `V`. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- A buffer that is the destination of no host operation is found as launched. -/
theorem V_kept (c : Dev nD) (b : Ref sig .tc)
    (h : ∀ d ∈ [main_v0, main_cst, main_v1, main_v2, main_v3, main_v4, main_v5, main_v6, main_v7, main_v8, main_v9, main_v10,
      main_v11, main_v12, main_v13, main_v14, main_v15, main_cst_0, main_v16, main_v17, main_v18, main_v19], b ≠ d) :
    V m c b = m ((c : Thread nD τ).loc b) :=
  StableHlo.after_of_forall_not_mem (b := Proc.devRef .tc b) _ _ (List.forall_iff_forall_mem.mp (by
    simp only [List.mem_cons, List.not_mem_nil, or_false, forall_eq_or_imp, forall_eq] at h
    simp only [hostOps0, List.Forall, StableHlo.nullary_writes, StableHlo.unary_writes, StableHlo.binary_writes,
      StableHlo.reshape_writes, Finset.mem_singleton]
    obtain ⟨h0, h1, h2, h3, h4, h5, h6, h7, h8, h9, h10, h11, h12, h13, h14, h15, h16, h17, h18, h19, h20, h21⟩ := h
    refine ⟨?_, ?_, ?_, ?_, ?_, ?_, ?_, ?_, ?_, ?_, ?_, ?_, ?_, ?_, ?_, ?_, ?_, ?_, ?_, ?_, ?_, ?_⟩
    all_goals (apply StableHlo.devRef_ne_of_ne; assumption)))

/-! ## The windows' blocks -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- An input window's staging buffer holds its block at every point, whether it is fetched there or was before. -/
theorem before_0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
@[inherit_doc before_0]
theorem before_1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
@[inherit_doc before_0]
theorem before_2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
@[inherit_doc before_0]
theorem before_3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
@[inherit_doc before_0]
theorem before_4 {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A run that ends with the region's arrays as computed and the other buffers as found leaves the arguments as launched. -/
theorem frame_of (dats : (p : Fin 1) → (c : Dev nD) → Dat τ (Elt F) Unit ℕ (UR sig nD τ) ℕ ((cfgs (F := F)) p) c)
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide : ∀ w : Fin 6, (spec0 w).arr.view.ref ≠ main_arg0))).trans (V_kept m c _ (by decide)),
      ((h c).2 main_arg1 (Pipeline.mem_restRefs_of main_arg1 (by decide) (by decide : ∀ w : Fin 6, (spec0 w).arr.view.ref ≠ main_arg1))).trans (V_kept m c _ (by decide)),
      ((h c).2 main_arg2 (Pipeline.mem_restRefs_of main_arg2 (by decide) (by decide : ∀ w : Fin 6, (spec0 w).arr.view.ref ≠ main_arg2))).trans (V_kept m c _ (by decide)),
      ((h c).2 main_arg3 (Pipeline.mem_restRefs_of main_arg3 (by decide) (by decide : ∀ w : Fin 6, (spec0 w).arr.view.ref ≠ main_arg3))).trans (V_kept m c _ (by decide))⟩) h

/-! ## The buffers a point works on -/

/-- One buffer of each kind through which stored contents are stated; which buffer does not matter. -/
abbrev VO : View sig .tc .vmem S128x512 .bf16 := (Memref.whole cc0_stg5_0 : Memref sig .tc .vmem S128x512 .bf16).view
/-- The scratch that carries the logarithms' running sums, one 128 × 128 slab per head, -/
abbrev scC : Memref sig .tc .vmem S8x128x128 .f32 := Memref.whole cc0_scratch0
/-- and the scratch that carries the weighted values' running sums, one 128 × 64 slab per head. -/
abbrev scA : Memref sig .tc .vmem S8x128x64 .f32 := Memref.whole cc0_scratch1

/-- Window `w`'s staging buffer at point `t`, and that it is a whole buffer. -/
abbrev ms0 (t : Fin (cfg0 (F := F)).N) : Memref sig .tc .vmem S128x512 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S4096x512 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S4096x512 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S1x512 .f32 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S256x256 .bf16 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S128x512 .bf16 := win0_5.stage ((cfg0 (F := F)).slots t 5)
abbrev hs5 (t : Fin (cfg0 (F := F)).N) : (ms5 t).IsWhole := hstage0_5 (((cfg0 (F := F)).slots t 5).cast nbuf0_5)

/-- The region's standing invariant: the two scratch buffers at some contents and the generator's register. -/
theorem PhiA_eq (c : Dev nD) :
    (Pipeline.ΦA spec0 c : sProp 𝕄)
      = iprop(iprop((∃ d, owns (c : Thread nD τ) scC fullShare d) ∗ (∃ d, owns (c : Thread nD τ) scA fullShare d)) ∗ (∃ r, prngReg c r)) := by
  unfold Pipeline.ΦA; rw [scopedRest0_eq]; simp only [scC, scA, owns_whole]; try rfl

/-- The variants: the number of loop trips still possible. -/
abbrev 𝒱₀ : Variants := Variants.nat

end Cert.KernelIdeal.Hand

end
-- ==== Proof.KI.Step.lean ====
/-
  One trip of the kernel's loop over key blocks, run once and for all: on whole buffers, with the loop's test passed and
  the block inside the array, it stores a new slab into each of the eight rows of both scratch buffers and calls the
  loop again at the block before with the largest running sum.
-/
module

public import proofs.«01_k».proof.Proof.KI.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's test at block word `j` and largest running sum `a`. -/
def test (j : BitVec 32) (a : F .f32) : BitVec 1 :=
  Scalar.andi (Scalar.cmpi .sge j 0#32) (Scalar.cmpf .ogt a (Named.named κ "dead" 0xC2D00000#32))

set_option maxHeartbeats 4000000 in
/-- The slabs a trip stores into the two scratch buffers and the largest running sum it passes on, WITH the run of the
    trip up to its call of the loop. -/
noncomputable def stepRun (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole) (arg6 : Memref sig .tc .vmem S256x256 .bf16) (harg6 : arg6.IsWhole) (arg8 : Memref sig .tc .vmem S8x128x128 .f32) (harg8 : arg8.IsWhole) (arg9 : Memref sig .tc .vmem S8x128x64 .f32) (harg9 : arg9.IsWhole)
    (j : BitVec 32) (a : F .f32) (hchk : k0_chk1 j) (htest : test j a = 1#1)
    (x0 : Vec F S128x512 .bf16) (x1 : Vec F S4096x512 .bf16) (x2 : Vec F S4096x512 .bf16) (x4 : Vec F S256x256 .bf16)
    (C : Vec F S8x128x128 .f32) (A : Vec F S8x128x64 .f32) :
    Σ' (LC : List (View.Piece (Elt F) S8x128x128 .f32)) (LA : List (View.Piece (Elt F) S8x128x64 .f32)) (j' : BitVec 32), { a' : F .f32 // j' = Scalar.subi j 1#32 ∧
      ∀ (b : Option ℕ) (E : Set ℕ) (K : BitVec 32 × F .f32 → sProp 𝕄),
        iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg8 fullShare C ∗ owns (c : Thread nD τ) arg9 fullShare A
            ∗ (iprop(owns (c : Thread nD τ) arg2 fullShare x0 ∗ owns (c : Thread nD τ) arg3 fullShare x1 ∗ owns (c : Thread nD τ) arg4 fullShare x2 ∗ owns (c : Thread nD τ) arg6 fullShare x4 ∗ (∃ f, arg8.view.loc (c : Thread nD τ) ↦[arg8.view.set]{fullShare} arg8.view.writes (Elt F) f LC) ∗ (∃ f, arg9.view.loc (c : Thread nD τ) ↦[arg9.view.set]{fullShare} arg9.view.writes (Elt F) f LA))
                -∗ wp frame (wpE (defs₀ (F := F)) 𝒱₀ c b) E (Prog.op (.call (1 : (Λ₀ F).Label) ⟨i, arg2, harg2, arg3, harg3, arg4, harg4, arg6, harg6, arg8, harg8, arg9, harg9, j', a'⟩) Prog.ret) K))
          ⊢ wp frame (wpE (defs₀ (F := F)) 𝒱₀ c b) E (cc0_while1 i arg2 harg2 arg3 harg3 arg4 harg4 arg6 harg6 arg8 harg8 arg9 harg9 j a) K } := by
  refine ⟨?_, ?_, ?_, ?_, ?word, fun b E K => ?run⟩
  case run =>
    simp only [cc0_while1_eq_skeleton]; unfold cc0_while1_skel
    unfold test at htest
    simp only [htest, ↓reduceIte]
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f4, %hf4, H4⟩, ⟨%fC, %hfC, HC⟩, ⟨%fA, %hfA, HA⟩, Hk⟩
    obtain rfl := harg2.eq_unread hf0; obtain rfl := harg3.eq_unread hf1; obtain rfl := harg4.eq_unread hf2; obtain rfl := harg6.eq_unread hf4
    obtain rfl := harg8.eq_unread hfC; obtain rfl := harg9.eq_unread hfA
    sl_exec
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]
    · iexists _; isplitr; · ipureintro; exact harg6.read_unread _
      iexact H4
    isplitl [HC]; · iexists _; iexact HC
    iexists _; iexact HA
  case word => rfl

end Cert.KernelIdeal.Hand

end
-- ==== Proof.KI.Loop.lean ====
/-
  The loop over key blocks: what its two scratch buffers hold after the trips that remain (`iter`), and that a call of
  the loop leaves exactly that. A trip is a run of `stepRun`; the loop is met by induction on the trips still possible.
-/
module

public import proofs.«01_k».proof.Proof.KI.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The block word -/

/-- `n` trips are possible at block word `w`: none when it is negative, else it is block `n - 1`. -/
def At (n : ℕ) (w : BitVec 32) : Prop :=
  (n = 0 ∧ Scalar.cmpi .sge w 0#32 = 0#1) ∨ (0 < n ∧ n ≤ 32 ∧ w = BitVec.ofNat 32 (n - 1))

/-- A block of the array starts at a multiple of 128 and lies inside it. -/
theorem chk_of_lt : ∀ k < 32, k0_chk1 (BitVec.ofNat 32 k) := by decide

/-- The block before block `k` has one trip less. -/
theorem at_pred : ∀ k < 32, At k (Scalar.subi (BitVec.ofNat 32 k) 1#32) := by
  unfold At; decide

/-- At a negative block word the loop's test fails. -/
theorem test_neg {w : BitVec 32} (h : Scalar.cmpi .sge w 0#32 = 0#1) (a : F .f32) : ¬ test w a = 1#1 := by
  unfold test; rw [h]; simp [Scalar.andi, IntOp.andi]

section Loop

variable (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole) (arg6 : Memref sig .tc .vmem S256x256 .bf16) (harg6 : arg6.IsWhole) (arg8 : Memref sig .tc .vmem S8x128x128 .f32) (harg8 : arg8.IsWhole) (arg9 : Memref sig .tc .vmem S8x128x64 .f32) (harg9 : arg9.IsWhole)
  (x0 : Vec F S128x512 .bf16) (x1 : Vec F S4096x512 .bf16) (x2 : Vec F S4096x512 .bf16) (x4 : Vec F S256x256 .bf16)

section Trip

variable (j : BitVec 32) (a : F .f32) (hchk : k0_chk1 j) (htest : test j a = 1#1) (C : Vec F S8x128x128 .f32) (A : Vec F S8x128x64 .f32)

/-- The first scratch's slabs after a trip, -/
def stepC : Vec F S8x128x128 .f32 :=
  scC.view.read (Elt F) (scC.view.writes (Elt F) scC.view.junk
    (stepRun c i arg2 harg2 arg3 harg3 arg4 harg4 arg6 harg6 arg8 harg8 arg9 harg9 j a hchk htest x0 x1 x2 x4 C A).1)
/-- the second's, -/
def stepA : Vec F S8x128x64 .f32 :=
  scA.view.read (Elt F) (scA.view.writes (Elt F) scA.view.junk
    (stepRun c i arg2 harg2 arg3 harg3 arg4 harg4 arg6 harg6 arg8 harg8 arg9 harg9 j a hchk htest x0 x1 x2 x4 C A).2.1)
/-- and the largest running sum it passes on. -/
def stepM : F .f32 :=
  (stepRun c i arg2 harg2 arg3 harg3 arg4 harg4 arg6 harg6 arg8 harg8 arg9 harg9 j a hchk htest x0 x1 x2 x4 C A).2.2.2.1

/-- A trip's stores fill the first scratch, -/
theorem step_coverC (y : S8x128x128.Idx) :
    ∃ pc ∈ (stepRun c i arg2 harg2 arg3 harg3 arg4 harg4 arg6 harg6 arg8 harg8 arg9 harg9 j a hchk htest x0 x1 x2 x4 C A).1, y ∈ pc.1.set :=
  View.cover_of_tiledL (stepRun c i arg2 harg2 arg3 harg3 arg4 harg4 arg6 harg6 arg8 harg8 arg9 harg9 j a hchk htest x0 x1 x2 x4 C A).1 S1x128x128.size (by sl_kernel_rfl) y
/-- and the second. -/
theorem step_coverA (y : S8x128x64.Idx) :
    ∃ pc ∈ (stepRun c i arg2 harg2 arg3 harg3 arg4 harg4 arg6 harg6 arg8 harg8 arg9 harg9 j a hchk htest x0 x1 x2 x4 C A).2.1, y ∈ pc.1.set :=
  View.cover_of_tiledL (stepRun c i arg2 harg2 arg3 harg3 arg4 harg4 arg6 harg6 arg8 harg8 arg9 harg9 j a hchk htest x0 x1 x2 x4 C A).2.1 S1x128x64.size (by sl_kernel_rfl) y

end Trip

/-- The two scratch buffers after the trips left, `n` of them possible, at largest running sum `a`. -/
def iter : ℕ → F .f32 → Vec F S8x128x128 .f32 → Vec F S8x128x64 .f32 → Vec F S8x128x128 .f32 × Vec F S8x128x64 .f32
  | 0, _, C, A => (C, A)
  | k + 1, a, C, A =>
    if h : k < 32 ∧ test (BitVec.ofNat 32 k) a = 1#1 then
      iter k (stepM c i arg2 harg2 arg3 harg3 arg4 harg4 arg6 harg6 arg8 harg8 arg9 harg9 x0 x1 x2 x4 _ a (chk_of_lt k h.1) h.2 C A)
        (stepC c i arg2 harg2 arg3 harg3 arg4 harg4 arg6 harg6 arg8 harg8 arg9 harg9 x0 x1 x2 x4 _ a (chk_of_lt k h.1) h.2 C A)
        (stepA c i arg2 harg2 arg3 harg3 arg4 harg4 arg6 harg6 arg8 harg8 arg9 harg9 x0 x1 x2 x4 _ a (chk_of_lt k h.1) h.2 C A)
    else (C, A)

/-- The buffers a call of the loop works on: the four it reads, and the scratch at `C` and `A`. -/
def held (C : Vec F S8x128x128 .f32) (A : Vec F S8x128x64 .f32) : sProp 𝕄 :=
  iprop(owns (c : Thread nD τ) arg2 fullShare x0 ∗ owns (c : Thread nD τ) arg3 fullShare x1 ∗ owns (c : Thread nD τ) arg4 fullShare x2
    ∗ owns (c : Thread nD τ) arg6 fullShare x4 ∗ owns (c : Thread nD τ) arg8 fullShare C ∗ owns (c : Thread nD τ) arg9 fullShare A)

/-- What a call of the loop does: from the scratch at `CA` it leaves it after the `n` trips possible, and returns something. -/
def spec (n : ℕ) (a : F .f32) (C : Vec F S8x128x128 .f32) (A : Vec F S8x128x64 .f32) : sWPT 𝕄 (BitVec 32 × F .f32) := do
  sWPT.consume (held c arg2 arg3 arg4 arg6 arg8 arg9 x0 x1 x2 x4 C A)
  let r ← sWPT.arbitrary
  sWPT.produce (held c arg2 arg3 arg4 arg6 arg8 arg9 x0 x1 x2 x4
    (iter c i arg2 harg2 arg3 harg3 arg4 harg4 arg6 harg6 arg8 harg8 arg9 harg9 x0 x1 x2 x4 n a C A).1
    (iter c i arg2 harg2 arg3 harg3 arg4 harg4 arg6 harg6 arg8 harg8 arg9 harg9 x0 x1 x2 x4 n a C A).2)
  pure r

/-- The specification as an entailment's left side. -/
theorem spec_apply (n : ℕ) (a : F .f32) (C : Vec F S8x128x128 .f32) (A : Vec F S8x128x64 .f32) (K : BitVec 32 × F .f32 → sProp 𝕄) :
    spec c i arg2 harg2 arg3 harg3 arg4 harg4 arg6 harg6 arg8 harg8 arg9 harg9 x0 x1 x2 x4 n a C A K
      = iprop(held c arg2 arg3 arg4 arg6 arg8 arg9 x0 x1 x2 x4 C A ∗ ∀ r : BitVec 32 × F .f32,
        (held c arg2 arg3 arg4 arg6 arg8 arg9 x0 x1 x2 x4
          (iter c i arg2 harg2 arg3 harg3 arg4 harg4 arg6 harg6 arg8 harg8 arg9 harg9 x0 x1 x2 x4 n a C A).1
          (iter c i arg2 harg2 arg3 harg3 arg4 harg4 arg6 harg6 arg8 harg8 arg9 harg9 x0 x1 x2 x4 n a C A).2 -∗ K r)) := rfl

/-- When the test fails the loop returns at once and touches nothing. -/
theorem while_exit (b : Option ℕ) (E : Set ℕ) (w : BitVec 32) (a : F .f32) (h : ¬ test w a = 1#1) (K : BitVec 32 × F .f32 → sProp 𝕄) :
    K (w, a) ⊢ wp frame (wpE (defs₀ (F := F)) 𝒱₀ c b) E
      (cc0_while1 i arg2 harg2 arg3 harg3 arg4 harg4 arg6 harg6 arg8 harg8 arg9 harg9 w a) K := by
  simp only [cc0_while1_eq_skeleton]; unfold cc0_while1_skel
  unfold test at h
  simp only [h, ↓reduceIte, Prog.pure_eq_ret]
  iintro H
  rw [wp_ret]; imodintro
  iexact H

set_option maxHeartbeats 1000000 in
/-- The loop's body meets its specification, entered with `n` trips possible, by induction on `n`. -/
theorem spec_le (E : Set ℕ) : ∀ (n : ℕ) (w : BitVec 32), At n w → ∀ (a : F .f32) (C : Vec F S8x128x128 .f32) (A : Vec F S8x128x64 .f32)
    (K : BitVec 32 × F .f32 → sProp 𝕄),
    spec c i arg2 harg2 arg3 harg3 arg4 harg4 arg6 harg6 arg8 harg8 arg9 harg9 x0 x1 x2 x4 n a C A K
      ⊢ wp frame (wpE (defs₀ (F := F)) 𝒱₀ (c : Thread nD τ) (some n)) E
          (defs₀ (F := F) .tc 1 ⟨i, arg2, harg2, arg3, harg3, arg4, harg4, arg6, harg6, arg8, harg8, arg9, harg9, w, a⟩) K := by
  intro n
  induction n with
  | zero =>
    intro w hw a C A K
    have hneg : Scalar.cmpi .sge w 0#32 = 0#1 := by
      rcases hw with ⟨-, h⟩ | ⟨h, -⟩
      · exact h
      · exact absurd h (lt_irrefl 0)
    rw [spec_apply]
    show _ ⊢ wp frame (wpE (defs₀ (F := F)) 𝒱₀ (c : Thread nD τ) (some 0)) E
      (cc0_while1 i arg2 harg2 arg3 harg3 arg4 harg4 arg6 harg6 arg8 harg8 arg9 harg9 w a) K
    iintro ⟨H, Hk⟩
    iapply (while_exit c i arg2 harg2 arg3 harg3 arg4 harg4 arg6 harg6 arg8 harg8 arg9 harg9 (some 0) E w a (test_neg hneg a) K)
    iapply Hk; iexact H
  | succ k ih =>
    intro w hw a C A K
    obtain ⟨hk, rfl⟩ : k < 32 ∧ w = BitVec.ofNat 32 k := by
      rcases hw with ⟨h, -⟩ | ⟨-, h, h'⟩
      · exact absurd h (Nat.succ_ne_zero k)
      · exact ⟨h, by simpa using h'⟩
    rw [spec_apply]
    show _ ⊢ wp frame (wpE (defs₀ (F := F)) 𝒱₀ (c : Thread nD τ) (some (k + 1))) E
      (cc0_while1 i arg2 harg2 arg3 harg3 arg4 harg4 arg6 harg6 arg8 harg8 arg9 harg9 (BitVec.ofNat 32 k) a) K
    by_cases ht : test (BitVec.ofNat 32 k) a = 1#1
    · have hit : iter c i arg2 harg2 arg3 harg3 arg4 harg4 arg6 harg6 arg8 harg8 arg9 harg9 x0 x1 x2 x4 (k + 1) a C A
          = iter c i arg2 harg2 arg3 harg3 arg4 harg4 arg6 harg6 arg8 harg8 arg9 harg9 x0 x1 x2 x4 k
            (stepM c i arg2 harg2 arg3 harg3 arg4 harg4 arg6 harg6 arg8 harg8 arg9 harg9 x0 x1 x2 x4 _ a (chk_of_lt k hk) ht C A)
            (stepC c i arg2 harg2 arg3 harg3 arg4 harg4 arg6 harg6 arg8 harg8 arg9 harg9 x0 x1 x2 x4 _ a (chk_of_lt k hk) ht C A)
            (stepA c i arg2 harg2 arg3 harg3 arg4 harg4 arg6 harg6 arg8 harg8 arg9 harg9 x0 x1 x2 x4 _ a (chk_of_lt k hk) ht C A) := by
        rw [iter, dif_pos ⟨hk, ht⟩]
      have hword : At k (stepRun c i arg2 harg2 arg3 harg3 arg4 harg4 arg6 harg6 arg8 harg8 arg9 harg9 (BitVec.ofNat 32 k) a (chk_of_lt k hk) ht x0 x1 x2 x4 C A).2.2.1 := by
        rw [(stepRun c i arg2 harg2 arg3 harg3 arg4 harg4 arg6 harg6 arg8 harg8 arg9 harg9 (BitVec.ofNat 32 k) a (chk_of_lt k hk) ht x0 x1 x2 x4 C A).2.2.2.2.1]; exact at_pred k hk
      rw [hit]
      unfold held
      iintro ⟨⟨H0, H1, H2, H4, HC, HA⟩, Hk⟩
      iapply ((stepRun c i arg2 harg2 arg3 harg3 arg4 harg4 arg6 harg6 arg8 harg8 arg9 harg9 (BitVec.ofNat 32 k) a (chk_of_lt k hk) ht x0 x1 x2 x4 C A).2.2.2.2.2 (some (k + 1)) E K)
      isplitl [H0]; · iexact H0
      isplitl [H1]; · iexact H1
      isplitl [H2]; · iexact H2
      isplitl [H4]; · iexact H4
      isplitl [HC]; · iexact HC
      isplitl [HA]; · iexact HA
      iintro ⟨H0, H1, H2, H4, ⟨%fC, HC⟩, ⟨%fA, HA⟩⟩
      iapply (wp_call_spec 𝒱₀ (c : Thread nD τ) (some (k + 1)) E
        (spec c i arg2 harg2 arg3 harg3 arg4 harg4 arg6 harg6 arg8 harg8 arg9 harg9 x0 x1 x2 x4 k
            (stepM c i arg2 harg2 arg3 harg3 arg4 harg4 arg6 harg6 arg8 harg8 arg9 harg9 x0 x1 x2 x4 _ a (chk_of_lt k hk) ht C A)
            (stepC c i arg2 harg2 arg3 harg3 arg4 harg4 arg6 harg6 arg8 harg8 arg9 harg9 x0 x1 x2 x4 _ a (chk_of_lt k hk) ht C A)
            (stepA c i arg2 harg2 arg3 harg3 arg4 harg4 arg6 harg6 arg8 harg8 arg9 harg9 x0 x1 x2 x4 _ a (chk_of_lt k hk) ht C A)) k
        (fun u hu => by cases hu; exact Nat.lt_succ_self k)
        (ih _ hword _ _ _))
      rw [spec_apply]
      unfold held
      isplitl [H0 H1 H2 H4 HC HA]
      · isplitl [H0]; · iexact H0
        isplitl [H1]; · iexact H1
        isplitl [H2]; · iexact H2
        isplitl [H4]; · iexact H4
        isplitl [HC]
        · unfold owns; iexists _; isplitr
          swap; · iexact HC
          ipureintro; exact View.read_writes_of_cover _ _ _ _ _ (step_coverC c i arg2 harg2 arg3 harg3 arg4 harg4 arg6 harg6 arg8 harg8 arg9 harg9 x0 x1 x2 x4 _ a (chk_of_lt k hk) ht C A)
        · unfold owns; iexists _; isplitr
          swap; · iexact HA
          ipureintro; exact View.read_writes_of_cover _ _ _ _ _ (step_coverA c i arg2 harg2 arg3 harg3 arg4 harg4 arg6 harg6 arg8 harg8 arg9 harg9 x0 x1 x2 x4 _ a (chk_of_lt k hk) ht C A)
      iintro %r H
      rw [wp_ret]; imodintro
      iapply Hk
      iexact H
    · have hit : iter c i arg2 harg2 arg3 harg3 arg4 harg4 arg6 harg6 arg8 harg8 arg9 harg9 x0 x1 x2 x4 (k + 1) a C A = (C, A) := by
        rw [iter, dif_neg (fun h => ht h.2)]
      rw [hit]
      iintro ⟨H, Hk⟩
      iapply (while_exit c i arg2 harg2 arg3 harg3 arg4 harg4 arg6 harg6 arg8 harg8 arg9 harg9 (some (k + 1)) E _ a ht K)
      iapply Hk; iexact H

end Loop

end Cert.KernelIdeal.Hand

end
-- ==== Proof.KI.Body.lean ====
/-
  The kernel body's run at one grid point: it fills the two scratch buffers from the first three key blocks, calls the
  loop over the remaining ones, and stores the normalised sums.
-/
module

public import proofs.«01_k».proof.Proof.KI.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents a list of slabs stored over the whole of the first scratch leaves, -/
def canC (L : List (View.Piece (Elt F) S8x128x128 .f32)) : Vec F S8x128x128 .f32 :=
  scC.view.read (Elt F) (scC.view.writes (Elt F) scC.view.junk L)
/-- and over the second. -/
def canA (L : List (View.Piece (Elt F) S8x128x64 .f32)) : Vec F S8x128x64 .f32 :=
  scA.view.read (Elt F) (scA.view.writes (Elt F) scA.view.junk L)

set_option maxHeartbeats 1000000 in
/-- A call of the loop at a block word with `n` trips possible, from scratch buffers just filled by the slabs `LC` and
    `LA`: the continuation finds them after those trips. -/
theorem call_filled (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole) (arg6 : Memref sig .tc .vmem S256x256 .bf16) (harg6 : arg6.IsWhole) (arg8 : Memref sig .tc .vmem S8x128x128 .f32) (harg8 : arg8.IsWhole) (arg9 : Memref sig .tc .vmem S8x128x64 .f32) (harg9 : arg9.IsWhole)
    (x0 : Vec F S128x512 .bf16) (x1 : Vec F S4096x512 .bf16) (x2 : Vec F S4096x512 .bf16) (x4 : Vec F S256x256 .bf16)
    (LC : List (View.Piece (Elt F) S8x128x128 .f32)) (LA : List (View.Piece (Elt F) S8x128x64 .f32))
    (n : ℕ) (w : BitVec 32) (hw : At n w) (a : F .f32) (E : Set ℕ)
    (fC : BufTy.Contents (Elt F) arg8.view.ty) (fA : BufTy.Contents (Elt F) arg9.view.ty)
    {α : Type _} (k : BitVec 32 × F .f32 → Prog (TpuEff nD τ sig (Elt F) (Λ₀ F) .tc) α) (K : α → sProp 𝕄) :
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg6.view.loc (c : Thread nD τ) ↦[arg6.view.set]{fullShare} harg6.unread x4)
        ∗ (arg8.view.loc (c : Thread nD τ) ↦[arg8.view.set]{fullShare} arg8.view.writes (Elt F) fC LC) ∗ (arg9.view.loc (c : Thread nD τ) ↦[arg9.view.set]{fullShare} arg9.view.writes (Elt F) fA LA)
        ∗ ⌜∀ y : S8x128x128.Idx, ∃ pc ∈ LC, y ∈ pc.1.set⌝ ∗ ⌜∀ y : S8x128x64.Idx, ∃ pc ∈ LA, y ∈ pc.1.set⌝
        ∗ ∀ r : BitVec 32 × F .f32, (held c arg2 arg3 arg4 arg6 arg8 arg9 x0 x1 x2 x4 (iter c i arg2 harg2 arg3 harg3 arg4 harg4 arg6 harg6 arg8 harg8 arg9 harg9 x0 x1 x2 x4 n a (canC LC) (canA LA)).1 (iter c i arg2 harg2 arg3 harg3 arg4 harg4 arg6 harg6 arg8 harg8 arg9 harg9 x0 x1 x2 x4 n a (canC LC) (canA LA)).2
          -∗ wp frame (wpE (defs₀ (F := F)) 𝒱₀ c none) E (k r) K))
      ⊢ wp frame (wpE (defs₀ (F := F)) 𝒱₀ c none) E (Prog.op (.call (1 : (Λ₀ F).Label) ⟨i, arg2, harg2, arg3, harg3, arg4, harg4, arg6, harg6, arg8, harg8, arg9, harg9, w, a⟩) k) K := by
  iintro ⟨H0, H1, H2, H4, HC, HA, %hC, %hA, Hk⟩
  iapply (wp_call_spec 𝒱₀ (c : Thread nD τ) none E (spec c i arg2 harg2 arg3 harg3 arg4 harg4 arg6 harg6 arg8 harg8 arg9 harg9 x0 x1 x2 x4 n a (canC LC) (canA LA)) n
    (fun u hu => nomatch hu) (spec_le c i arg2 harg2 arg3 harg3 arg4 harg4 arg6 harg6 arg8 harg8 arg9 harg9 x0 x1 x2 x4 E n w hw a (canC LC) (canA LA)))
  rw [spec_apply]
  isplitl [H0 H1 H2 H4 HC HA]
  · unfold held owns
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]
    · iexists _; isplitr; · ipureintro; exact harg6.read_unread _
      iexact H4
    isplitl [HC]
    · iexists _; isplitr
      swap; · iexact HC
      ipureintro; exact View.read_writes_of_cover _ _ _ _ _ hC
    · iexists _; isplitr
      swap; · iexact HA
      ipureintro; exact View.read_writes_of_cover _ _ _ _ _ hA
  iintro %r H
  iapply Hk
  iexact H

set_option maxHeartbeats 4000000 in
/-- The pieces the body's one store leaves in the output's buffer, WITH the body's run. -/
noncomputable def kernelRun (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x512 .f32) (harg5 : arg5.IsWhole) (arg6 : Memref sig .tc .vmem S256x256 .bf16) (harg6 : arg6.IsWhole) (arg7 : Memref sig .tc .vmem S128x512 .bf16) (harg7 : arg7.IsWhole) (arg8 : Memref sig .tc .vmem S8x128x128 .f32) (harg8 : arg8.IsWhole) (arg9 : Memref sig .tc .vmem S8x128x64 .f32) (harg9 : arg9.IsWhole)
    (n : ℕ) (hn : At n (Scalar.subi (BitVec.ofNat 32 (i 1).val) 3#32))
    (x0 : Vec F S128x512 .bf16) (x1 : Vec F S4096x512 .bf16) (x2 : Vec F S4096x512 .bf16) (x3 : Vec F S1x512 .f32) (x4 : Vec F S256x256 .bf16) :
    { L5 : List (View.Piece (Elt F) S128x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d)) -∗ K ⟨⟩))
          ⊢ wp frame (wpE (defs₀ (F := F)) 𝒱₀ c none) E (cc0_sb_prompt i arg2 harg2 arg3 harg3 arg4 harg4 arg5 harg5 arg6 harg6 arg7 harg7 arg8 harg8 arg9 harg9) K } := by
  refine ⟨?_, fun E K => ?run⟩
  case run =>
    simp only [cc0_sb_prompt_eq_skeleton]; unfold cc0_sb_prompt_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%dC, %fC, -, HC⟩, ⟨%dA, %fA, -, HA⟩, Hk⟩
    obtain rfl := harg2.eq_unread hf0; obtain rfl := harg3.eq_unread hf1; obtain rfl := harg4.eq_unread hf2; obtain rfl := harg5.eq_unread hf3; obtain rfl := harg6.eq_unread hf4
    sl_exec
    iapply (call_filled c i arg2 harg2 arg3 harg3 arg4 harg4 arg6 harg6 arg8 harg8 arg9 harg9 x0 x1 x2 x4 _ _ n _ hn _ E _ _ _ _)
    isplitl [H0]; · iexact H0
    isplitl [H1]; · iexact H1
    isplitl [H2]; · iexact H2
    isplitl [H4]; · iexact H4
    isplitl [HC]; · iexact HC
    isplitl [HA]; · iexact HA
    isplitr
    · ipureintro; exact View.cover_of_tiledL _ S1x128x128.size (by sl_kernel_rfl)
    isplitr
    · ipureintro; exact View.cover_of_tiledL _ S1x128x64.size (by sl_kernel_rfl)
    unfold held owns
    iintro %r ⟨⟨%f0, %hf0, H0⟩, ⟨%f1, %hf1, H1⟩, ⟨%f2, %hf2, H2⟩, ⟨%f4, %hf4, H4⟩, ⟨%fC', %hfC, HC⟩, ⟨%fA', %hfA, HA⟩⟩
    obtain rfl := harg2.eq_unread hf0; obtain rfl := harg3.eq_unread hf1; obtain rfl := harg4.eq_unread hf2; obtain rfl := harg6.eq_unread hf4
    obtain rfl := harg8.eq_unread hfC; obtain rfl := harg9.eq_unread hfA
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HC]
    · iexists _; iexists _; isplitr
      swap; · iexact HC
      ipureintro; rfl
    iexists _; iexists _; isplitr
    swap; · iexact HA
    ipureintro; rfl

end Cert.KernelIdeal.Hand

end
-- ==== Proof.KI.Run.lean ====
/-
  The launch: what each point leaves in the output's staging buffer (`outsAt`), the pipeline's proof data, the body
  obligation at every point, and the run of the whole program with its frame.
-/
module

public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- At query block `b` the loop starts three blocks before it: `b - 2` trips are possible. -/
theorem at_start : ∀ b : Fin 32, At (b.val - 2) (Scalar.subi (BitVec.ofNat 32 b.val) 3#32) := by
  unfold At; decide

/-- The pieces point `t`'s body stores into the output's buffer. -/
def pieces (c : Dev nD) (t : Fin (cfg0 (F := F)).N) : List (View.Piece (Elt F) S128x512 .bf16) :=
  (kernelRun c ((cfg0 (F := F)).grid.coords t) (ms0 t) (hs0 t) (ms1 t) (hs1 t) (ms2 t) (hs2 t) (ms3 t) (hs3 t) (ms4 t) (hs4 t) (ms5 t) (hs5 t)
    scC (Memref.isWhole_whole _) scA (Memref.isWhole_whole _) _ (at_start ((cfg0 (F := F)).grid.coords t 1))
    (iblk m c 0 t) (iblk m c 1 t) (iblk m c 2 t) (iblk m c 3 t) (iblk m c 4 t)).1

/-- They fill it. -/
theorem pieces_cover (c : Dev nD) (t : Fin (cfg0 (F := F)).N) (y : S128x512.Idx) : ∃ pc ∈ pieces m c t, y ∈ pc.1.set :=
  View.cover_of_tiledL (pieces m c t) S128x512.size (by sl_kernel_rfl) y

/-- What the output's staging buffer holds after point `t`. -/
def outsAt (c : Dev nD) (t : Fin (cfg0 (F := F)).N) : Vec F S128x512 .bf16 :=
  VO.read (Elt F) (VO.writes (Elt F) VO.junk (pieces m c t))

/-- The pipeline's proof data on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q _ := fullShare
  owed _ := 0

/-- Its arrays are the contents at the region's entry. -/
theorem A_eq (c : Dev nD) (w : Fin (cfg0 (F := F)).W) : (dats m 0 c).A w = V m c (Pipeline.arrRef spec0 w) := by
  dsimp only [dats]

/-- What the body leaves, window by window. -/
theorem after_0 (c : Dev nD) (t : Fin (cfg0 (F := F)).N) : (dats m 0 c).after 0 t = iblk m c 0 t := by dsimp only [dats]; try rfl
theorem after_1 (c : Dev nD) (t : Fin (cfg0 (F := F)).N) : (dats m 0 c).after 1 t = iblk m c 1 t := by dsimp only [dats]; try rfl
theorem after_2 (c : Dev nD) (t : Fin (cfg0 (F := F)).N) : (dats m 0 c).after 2 t = iblk m c 2 t := by dsimp only [dats]; try rfl
theorem after_3 (c : Dev nD) (t : Fin (cfg0 (F := F)).N) : (dats m 0 c).after 3 t = iblk m c 3 t := by dsimp only [dats]; try rfl
theorem after_4 (c : Dev nD) (t : Fin (cfg0 (F := F)).N) : (dats m 0 c).after 4 t = iblk m c 4 t := by dsimp only [dats]; try rfl
theorem after_5 (c : Dev nD) (t : Fin (cfg0 (F := F)).N) : (dats m 0 c).after 5 t = outsAt m c t := by dsimp only [dats]; try rfl

/-- What the body finds in each input's buffer. -/
theorem found_0 (c : Dev nD) (t : Fin (cfg0 (F := F)).N) (d) : (dats m 0 c).before 0 t d = iblk m c 0 t :=
  before_0 m (dats m 0 c) (A_eq m c 0) (after_0 m c) t d
theorem found_1 (c : Dev nD) (t : Fin (cfg0 (F := F)).N) (d) : (dats m 0 c).before 1 t d = iblk m c 1 t :=
  before_1 m (dats m 0 c) (A_eq m c 1) (after_1 m c) t d
theorem found_2 (c : Dev nD) (t : Fin (cfg0 (F := F)).N) (d) : (dats m 0 c).before 2 t d = iblk m c 2 t :=
  before_2 m (dats m 0 c) (A_eq m c 2) (after_2 m c) t d
theorem found_3 (c : Dev nD) (t : Fin (cfg0 (F := F)).N) (d) : (dats m 0 c).before 3 t d = iblk m c 3 t :=
  before_3 m (dats m 0 c) (A_eq m c 3) (after_3 m c) t d
theorem found_4 (c : Dev nD) (t : Fin (cfg0 (F := F)).N) (d) : (dats m 0 c).before 4 t d = iblk m c 4 t :=
  before_4 m (dats m 0 c) (A_eq m c 4) (after_4 m c) t d

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [found_0, found_1, found_2, found_3, found_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun c ((cfg0 (F := F)).grid.coords t) (ms0 t) (hs0 t) (ms1 t) (hs1 t) (ms2 t) (hs2 t) (ms3 t) (hs3 t) (ms4 t) (hs4 t) (ms5 t) (hs5 t)
    scC (Memref.isWhole_whole _) scA (Memref.isWhole_whole _) _ (at_start ((cfg0 (F := F)).grid.coords t 1))
    (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (pieces_cover m c t)

/-- The body table's row at point `t` is the body as the launch spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The program's run: the region's arrays end as computed, every other buffer as the region found it, the counters at zero. -/
theorem run_main : θ_run defs (onTc (τ := τ) (main (F := F))) (s₀ m ρ)
    (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame: the program runs to its end, the argument arrays are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) ((θ_run defs _ _).mono (fun _ h => h.1) (run_main m ρ)))
    ((θ_run defs _ _).mono (fun _ h => h.2) (run_main m ρ))

end Cert.KernelIdeal.Hand

end
-- ==== Proof.V.Canon.lean ====
/-
  The words the value proof speaks in: what the kernel body computes for one head from one block of queries and one block
  of keys and values, each quantity once, whatever the float operations are.
-/
module

public import proofs.«01_k».proof.Proof.KI.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The 64 columns of head `h` lie inside the 512. -/
theorem head_slices (h : Fin 8) : S128x512.Slices ![0, 64 * h.val] S128x64 := by revert h; decide
theorem gain_slices (h : Fin 8) : S1x512.Slices ![0, 64 * h.val] S1x64 := by revert h; decide

/-- Head `h`'s columns of a block of 128 rows. -/
def hd (h : Fin 8) (x : FVec F S128x512 .bf16) : FVec F S128x64 .bf16 :=
  extractStridedSlice S128x64 ![0, 64 * h.val] (shapeCast S128x512 x shapeCasts_S128x512_S128x512) (head_slices h)

/-- The scores of a block of queries against a block of keys, both of one head. -/
def zOf (q k : FVec F S128x64 .bf16) : FVec F S128x128 .f32 :=
  matmul dot_S128x64_S128x64_S128x128_1_1_0_0_n_n none q k (constant S128x128 .f32 0x00000000#32)

/-- The constant zero block. -/
def zero128 : FVec F S128x128 .f32 := broadcast S128x128 (Scalar.ofBits .f32 0x00000000#32)

/-- `log (1 + exp z)` as the kernel computes it. -/
def sp (z : FVec F S128x128 .f32) : FVec F S128x128 .f32 :=
  addf (maximumf z zero128)
    (log (addf (broadcast S128x128 (Scalar.ofBits .f32 0x3F800000#32)) (exp (subf zero128 (absf z)))))

/-- The logarithm of a score's share kept for earlier keys, -/
def keep (z : FVec F S128x128 .f32) : FVec F S128x128 .f32 := subf zero128 (sp z)
/-- and of the share it takes. -/
def took (z : FVec F S128x128 .f32) : FVec F S128x128 .f32 := subf z (sp z)

/-- A block of logarithms as its rounded half beside the rest. -/
def halves (lk : FVec F S128x128 .f32) : FVec F S128x256 .bf16 :=
  concatenate S128x256 1 [⟨S128x128, truncf .bf16 lk bitsLt_bf16_f32⟩,
    ⟨S128x128, truncf .bf16 (subf lk (extf .f32 (truncf .bf16 lk bitsLt_bf16_f32) bitsLt_bf16_f32)) bitsLt_bf16_f32⟩]
    concatenates_S128x128_S128x128_S128x256_d1

/-- The product of the halves with the matrix of ones: totals in the first 128 columns, sums of the later keys in the rest. -/
def sums (lk : FVec F S128x128 .f32) (mm : FVec F S256x256 .bf16) : FVec F S128x256 .f32 :=
  matmul dot_S128x256_S256x256_S128x256_1_0_0_1_n_n none (halves lk)
    (shapeCast S256x256 mm shapeCasts_S256x256_S256x256) (constant S128x256 .f32 0x00000000#32)

/-- The totals, -/
def tot (lk : FVec F S128x128 .f32) (mm : FVec F S256x256 .bf16) : FVec F S128x128 .f32 :=
  extractStridedSlice S128x128 ![0, 0] (sums lk mm) slices_S128x256_o0_0_S128x128
/-- and the sums over the later keys. -/
def suf (lk : FVec F S128x128 .f32) (mm : FVec F S256x256 .bf16) : FVec F S128x128 .f32 :=
  extractStridedSlice S128x128 ![0, 128] (sums lk mm) slices_S128x256_o0_128_S128x128

/-- The weights' product with the values of the block. -/
def pv (w : FVec F S128x128 .f32) (v : FVec F S128x64 .bf16) : FVec F S128x64 .f32 :=
  matmul dot_S128x128_S128x64_S128x64_1_0_0_1_n_n none (truncf .bf16 w bitsLt_bf16_f32) v (constant S128x64 .f32 0x00000000#32)

/-- One slab of a scratch as a block, -/
def slabC (x : FVec F S1x128x128 .f32) : FVec F S128x128 .f32 := shapeCast S128x128 x shapeCasts_S1x128x128_S128x128
def slabA (x : FVec F S1x128x64 .f32) : FVec F S128x64 .f32 := shapeCast S128x64 x shapeCasts_S1x128x64_S128x64
/-- and a block as a slab. -/
def unslabC (x : FVec F S128x128 .f32) : FVec F S1x128x128 .f32 := shapeCast S1x128x128 x shapeCasts_S128x128_S1x128x128
def unslabA (x : FVec F S128x64 .f32) : FVec F S1x128x64 .f32 := shapeCast S1x128x64 x shapeCasts_S128x64_S1x128x64

/-! ## One trip of the loop, for one head -/

/-- The running sum of logarithms after the trip, -/
def carryL (h : Fin 8) (q k : FVec F S128x512 .bf16) (mm : FVec F S256x256 .bf16) (c : FVec F S128x128 .f32) : FVec F S128x128 .f32 :=
  addf c (tot (keep (zOf (hd h q) (hd h k))) mm)
/-- the weights, -/
def weightL (h : Fin 8) (q k : FVec F S128x512 .bf16) (mm : FVec F S256x256 .bf16) (c : FVec F S128x128 .f32) : FVec F S128x128 .f32 :=
  exp (addf (addf (took (zOf (hd h q) (hd h k))) (suf (keep (zOf (hd h q) (hd h k))) mm)) c)
/-- and the running sum of weighted values. -/
def accL (h : Fin 8) (q k v : FVec F S128x512 .bf16) (mm : FVec F S256x256 .bf16) (c : FVec F S128x128 .f32)
    (a : FVec F S128x64 .f32) : FVec F S128x64 .f32 :=
  addf a (pv (weightL h q k mm c) (hd h v))

/-- The largest element of the eight heads' running sums. -/
def topOf (c0 c1 c2 c3 c4 c5 c6 c7 : FVec F S128x128 .f32) : F .f32 :=
  extractAt ![0, 0, 0] (shapeCast S1x1x1 (multiReduction .maximumf [1, 2] S1
    (shapeCast S1x128x128 (maximumf (maximumf (maximumf (maximumf (maximumf (maximumf (maximumf c0 c1) c2) c3) c4) c5) c6) c7) shapeCasts_S128x128_S1x128x128)
    0xFF800000#32 reduces_S1x128x128_S1 (.inl rfl) rfl) shapeCasts_S1_S1x1x1) inpos_S1x1x1_p0_0_0

/-! ## The first three blocks, for one head -/

/-- The keys before the query, within the diagonal block. -/
def diag : IVec S128x128 1 := k0_pay6

/-- The masked logarithms of the diagonal block, -/
def keep0 (z : FVec F S128x128 .f32) : FVec F S128x128 .f32 := select diag (keep z) zero128
/-- and of a block taken whole or not at all. -/
def keepB (b : BitVec 1) (z : FVec F S128x128 .f32) : FVec F S128x128 .f32 := Scalar.select b (keep z) zero128

/-- The running sums of logarithms after the diagonal block, -/
def carry0 (z : FVec F S128x128 .f32) (mm : FVec F S256x256 .bf16) : FVec F S128x128 .f32 := tot (keep0 z) mm
/-- and after a further block. -/
def carryB (b : BitVec 1) (z : FVec F S128x128 .f32) (mm : FVec F S256x256 .bf16) (c : FVec F S128x128 .f32) : FVec F S128x128 .f32 :=
  addf c (tot (keepB b z) mm)
/-- The weights of the diagonal block, -/
def weight0 (z : FVec F S128x128 .f32) (mm : FVec F S256x256 .bf16) : FVec F S128x128 .f32 :=
  select diag (exp (addf (took z) (suf (keep0 z) mm))) zero128
/-- and of a further block. -/
def weightB (b : BitVec 1) (z : FVec F S128x128 .f32) (mm : FVec F S256x256 .bf16) (c : FVec F S128x128 .f32) : FVec F S128x128 .f32 :=
  Scalar.select b (exp (addf (addf (took z) (suf (keepB b z) mm)) c)) zero128

/-- The running sums of logarithms after the three blocks, -/
def carryF (b1 b2 : BitVec 1) (q k0 k1 k2 : FVec F S128x64 .bf16) (mm : FVec F S256x256 .bf16) : FVec F S128x128 .f32 :=
  carryB b2 (zOf q k2) mm (carryB b1 (zOf q k1) mm (carry0 (zOf q k0) mm))
/-- and of weighted values. -/
def accF (b1 b2 : BitVec 1) (q k0 k1 k2 v0 v1 v2 : FVec F S128x64 .bf16) (mm : FVec F S256x256 .bf16) : FVec F S128x64 .f32 :=
  addf (addf (pv (weight0 (zOf q k0) mm) v0) (pv (weightB b1 (zOf q k1) mm (carry0 (zOf q k0) mm)) v1))
    (pv (weightB b2 (zOf q k2) mm (carryB b1 (zOf q k1) mm (carry0 (zOf q k0) mm))) v2)

/-! ## The output -/

/-- A head's sums over the root of their mean square, times its gains. -/
def rms (a : FVec F S128x64 .f32) (g : FVec F S1x64 .f32) : FVec F S128x64 .f32 :=
  mulf (mulf a (broadcastTo S128x64 (rsqrt (addf (divf
      (shapeCast S128x1 (multiReduction .add [1] S128 (mulf a a) 0x00000000#32 reduces_S128x64_S128 (.inl rfl) rfl) shapeCasts_S128_S128x1)
      (broadcast S128x1 (Scalar.ofBits .f32 0x42800000#32))) (broadcast S128x1 (Scalar.ofBits .f32 0x3727C5AC#32)))) broadcasts_S128x1_S128x64))
    (broadcastTo S128x64 (shapeCast S1x64 g shapeCasts_S1x64_S1x64) broadcasts_S1x64_S128x64)

/-- The eight heads side by side, rounded. -/
def rowsOf (o0 o1 o2 o3 o4 o5 o6 o7 : FVec F S128x64 .f32) : FVec F S128x512 .bf16 :=
  truncf .bf16 (concatenate S128x512 1 [⟨S128x64, o0⟩, ⟨S128x64, o1⟩, ⟨S128x64, o2⟩, ⟨S128x64, o3⟩, ⟨S128x64, o4⟩, ⟨S128x64, o5⟩, ⟨S128x64, o6⟩, ⟨S128x64, o7⟩]
    concatenates_S128x64_S128x64_S128x64_S128x64_S128x64_S128x64_S128x64_S128x64_S128x512_d1) bitsLt_bf16_f32

end Cert.KernelIdeal.Hand

end
-- ==== Proof.V.Trip.lean ====
/-
  One trip of the loop in the words of Canon.lean: the slabs it stores into the two scratch buffers, and the largest
  running sum it passes on, from the blocks it loads.
-/
module

public import proofs.«01_k».proof.Proof.V.Canon
public import proofs.«01_k».proof.Proof.KI.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

variable (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole) (arg6 : Memref sig .tc .vmem S256x256 .bf16) (harg6 : arg6.IsWhole) (arg8 : Memref sig .tc .vmem S8x128x128 .f32) (harg8 : arg8.IsWhole) (arg9 : Memref sig .tc .vmem S8x128x64 .f32) (harg9 : arg9.IsWhole)
  (j : BitVec 32) (a : F .f32) (hchk : k0_chk1 j) (htest : test j a = 1#1)
  (x0 : Vec F S128x512 .bf16) (x1 : Vec F S4096x512 .bf16) (x2 : Vec F S4096x512 .bf16) (x4 : Vec F S256x256 .bf16)
  (C : Vec F S8x128x128 .f32) (A : Vec F S8x128x64 .f32)

/-- What the trip loads: the queries, -/
def ldQ : FVec F S128x512 .bf16 :=
  View.readAt (Elt F) arg2.view (Rect.unit (s := S128x512) ![0, 0] S128x512.size inb_S128x512_S128x512_0_0).toLoadRect (harg2.unread x0)
/-- the block of keys (or of values), -/
def ldK : FVec F S128x512 .bf16 :=
  View.readAt (Elt F) arg3.view (Rect.unit (s := S4096x512) (k0_off2 j) S128x512.size (k0_off2_inb j hchk)).toLoadRect (harg3.unread x1)
/-- the matrix of ones, -/
def ldM : FVec F S256x256 .bf16 :=
  View.readAt (Elt F) arg6.view (Rect.unit (s := S256x256) ![0, 0] S256x256.size inb_S256x256_S256x256_0_0).toLoadRect (harg6.unread x4)

/-- head `h`'s slab lies in the scratch, -/
theorem slab_inbC (h : Fin 8) : ∀ a, (![h.val, 0, 0] : Fin 3 → ℕ) a + S1x128x128.size a ≤ S8x128x128.size a := by revert h; decide
theorem slab_inbA (h : Fin 8) : ∀ a, (![h.val, 0, 0] : Fin 3 → ℕ) a + S1x128x64.size a ≤ S8x128x64.size a := by revert h; decide
/-- and the two slabs of head `h`. -/
def ldC (h : Fin 8) : FVec F S1x128x128 .f32 :=
  View.readAt (Elt F) arg8.view (Rect.unit (s := S8x128x128) ![h.val, 0, 0] S1x128x128.size (slab_inbC h)).toLoadRect (harg8.unread C)
def ldA (h : Fin 8) : FVec F S1x128x64 .f32 :=
  View.readAt (Elt F) arg9.view (Rect.unit (s := S8x128x64) ![h.val, 0, 0] S1x128x64.size (slab_inbA h)).toLoadRect (harg9.unread A)

set_option maxHeartbeats 4000000 in
/-- The slabs of logarithms' sums the trip stores, the last head first. -/
theorem trip_C : (stepRun c i arg2 harg2 arg3 harg3 arg4 harg4 arg6 harg6 arg8 harg8 arg9 harg9 j a hchk htest x0 x1 x2 x4 C A).1 =
    [⟨Rect.unit ![7, 0, 0] S1x128x128.size (slab_inbC 7), unslabC (carryL 7 (ldQ arg2 harg2 x0) (ldK arg3 harg3 j hchk x1) (ldM arg6 harg6 x4) (slabC (ldC arg8 harg8 C 7)))⟩,
      ⟨Rect.unit ![6, 0, 0] S1x128x128.size (slab_inbC 6), unslabC (carryL 6 (ldQ arg2 harg2 x0) (ldK arg3 harg3 j hchk x1) (ldM arg6 harg6 x4) (slabC (ldC arg8 harg8 C 6)))⟩,
      ⟨Rect.unit ![5, 0, 0] S1x128x128.size (slab_inbC 5), unslabC (carryL 5 (ldQ arg2 harg2 x0) (ldK arg3 harg3 j hchk x1) (ldM arg6 harg6 x4) (slabC (ldC arg8 harg8 C 5)))⟩,
      ⟨Rect.unit ![4, 0, 0] S1x128x128.size (slab_inbC 4), unslabC (carryL 4 (ldQ arg2 harg2 x0) (ldK arg3 harg3 j hchk x1) (ldM arg6 harg6 x4) (slabC (ldC arg8 harg8 C 4)))⟩,
      ⟨Rect.unit ![3, 0, 0] S1x128x128.size (slab_inbC 3), unslabC (carryL 3 (ldQ arg2 harg2 x0) (ldK arg3 harg3 j hchk x1) (ldM arg6 harg6 x4) (slabC (ldC arg8 harg8 C 3)))⟩,
      ⟨Rect.unit ![2, 0, 0] S1x128x128.size (slab_inbC 2), unslabC (carryL 2 (ldQ arg2 harg2 x0) (ldK arg3 harg3 j hchk x1) (ldM arg6 harg6 x4) (slabC (ldC arg8 harg8 C 2)))⟩,
      ⟨Rect.unit ![1, 0, 0] S1x128x128.size (slab_inbC 1), unslabC (carryL 1 (ldQ arg2 harg2 x0) (ldK arg3 harg3 j hchk x1) (ldM arg6 harg6 x4) (slabC (ldC arg8 harg8 C 1)))⟩,
      ⟨Rect.unit ![0, 0, 0] S1x128x128.size (slab_inbC 0), unslabC (carryL 0 (ldQ arg2 harg2 x0) (ldK arg3 harg3 j hchk x1) (ldM arg6 harg6 x4) (slabC (ldC arg8 harg8 C 0)))⟩] := by
  unfold stepRun; rfl

set_option maxHeartbeats 4000000 in
/-- The slabs of weighted values' sums. -/
theorem trip_A : (stepRun c i arg2 harg2 arg3 harg3 arg4 harg4 arg6 harg6 arg8 harg8 arg9 harg9 j a hchk htest x0 x1 x2 x4 C A).2.1 =
    [⟨Rect.unit ![7, 0, 0] S1x128x64.size (slab_inbA 7), unslabA (accL 7 (ldQ arg2 harg2 x0) (ldK arg3 harg3 j hchk x1) (ldK arg4 harg4 j hchk x2) (ldM arg6 harg6 x4) (slabC (ldC arg8 harg8 C 7)) (slabA (ldA arg9 harg9 A 7)))⟩,
      ⟨Rect.unit ![6, 0, 0] S1x128x64.size (slab_inbA 6), unslabA (accL 6 (ldQ arg2 harg2 x0) (ldK arg3 harg3 j hchk x1) (ldK arg4 harg4 j hchk x2) (ldM arg6 harg6 x4) (slabC (ldC arg8 harg8 C 6)) (slabA (ldA arg9 harg9 A 6)))⟩,
      ⟨Rect.unit ![5, 0, 0] S1x128x64.size (slab_inbA 5), unslabA (accL 5 (ldQ arg2 harg2 x0) (ldK arg3 harg3 j hchk x1) (ldK arg4 harg4 j hchk x2) (ldM arg6 harg6 x4) (slabC (ldC arg8 harg8 C 5)) (slabA (ldA arg9 harg9 A 5)))⟩,
      ⟨Rect.unit ![4, 0, 0] S1x128x64.size (slab_inbA 4), unslabA (accL 4 (ldQ arg2 harg2 x0) (ldK arg3 harg3 j hchk x1) (ldK arg4 harg4 j hchk x2) (ldM arg6 harg6 x4) (slabC (ldC arg8 harg8 C 4)) (slabA (ldA arg9 harg9 A 4)))⟩,
      ⟨Rect.unit ![3, 0, 0] S1x128x64.size (slab_inbA 3), unslabA (accL 3 (ldQ arg2 harg2 x0) (ldK arg3 harg3 j hchk x1) (ldK arg4 harg4 j hchk x2) (ldM arg6 harg6 x4) (slabC (ldC arg8 harg8 C 3)) (slabA (ldA arg9 harg9 A 3)))⟩,
      ⟨Rect.unit ![2, 0, 0] S1x128x64.size (slab_inbA 2), unslabA (accL 2 (ldQ arg2 harg2 x0) (ldK arg3 harg3 j hchk x1) (ldK arg4 harg4 j hchk x2) (ldM arg6 harg6 x4) (slabC (ldC arg8 harg8 C 2)) (slabA (ldA arg9 harg9 A 2)))⟩,
      ⟨Rect.unit ![1, 0, 0] S1x128x64.size (slab_inbA 1), unslabA (accL 1 (ldQ arg2 harg2 x0) (ldK arg3 harg3 j hchk x1) (ldK arg4 harg4 j hchk x2) (ldM arg6 harg6 x4) (slabC (ldC arg8 harg8 C 1)) (slabA (ldA arg9 harg9 A 1)))⟩,
      ⟨Rect.unit ![0, 0, 0] S1x128x64.size (slab_inbA 0), unslabA (accL 0 (ldQ arg2 harg2 x0) (ldK arg3 harg3 j hchk x1) (ldK arg4 harg4 j hchk x2) (ldM arg6 harg6 x4) (slabC (ldC arg8 harg8 C 0)) (slabA (ldA arg9 harg9 A 0)))⟩] := by
  unfold stepRun; rfl

set_option maxHeartbeats 4000000 in
/-- The largest running sum it passes on. -/
theorem trip_M : (stepRun c i arg2 harg2 arg3 harg3 arg4 harg4 arg6 harg6 arg8 harg8 arg9 harg9 j a hchk htest x0 x1 x2 x4 C A).2.2.2.1 =
    topOf (carryL 0 (ldQ arg2 harg2 x0) (ldK arg3 harg3 j hchk x1) (ldM arg6 harg6 x4) (slabC (ldC arg8 harg8 C 0))) (carryL 1 (ldQ arg2 harg2 x0) (ldK arg3 harg3 j hchk x1) (ldM arg6 harg6 x4) (slabC (ldC arg8 harg8 C 1))) (carryL 2 (ldQ arg2 harg2 x0) (ldK arg3 harg3 j hchk x1) (ldM arg6 harg6 x4) (slabC (ldC arg8 harg8 C 2))) (carryL 3 (ldQ arg2 harg2 x0) (ldK arg3 harg3 j hchk x1) (ldM arg6 harg6 x4) (slabC (ldC arg8 harg8 C 3))) (carryL 4 (ldQ arg2 harg2 x0) (ldK arg3 harg3 j hchk x1) (ldM arg6 harg6 x4) (slabC (ldC arg8 harg8 C 4))) (carryL 5 (ldQ arg2 harg2 x0) (ldK arg3 harg3 j hchk x1) (ldM arg6 harg6 x4) (slabC (ldC arg8 harg8 C 5))) (carryL 6 (ldQ arg2 harg2 x0) (ldK arg3 harg3 j hchk x1) (ldM arg6 harg6 x4) (slabC (ldC arg8 harg8 C 6))) (carryL 7 (ldQ arg2 harg2 x0) (ldK arg3 harg3 j hchk x1) (ldM arg6 harg6 x4) (slabC (ldC arg8 harg8 C 7))) := by
  unfold stepRun topOf k0_pay5; dsimp only; congr 5

end Cert.KernelIdeal.Hand

end
-- ==== Proof.V.First.lean ====
/-
  The body around the loop in the words of Canon.lean: what the first three blocks leave in the two scratch buffers, the
  largest running sum they pass to the loop, and the block of rows the body stores in the end.
-/
module

public import proofs.«01_k».proof.Proof.V.Trip
public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

variable (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x512 .f32) (harg5 : arg5.IsWhole) (arg6 : Memref sig .tc .vmem S256x256 .bf16) (harg6 : arg6.IsWhole) (arg7 : Memref sig .tc .vmem S128x512 .bf16) (harg7 : arg7.IsWhole) (arg8 : Memref sig .tc .vmem S8x128x128 .f32) (harg8 : arg8.IsWhole) (arg9 : Memref sig .tc .vmem S8x128x64 .f32) (harg9 : arg9.IsWhole)
  (n : ℕ) (hn : At n (Scalar.subi (BitVec.ofNat 32 (i 1).val) 3#32))
  (x0 : Vec F S128x512 .bf16) (x1 : Vec F S4096x512 .bf16) (x2 : Vec F S4096x512 .bf16) (x3 : Vec F S1x512 .f32) (x4 : Vec F S256x256 .bf16)

/-- The key block (or value block) `b` before the diagonal one, -/
def ldF (b : Fin 3) : FVec F S128x512 .bf16 :=
  View.readAt (Elt F) arg3.view (Rect.unit (s := S4096x512) (k0_off1 i (BitVec.ofNat 32 b.val)) S128x512.size (k0_off1_inb i b)).toLoadRect (harg3.unread x1)
/-- whether there are blocks one and two before the diagonal one, -/
def from1 : BitVec 1 := Scalar.cmpi .sge (BitVec.ofNat 32 (i 1).val) 1#32
def from2 : BitVec 1 := Scalar.cmpi .sge (BitVec.ofNat 32 (i 1).val) 2#32
/-- head `h`'s gains. -/
theorem gain_inb (h : Fin 8) : ∀ a, (![0, 64 * h.val] : Fin 2 → ℕ) a + S1x64.size a ≤ S1x512.size a := by revert h; decide
def ldG (h : Fin 8) : FVec F S1x64 .f32 :=
  View.readAt (Elt F) arg5.view (Rect.unit (s := S1x512) ![0, 64 * h.val] S1x64.size (gain_inb h)).toLoadRect (harg5.unread x3)

/-- Head `h`'s running sums of logarithms after the first three blocks, -/
def firstCarry (h : Fin 8) : FVec F S128x128 .f32 :=
  carryF (from1 i) (from2 i) (hd h (ldQ arg2 harg2 x0)) (hd h (ldF i arg3 harg3 x1 0)) (hd h (ldF i arg3 harg3 x1 1)) (hd h (ldF i arg3 harg3 x1 2)) (ldM arg6 harg6 x4)
/-- and of weighted values. -/
def firstAcc (h : Fin 8) : FVec F S128x64 .f32 :=
  accF (from1 i) (from2 i) (hd h (ldQ arg2 harg2 x0)) (hd h (ldF i arg3 harg3 x1 0)) (hd h (ldF i arg3 harg3 x1 1)) (hd h (ldF i arg3 harg3 x1 2)) (hd h (ldF i arg4 harg4 x2 0)) (hd h (ldF i arg4 harg4 x2 1)) (hd h (ldF i arg4 harg4 x2 2)) (ldM arg6 harg6 x4)

/-- The slabs of logarithms' sums stored before the loop, the last head first; -/
def firstLC : List (View.Piece (Elt F) S8x128x128 .f32) :=
    [⟨Rect.unit ![7, 0, 0] S1x128x128.size (slab_inbC 7), unslabC (firstCarry i arg2 harg2 arg3 harg3 arg6 harg6 x0 x1 x4 7)⟩,
      ⟨Rect.unit ![6, 0, 0] S1x128x128.size (slab_inbC 6), unslabC (firstCarry i arg2 harg2 arg3 harg3 arg6 harg6 x0 x1 x4 6)⟩,
      ⟨Rect.unit ![5, 0, 0] S1x128x128.size (slab_inbC 5), unslabC (firstCarry i arg2 harg2 arg3 harg3 arg6 harg6 x0 x1 x4 5)⟩,
      ⟨Rect.unit ![4, 0, 0] S1x128x128.size (slab_inbC 4), unslabC (firstCarry i arg2 harg2 arg3 harg3 arg6 harg6 x0 x1 x4 4)⟩,
      ⟨Rect.unit ![3, 0, 0] S1x128x128.size (slab_inbC 3), unslabC (firstCarry i arg2 harg2 arg3 harg3 arg6 harg6 x0 x1 x4 3)⟩,
      ⟨Rect.unit ![2, 0, 0] S1x128x128.size (slab_inbC 2), unslabC (firstCarry i arg2 harg2 arg3 harg3 arg6 harg6 x0 x1 x4 2)⟩,
      ⟨Rect.unit ![1, 0, 0] S1x128x128.size (slab_inbC 1), unslabC (firstCarry i arg2 harg2 arg3 harg3 arg6 harg6 x0 x1 x4 1)⟩,
      ⟨Rect.unit ![0, 0, 0] S1x128x128.size (slab_inbC 0), unslabC (firstCarry i arg2 harg2 arg3 harg3 arg6 harg6 x0 x1 x4 0)⟩]
/-- the slabs of weighted values' sums; -/
def firstLA : List (View.Piece (Elt F) S8x128x64 .f32) :=
    [⟨Rect.unit ![7, 0, 0] S1x128x64.size (slab_inbA 7), unslabA (firstAcc i arg2 harg2 arg3 harg3 arg4 harg4 arg6 harg6 x0 x1 x2 x4 7)⟩,
      ⟨Rect.unit ![6, 0, 0] S1x128x64.size (slab_inbA 6), unslabA (firstAcc i arg2 harg2 arg3 harg3 arg4 harg4 arg6 harg6 x0 x1 x2 x4 6)⟩,
      ⟨Rect.unit ![5, 0, 0] S1x128x64.size (slab_inbA 5), unslabA (firstAcc i arg2 harg2 arg3 harg3 arg4 harg4 arg6 harg6 x0 x1 x2 x4 5)⟩,
      ⟨Rect.unit ![4, 0, 0] S1x128x64.size (slab_inbA 4), unslabA (firstAcc i arg2 harg2 arg3 harg3 arg4 harg4 arg6 harg6 x0 x1 x2 x4 4)⟩,
      ⟨Rect.unit ![3, 0, 0] S1x128x64.size (slab_inbA 3), unslabA (firstAcc i arg2 harg2 arg3 harg3 arg4 harg4 arg6 harg6 x0 x1 x2 x4 3)⟩,
      ⟨Rect.unit ![2, 0, 0] S1x128x64.size (slab_inbA 2), unslabA (firstAcc i arg2 harg2 arg3 harg3 arg4 harg4 arg6 harg6 x0 x1 x2 x4 2)⟩,
      ⟨Rect.unit ![1, 0, 0] S1x128x64.size (slab_inbA 1), unslabA (firstAcc i arg2 harg2 arg3 harg3 arg4 harg4 arg6 harg6 x0 x1 x2 x4 1)⟩,
      ⟨Rect.unit ![0, 0, 0] S1x128x64.size (slab_inbA 0), unslabA (firstAcc i arg2 harg2 arg3 harg3 arg4 harg4 arg6 harg6 x0 x1 x2 x4 0)⟩]
/-- and the largest running sum. -/
def firstM : F .f32 :=
  topOf (firstCarry i arg2 harg2 arg3 harg3 arg6 harg6 x0 x1 x4 0) (firstCarry i arg2 harg2 arg3 harg3 arg6 harg6 x0 x1 x4 1) (firstCarry i arg2 harg2 arg3 harg3 arg6 harg6 x0 x1 x4 2) (firstCarry i arg2 harg2 arg3 harg3 arg6 harg6 x0 x1 x4 3) (firstCarry i arg2 harg2 arg3 harg3 arg6 harg6 x0 x1 x4 4) (firstCarry i arg2 harg2 arg3 harg3 arg6 harg6 x0 x1 x4 5) (firstCarry i arg2 harg2 arg3 harg3 arg6 harg6 x0 x1 x4 6) (firstCarry i arg2 harg2 arg3 harg3 arg6 harg6 x0 x1 x4 7)

/-- The two scratch buffers after the loop, -/
def lastCA : Vec F S8x128x128 .f32 × Vec F S8x128x64 .f32 :=
  iter c i arg2 harg2 arg3 harg3 arg4 harg4 arg6 harg6 arg8 harg8 arg9 harg9 x0 x1 x2 x4 n
    (firstM i arg2 harg2 arg3 harg3 arg6 harg6 x0 x1 x4)
    (canC (firstLC i arg2 harg2 arg3 harg3 arg6 harg6 x0 x1 x4))
    (canA (firstLA i arg2 harg2 arg3 harg3 arg4 harg4 arg6 harg6 x0 x1 x2 x4))
/-- and head `h`'s normalised sums. -/
def lastOut (h : Fin 8) : FVec F S128x64 .f32 :=
  rms (slabA (ldA arg9 harg9 (lastCA c i arg2 harg2 arg3 harg3 arg4 harg4 arg6 harg6 arg8 harg8 arg9 harg9 n x0 x1 x2 x4).2 h)) (ldG arg5 harg5 x3 h)

set_option maxHeartbeats 8000000 in
/-- The one block of rows the body stores. -/
theorem body_L5 : (kernelRun c i arg2 harg2 arg3 harg3 arg4 harg4 arg5 harg5 arg6 harg6 arg7 harg7 arg8 harg8 arg9 harg9 n hn x0 x1 x2 x3 x4).1 =
    [⟨Rect.unit ![0, 0] S128x512.size inb_S128x512_S128x512_0_0,
      rowsOf (lastOut c i arg2 harg2 arg3 harg3 arg4 harg4 arg5 harg5 arg6 harg6 arg8 harg8 arg9 harg9 n x0 x1 x2 x3 x4 0) (lastOut c i arg2 harg2 arg3 harg3 arg4 harg4 arg5 harg5 arg6 harg6 arg8 harg8 arg9 harg9 n x0 x1 x2 x3 x4 1) (lastOut c i arg2 harg2 arg3 harg3 arg4 harg4 arg5 harg5 arg6 harg6 arg8 harg8 arg9 harg9 n x0 x1 x2 x3 x4 2) (lastOut c i arg2 harg2 arg3 harg3 arg4 harg4 arg5 harg5 arg6 harg6 arg8 harg8 arg9 harg9 n x0 x1 x2 x3 x4 3) (lastOut c i arg2 harg2 arg3 harg3 arg4 harg4 arg5 harg5 arg6 harg6 arg8 harg8 arg9 harg9 n x0 x1 x2 x3 x4 4) (lastOut c i arg2 harg2 arg3 harg3 arg4 harg4 arg5 harg5 arg6 harg6 arg8 harg8 arg9 harg9 n x0 x1 x2 x3 x4 5) (lastOut c i arg2 harg2 arg3 harg3 arg4 harg4 arg5 harg5 arg6 harg6 arg8 harg8 arg9 harg9 n x0 x1 x2 x3 x4 6) (lastOut c i arg2 harg2 arg3 harg3 arg4 harg4 arg5 harg5 arg6 harg6 arg8 harg8 arg9 harg9 n x0 x1 x2 x3 x4 7)⟩] := by
  unfold kernelRun; dsimp only; rfl

end Cert.KernelIdeal.Hand

end
-- ==== Proof.V.Read.lean ====
/-
  The loads and the scratch buffers at an element: what a load reads, and what the eight slabs stored into a scratch leave
  in each of its rows.
-/
module

public import proofs.«01_k».proof.Proof.V.First
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

section Loads

variable (i : grid0.Coords) (arg2 : Memref sig .tc .vmem S128x512 .bf16) (harg2 : arg2.IsWhole) (arg3 : Memref sig .tc .vmem S4096x512 .bf16) (harg3 : arg3.IsWhole)
  (arg5 : Memref sig .tc .vmem S1x512 .f32) (harg5 : arg5.IsWhole) (arg6 : Memref sig .tc .vmem S256x256 .bf16) (harg6 : arg6.IsWhole)
  (arg8 : Memref sig .tc .vmem S8x128x128 .f32) (harg8 : arg8.IsWhole) (arg9 : Memref sig .tc .vmem S8x128x64 .f32) (harg9 : arg9.IsWhole)
  (x0 : Vec F S128x512 .bf16) (x1 : Vec F S4096x512 .bf16) (x3 : Vec F S1x512 .f32) (x4 : Vec F S256x256 .bf16)
  (C : Vec F S8x128x128 .f32) (A : Vec F S8x128x64 .f32)

/-- The queries' load reads the block, -/
theorem ldQ_apply (r : Fin 128) (d : Fin 512) : ldQ (F := F) arg2 harg2 x0 (ix2 r d) = x0 (ix2 r d) := by
  rw [ldQ, View.readAt_eq_ld, harg2.read_unread]; pointwise
/-- the matrix's the matrix, -/
theorem ldM_apply (r : Fin 256) (d : Fin 256) : ldM (F := F) arg6 harg6 x4 (ix2 r d) = x4 (ix2 r d) := by
  rw [ldM, View.readAt_eq_ld, harg6.read_unread]; pointwise
/-- the gains' a head's gains, -/
theorem ldG_apply (h : Fin 8) (d : Fin 64) :
    ldG (F := F) arg5 harg5 x3 h (ix2 0 d) = x3 (ix2 0 (⟨64 * h.val + d.val, by omega⟩ : Fin 512)) := by
  rw [ldG, View.readAt_eq_ld, harg5.read_unread]; pointwise
/-- a slab's the row of the scratch. -/
theorem ldC_apply (h : Fin 8) (r l : Fin 128) : slabC (ldC (F := F) arg8 harg8 C h) (ix2 r l) = C (ix3 h r l) := by
  rw [ldC, View.readAt_eq_ld, harg8.read_unread]; pointwise [slabC]
theorem ldA_apply (h : Fin 8) (r : Fin 128) (d : Fin 64) : slabA (ldA (F := F) arg9 harg9 A h) (ix2 r d) = A (ix3 h r d) := by
  rw [ldA, View.readAt_eq_ld, harg9.read_unread]; pointwise [slabA]

/-- The offsets of a trip's block of keys, -/
theorem off2_val : ∀ k < 32, k0_off2 (BitVec.ofNat 32 k) 0 = 128 * k ∧ k0_off2 (BitVec.ofNat 32 k) 1 = 0 := by decide
/-- and of the first blocks. -/
theorem off1_val : ∀ (n : Fin 32) (b : Fin 3), (128 * (n.val - b.val) = (Scalar.muli (Scalar.maxsi (Scalar.subi (BitVec.ofNat 32 n.val) (BitVec.ofNat 32 b.val)) 0#32) 128#32).toNat) := by decide

/-- A trip's block of keys at an element, -/
theorem ldK_apply (k : ℕ) (hk : k < 32) (r : Fin 128) (d : Fin 512) :
    ldK (F := F) arg3 harg3 (BitVec.ofNat 32 k) (chk_of_lt k hk) x1 (ix2 r d) = x1 (ix2 (⟨128 * k + r.val, by omega⟩ : Fin 4096) d) := by
  rw [ldK, View.readAt_eq_ld, harg3.read_unread]; pointwise
  congr 2
  · exact Fin.ext (by have := (off2_val k hk).1; simp only; omega)
  · exact Fin.ext (by have := (off2_val k hk).2; simp only; omega)
/-- and a first block. -/
theorem ldF_apply (b : Fin 3) (r : Fin 128) (d : Fin 512) :
    ldF (F := F) i arg3 harg3 x1 b (ix2 r d)
      = x1 (ix2 (⟨128 * ((i 1).val - b.val) + r.val, by have : (i 1).val < 32 := (i 1).isLt; omega⟩ : Fin 4096) d) := by
  rw [ldF, View.readAt_eq_ld, harg3.read_unread]; pointwise
  congr 2
  · exact Fin.ext (by
      have h := off1_val (i 1) b
      change BitVec.toNat (Scalar.muli (Scalar.maxsi (Scalar.subi (BitVec.ofNat 32 (i 1).val) (BitVec.ofNat 32 b.val)) 0#32) 128#32) + r.val = 128 * ((i 1).val - b.val) + r.val
      omega)
  · exact Fin.ext (by change 0 + d.val = d.val; omega)

end Loads

/-- A slab at an element of the scratch is the block at its row and lane. -/
theorem unslabC_eq (h : Fin 8) (r : Fin 128) (l : Fin 128) (x : S1x128x128.Idx) (k : Fin 8) (e0 : h.val = k.val)
    (e1 : r.val = (x 1).val) (e2 : l.val = (x 2).val) (p : Fin 8 → FVec F S128x128 .f32) : unslabC (p k) x = p h (ix2 r l) := by
  obtain rfl : h = k := Fin.ext e0
  pointwise [unslabC]
  congr 2
  · exact Fin.ext e1.symm
  · exact Fin.ext e2.symm
/-- Eight slabs stored one per row leave row `h` at the slab `h`. -/
theorem canC_rows (p : Fin 8 → FVec F S128x128 .f32) (L : List (View.Piece (Elt F) S8x128x128 .f32))
    (hL : L = [⟨Rect.unit ![7, 0, 0] S1x128x128.size (slab_inbC 7), unslabC (p 7)⟩, ⟨Rect.unit ![6, 0, 0] S1x128x128.size (slab_inbC 6), unslabC (p 6)⟩, ⟨Rect.unit ![5, 0, 0] S1x128x128.size (slab_inbC 5), unslabC (p 5)⟩, ⟨Rect.unit ![4, 0, 0] S1x128x128.size (slab_inbC 4), unslabC (p 4)⟩, ⟨Rect.unit ![3, 0, 0] S1x128x128.size (slab_inbC 3), unslabC (p 3)⟩, ⟨Rect.unit ![2, 0, 0] S1x128x128.size (slab_inbC 2), unslabC (p 2)⟩, ⟨Rect.unit ![1, 0, 0] S1x128x128.size (slab_inbC 1), unslabC (p 1)⟩, ⟨Rect.unit ![0, 0, 0] S1x128x128.size (slab_inbC 0), unslabC (p 0)⟩])
    (h : Fin 8) (r : Fin 128) (l : Fin 128) : canC L (ix3 h r l) = p h (ix2 r l) := by
  subst hL
  rw [canC, View.read_writes_junk_eq_canon]
  canon_tiles x hx
  · exact unslabC_eq _ _ _ _ 7 (by change h.val = _ at hx0; omega) hx1 hx2 p
  · exact unslabC_eq _ _ _ _ 6 (by change h.val = _ at hx0; omega) hx1 hx2 p
  · exact unslabC_eq _ _ _ _ 5 (by change h.val = _ at hx0; omega) hx1 hx2 p
  · exact unslabC_eq _ _ _ _ 4 (by change h.val = _ at hx0; omega) hx1 hx2 p
  · exact unslabC_eq _ _ _ _ 3 (by change h.val = _ at hx0; omega) hx1 hx2 p
  · exact unslabC_eq _ _ _ _ 2 (by change h.val = _ at hx0; omega) hx1 hx2 p
  · exact unslabC_eq _ _ _ _ 1 (by change h.val = _ at hx0; omega) hx1 hx2 p
  · exact unslabC_eq _ _ _ _ 0 (by change h.val = _ at hx0; omega) hx1 hx2 p

/-- A slab at an element of the scratch is the block at its row and lane. -/
theorem unslabA_eq (h : Fin 8) (r : Fin 128) (l : Fin 64) (x : S1x128x64.Idx) (k : Fin 8) (e0 : h.val = k.val)
    (e1 : r.val = (x 1).val) (e2 : l.val = (x 2).val) (p : Fin 8 → FVec F S128x64 .f32) : unslabA (p k) x = p h (ix2 r l) := by
  obtain rfl : h = k := Fin.ext e0
  pointwise [unslabA]
  congr 2
  · exact Fin.ext e1.symm
  · exact Fin.ext e2.symm
/-- Eight slabs stored one per row leave row `h` at the slab `h`. -/
theorem canA_rows (p : Fin 8 → FVec F S128x64 .f32) (L : List (View.Piece (Elt F) S8x128x64 .f32))
    (hL : L = [⟨Rect.unit ![7, 0, 0] S1x128x64.size (slab_inbA 7), unslabA (p 7)⟩, ⟨Rect.unit ![6, 0, 0] S1x128x64.size (slab_inbA 6), unslabA (p 6)⟩, ⟨Rect.unit ![5, 0, 0] S1x128x64.size (slab_inbA 5), unslabA (p 5)⟩, ⟨Rect.unit ![4, 0, 0] S1x128x64.size (slab_inbA 4), unslabA (p 4)⟩, ⟨Rect.unit ![3, 0, 0] S1x128x64.size (slab_inbA 3), unslabA (p 3)⟩, ⟨Rect.unit ![2, 0, 0] S1x128x64.size (slab_inbA 2), unslabA (p 2)⟩, ⟨Rect.unit ![1, 0, 0] S1x128x64.size (slab_inbA 1), unslabA (p 1)⟩, ⟨Rect.unit ![0, 0, 0] S1x128x64.size (slab_inbA 0), unslabA (p 0)⟩])
    (h : Fin 8) (r : Fin 128) (l : Fin 64) : canA L (ix3 h r l) = p h (ix2 r l) := by
  subst hL
  rw [canA, View.read_writes_junk_eq_canon]
  canon_tiles x hx
  · exact unslabA_eq _ _ _ _ 7 (by change h.val = _ at hx0; omega) hx1 hx2 p
  · exact unslabA_eq _ _ _ _ 6 (by change h.val = _ at hx0; omega) hx1 hx2 p
  · exact unslabA_eq _ _ _ _ 5 (by change h.val = _ at hx0; omega) hx1 hx2 p
  · exact unslabA_eq _ _ _ _ 4 (by change h.val = _ at hx0; omega) hx1 hx2 p
  · exact unslabA_eq _ _ _ _ 3 (by change h.val = _ at hx0; omega) hx1 hx2 p
  · exact unslabA_eq _ _ _ _ 2 (by change h.val = _ at hx0; omega) hx1 hx2 p
  · exact unslabA_eq _ _ _ _ 1 (by change h.val = _ at hx0; omega) hx1 hx2 p
  · exact unslabA_eq _ _ _ _ 0 (by change h.val = _ at hx0; omega) hx1 hx2 p

end Cert.KernelIdeal.Hand

end
-- ==== Proof.V.Scalar.lean ====
/-
  The mathematics of stick-breaking weights over the extended reals: the logarithms of the share a score keeps for
  earlier keys and of the share it takes, and one row's weights and weighted sums, as sums over intervals of keys.
-/
module

public import Idealize.ShloMosaic.Lib.Pointwise

@[expose] public section

noncomputable section

namespace Cert.Stick

open Idealize.ShloMosaic
open Finset

/-- `log (1 + exp z)`. -/
def spE (z : EReal) : EReal := max z 0 + Ideal.log (1 + Ideal.exp (0 - max z (-z)))
/-- The logarithm of what a score leaves to earlier keys, -/
def keepE (z : EReal) : EReal := 0 - spE z
/-- and of what it takes. -/
def tookE (z : EReal) : EReal := z - spE z

theorem coe_max (a b : ℝ) : ((max a b : ℝ) : EReal) = max (a : EReal) b := EReal.coe_strictMono.monotone.map_max

theorem spE_top : spE ⊤ = ⊤ := by
  simp [spE, sub_eq_add_neg]
  rw [show Ideal.log 1 = 0 by rw [← EReal.coe_one, Ideal.log_coe]; norm_num]; simp
theorem spE_bot : spE ⊥ = 0 := by
  simp [spE, sub_eq_add_neg]
  rw [← EReal.coe_one, Ideal.log_coe]; norm_num
theorem spE_coe (r : ℝ) : spE r = ((max r 0 + Real.log (1 + Real.exp (-|r|)) : ℝ) : EReal) := by
  have h1 : max (r : EReal) (-(r : EReal)) = ((|r| : ℝ) : EReal) := by
    rw [← EReal.coe_neg, ← coe_max]; rfl
  have h2 : (0 : EReal) - ((|r| : ℝ) : EReal) = ((-|r| : ℝ) : EReal) := by
    rw [← EReal.coe_zero, ← EReal.coe_sub]; simp
  have h3 : (1 : EReal) + ((Real.exp (-|r|) : ℝ) : EReal) = ((1 + Real.exp (-|r|) : ℝ) : EReal) := by
    rw [← EReal.coe_one, ← EReal.coe_add]
  have h4 : ¬ (1 + Real.exp (-|r|) ≤ 0) := by have := Real.exp_pos (-|r|); linarith
  rw [spE, h1, h2, Ideal.exp_coe, h3, Ideal.log_coe, if_neg h4, ← EReal.coe_zero, ← coe_max, ← EReal.coe_add]

theorem keepE_top : keepE ⊤ = ⊥ := by simp [keepE, spE_top, sub_eq_add_neg]
theorem keepE_bot : keepE ⊥ = 0 := by simp [keepE, spE_bot]
theorem keepE_coe (r : ℝ) : keepE r = ((-(max r 0 + Real.log (1 + Real.exp (-|r|))) : ℝ) : EReal) := by
  rw [keepE, spE_coe, ← EReal.coe_zero, ← EReal.coe_sub]; simp
theorem tookE_top : tookE ⊤ = ⊥ := by simp [tookE, spE_top, sub_eq_add_neg]
theorem tookE_bot : tookE ⊥ = ⊥ := by simp [tookE, spE_bot]
theorem tookE_coe (r : ℝ) : tookE r = ((r - (max r 0 + Real.log (1 + Real.exp (-|r|))) : ℝ) : EReal) := by
  rw [tookE, spE_coe, ← EReal.coe_sub]

/-- What a score keeps is never `+∞`. -/
theorem keepE_ne_top (z : EReal) : keepE z ≠ ⊤ := by
  induction z with
  | bot => rw [keepE_bot]; exact EReal.zero_ne_top
  | top => rw [keepE_top]; exact bot_ne_top
  | coe r => rw [keepE_coe]; exact EReal.coe_ne_top _

/-- A number that is not `+∞` is its rounded half plus the rest, the rounding being none. -/
theorem half_rest {x : EReal} (h : x ≠ ⊤) : x + (x - x) = x := by
  induction x with
  | bot => simp
  | top => exact absurd rfl h
  | coe r => rw [← EReal.coe_sub, ← EReal.coe_add]; simp

/-- The weight's logarithm by the difference of suffix sums is the one by the sum over the later keys. -/
theorem log_weight (z S : EReal) : -(spE (-z)) + ((keepE z + S) - keepE z) = tookE z + S := by
  induction z with
  | bot => simp [spE_top, tookE_bot]
  | top => simp [spE_bot, tookE_top, keepE_top]
  | coe r =>
    have hk : ∀ k : ℝ, ((k : EReal) + S) - (k : EReal) = S := by
      intro k
      induction S with
      | bot => simp
      | top => simp [sub_eq_add_neg, ← EReal.coe_neg]
      | coe s => rw [← EReal.coe_add, ← EReal.coe_sub]; simp
    rw [keepE_coe, hk, tookE_coe, ← EReal.coe_neg, spE_coe, ← EReal.coe_neg, abs_neg]
    congr 2
    rcases le_total r 0 with h | h
    · rw [max_eq_left (by linarith : (0:ℝ) ≤ -r), max_eq_right h]; ring
    · rw [max_eq_right (by linarith : -r ≤ (0:ℝ)), max_eq_left h]; ring

/-! ## Sums over intervals of keys -/

/-- A block of 128 keys as an interval. -/
theorem sum_block (f : ℕ → EReal) (a : ℕ) : ∑ k : Fin 128, f (a + k.val) = ∑ s ∈ Ico a (a + 128), f s := by
  rw [Finset.sum_Ico_eq_sum_range, Nat.add_sub_cancel_left, ← Fin.sum_univ_eq_sum_range (fun k => f (a + k))]
/-- The keys of an interval after one of them. -/
theorem sum_after (f : ℕ → EReal) {a b c : ℕ} (h : a ≤ c + 1) :
    ∑ s ∈ Ico a b, (if c < s then f s else 0) = ∑ s ∈ Ico (c + 1) b, f s := by
  rw [← Finset.sum_filter]; congr 1; ext s; simp only [mem_filter, mem_Ico]; omega
/-- The keys of an interval before one of them. -/
theorem sum_before (f : ℕ → EReal) {a b t : ℕ} (h : t ≤ b) :
    ∑ s ∈ Ico a b, (if s < t then f s else 0) = ∑ s ∈ Ico a t, f s := by
  rw [← Finset.sum_filter]; congr 1; ext s; simp only [mem_filter, mem_Ico]; omega

/-- The logarithms kept by the keys after `s` and before `t`. -/
def later (z : ℕ → EReal) (t s : ℕ) : EReal := ∑ j ∈ Ico (s + 1) t, keepE (z j)
/-- The weight of key `s` for the query at `t`. -/
def wt (z : ℕ → EReal) (t s : ℕ) : EReal := Ideal.exp (tookE (z s) + later z t s)

/-- Over a block that lies before the keys already summed, -/
theorem later_block (z : ℕ → EReal) {t a s : ℕ} (hs : a ≤ s) (hb : s < a + 128) (ht : a + 128 ≤ t) :
    (∑ j ∈ Ico (s + 1) (a + 128), keepE (z j)) + ∑ j ∈ Ico (a + 128) t, keepE (z j) = later z t s :=
  Finset.sum_Ico_consecutive _ (by omega) ht

/-- If the keys from `n` on keep nothing, the earlier ones have no weight. -/
theorem wt_dead (z : ℕ → EReal) {n t s : ℕ} (hs : s < n) (hn : n ≤ t) (hd : ∑ j ∈ Ico n t, keepE (z j) = ⊥) : wt z t s = 0 := by
  rw [wt, later, ← Finset.sum_Ico_consecutive _ (by omega : s + 1 ≤ n) hn, hd]; simp

/-- So the sum over the keys from `n` on is the sum over all. -/
theorem sum_dead (z v : ℕ → EReal) {n t : ℕ} (hn : n ≤ t) (hd : ∑ j ∈ Ico n t, keepE (z j) = ⊥) :
    ∑ s ∈ Ico n t, wt z t s * v s = ∑ s ∈ Ico 0 t, wt z t s * v s := by
  rw [← Finset.sum_Ico_consecutive _ (Nat.zero_le n) hn, Finset.sum_eq_zero (s := Ico 0 n), zero_add]
  intro s hs
  rw [wt_dead z (Finset.mem_Ico.mp hs).2 hn hd, zero_mul]

end Cert.Stick

end
-- ==== Proof.V.Block.lean ====
/-
  The words of Canon.lean at an element, over the extended reals: scores are sums of products, the product with the matrix
  of ones gives totals and sums over the later keys, and a head's block adds its keys to the running sums.
-/
module

public import proofs.«01_k».proof.Proof.V.Canon
public import proofs.«01_k».proof.Proof.V.Scalar

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic
open Finset

/-- A score at an element. -/
theorem zOf_apply (q k : FVec Ideal S128x64 .bf16) (r s : Fin 128) :
    zOf (F := Ideal) q k (ix2 r s) = ∑ d : Fin 64, (q (ix2 r d) * k (ix2 s d) : EReal) := by
  pointwise [zOf]

/-- A head's columns at an element. -/
theorem hd_apply (h : Fin 8) (x : FVec Ideal S128x512 .bf16) (r : Fin 128) (d : Fin 64) :
    hd (F := Ideal) h x (ix2 r d) = x (ix2 r (⟨64 * h.val + d.val, by omega⟩ : Fin 512)) := by
  pointwise [hd]

/-- The logarithm a score takes, -/
theorem took_apply (z : FVec Ideal S128x128 .f32) (r s : Fin 128) :
    took (F := Ideal) z (ix2 r s) = tookE (z (ix2 r s)) := by
  pointwise [took, sp, zero128]; rfl
/-- and the one it keeps. -/
theorem keep_apply (z : FVec Ideal S128x128 .f32) (r s : Fin 128) :
    keep (F := Ideal) z (ix2 r s) = keepE (z (ix2 r s)) := by
  pointwise [keep, sp, zero128]; rfl

/-- The matrix of ones: ones in the first 128 columns; in column `128 + s` a one where the row, modulo 128, is after `s`. -/
def IsOnes (mm : FVec Ideal S256x256 .bf16) : Prop :=
  ∀ k c : Fin 256, mm (ix2 k c) = (if c.val < 128 ∨ c.val - 128 < k.val % 128 then (1 : EReal) else 0)

/-- The totals at an element, -/
theorem tot_apply {mm : FVec Ideal S256x256 .bf16} (hm : IsOnes mm) (lk : FVec Ideal S128x128 .f32) (r c : Fin 128)
    (h : ∀ s : Fin 128, (lk (ix2 r s) : EReal) ≠ ⊤) :
    tot (F := Ideal) lk mm (ix2 r c) = ∑ s : Fin 128, (lk (ix2 r s) : EReal) := by
  pointwise [tot, sums, halves]
  rw [← Finset.sum_add_distrib]
  refine Finset.sum_congr rfl fun s _ => ?_
  rw [hm, hm, if_pos (Or.inl c.isLt), if_pos (Or.inl c.isLt)]
  exact (congrArg₂ (· + ·) (mul_one _) (mul_one _)).trans (half_rest (h s))
/-- and the sums over the later keys. -/
theorem suf_apply {mm : FVec Ideal S256x256 .bf16} (hm : IsOnes mm) (lk : FVec Ideal S128x128 .f32) (r c : Fin 128)
    (h : ∀ s : Fin 128, (lk (ix2 r s) : EReal) ≠ ⊤) :
    suf (F := Ideal) lk mm (ix2 r c) = ∑ s : Fin 128, (if c.val < s.val then (lk (ix2 r s) : EReal) else 0) := by
  pointwise [suf, sums, halves]
  rw [← Finset.sum_add_distrib]
  refine Finset.sum_congr rfl fun s _ => ?_
  rw [hm, hm]
  have e1 : (128 + c.val < 128 ∨ 128 + c.val - 128 < s.val % 128) ↔ c.val < s.val := by omega
  have e2 : (128 + c.val < 128 ∨ 128 + c.val - 128 < (128 + s.val) % 128) ↔ c.val < s.val := by omega
  simp only [e1, e2]
  by_cases hc : c.val < s.val
  · rw [if_pos hc, if_pos hc]
    exact (congrArg₂ (· + ·) (mul_one _) (mul_one _)).trans (half_rest (h s))
  · rw [if_neg hc, if_neg hc]
    exact (congrArg₂ (· + ·) (mul_zero _) (mul_zero _)).trans (add_zero _)

/-- The weighted values at an element. -/
theorem pv_apply (w : FVec Ideal S128x128 .f32) (v : FVec Ideal S128x64 .bf16) (r : Fin 128) (d : Fin 64) :
    pv (F := Ideal) w v (ix2 r d) = ∑ s : Fin 128, (w (ix2 r s) * v (ix2 s d) : EReal) := by
  pointwise [pv]

/-! ## A block before the ones already summed -/

section Row

variable {mm : FVec Ideal S256x256 .bf16} (hm : IsOnes mm) (z : FVec Ideal S128x128 .f32) (c : FVec Ideal S128x128 .f32)
  (r : Fin 128) (zf : ℕ → EReal) {t a : ℕ} (hz : ∀ s : Fin 128, z (ix2 r s) = zf (a + s.val))

include hm hz

/-- A block's total, -/
theorem tot_keep (l : Fin 128) : tot (F := Ideal) (keep z) mm (ix2 r l) = ∑ s ∈ Ico a (a + 128), keepE (zf s) := by
  rw [tot_apply hm _ _ _ fun s => by rw [keep_apply]; exact keepE_ne_top _, ← sum_block (fun s => keepE (zf s))]
  exact Finset.sum_congr rfl fun s _ => by rw [keep_apply, hz]
/-- and its sum over the keys after one. -/
theorem suf_keep (l : Fin 128) : suf (F := Ideal) (keep z) mm (ix2 r l) = ∑ s ∈ Ico (a + l.val + 1) (a + 128), keepE (zf s) := by
  rw [suf_apply hm _ _ _ fun s => by rw [keep_apply]; exact keepE_ne_top _,
    ← sum_after _ (by omega : a ≤ a + l.val + 1), ← sum_block (fun s => if a + l.val < s then keepE (zf s) else 0)]
  refine Finset.sum_congr rfl fun s _ => ?_
  rw [keep_apply, hz]
  simp only [Nat.add_lt_add_iff_left]

variable (ht : a + 128 ≤ t) (hc : ∀ l : Fin 128, c (ix2 r l) = ∑ s ∈ Ico (a + 128) t, keepE (zf s))

include ht hc

/-- The running sum then starts at the block. -/
theorem carry_row (l : Fin 128) : addf c (tot (F := Ideal) (keep z) mm) (ix2 r l) = ∑ s ∈ Ico a t, keepE (zf s) := by
  rw [addf_apply, tot_keep hm z r zf hz, hc]
  exact (add_comm _ _).trans (Finset.sum_Ico_consecutive _ (by omega) ht)

/-- The weights are those of the keys of the block. -/
theorem weight_row (l : Fin 128) :
    exp (addf (addf (took z) (suf (F := Ideal) (keep z) mm)) c) (ix2 r l) = wt zf t (a + l.val) := by
  pointwise
  rw [took_apply, suf_keep hm z r zf hz, hc, hz, wt, ← later_block zf (by omega : a ≤ a + l.val) (by omega) ht]
  exact congrArg Ideal.exp (add_assoc _ _ _)

omit hm hz ht hc in
/-- The weighted values of a block's keys join those of the later keys. -/
theorem acc_row (w : FVec Ideal S128x128 .f32) (v : FVec Ideal S128x64 .bf16) (A : FVec Ideal S128x64 .f32) (d : Fin 64) (vf wf : ℕ → EReal) {b : ℕ}
    (hb : a + 128 ≤ b) (hw : ∀ s : Fin 128, w (ix2 r s) = wf (a + s.val)) (hv : ∀ s : Fin 128, v (ix2 s d) = vf (a + s.val))
    (hA : A (ix2 r d) = ∑ s ∈ Ico (a + 128) b, wf s * vf s) :
    addf A (pv (F := Ideal) w v) (ix2 r d) = ∑ s ∈ Ico a b, wf s * vf s := by
  rw [addf_apply, pv_apply, hA, ← Finset.sum_Ico_consecutive _ (by omega : a ≤ a + 128) hb, ← sum_block (fun s => wf s * vf s)]
  refine (add_comm _ _).trans (congrArg (· + _) ?_)
  exact Finset.sum_congr rfl fun s _ => by rw [hw, hv]

end Row

end Cert.KernelIdeal.Hand

end
-- ==== Proof.V.Start.lean ====
/-
  The first three blocks at an element, over the extended reals: the diagonal block counts the keys before the query, a
  further block counts whole or not at all, and together they leave the sums over the keys from two blocks back on.
-/
module

public import proofs.«01_k».proof.Proof.V.Block

@[expose] public section

set_option maxRecDepth 16384

noncomputable section

namespace Cert.KernelIdeal.Hand

open Cert.KernelIdeal Cert.KernelIdeal.Gen Cert.Stick
open Idealize.ShloMosaic Idealize.ShloMosaic.TcCoe Idealize.ShloMosaic.Tactic
open Finset

/-- The diagonal mask is the order of column and row. -/
theorem diag_word : ∀ r s : Fin 128,
    IntOp.cmpi CmpIPredicate.slt (BitVec.ofNat 32 s.val) (BitVec.ofNat 32 r.val) = if s.val < r.val then 1#1 else 0#1 := by
  decide +kernel

/-- A selection under the diagonal mask at an element. -/
theorem diag_select (x y : FVec Ideal S128x128 .f32) (r s : Fin 128) :
    select diag x y (ix2 r s) = if s.val < r.val then x (ix2 r s) else y (ix2 r s) := by
  pointwise [diag, k0_pay6]
  rw [diag_word]
  by_cases h : s.val < r.val
  · rw [if_pos h, if_pos h]; rfl
  · rw [if_neg h, if_neg h]; rfl

theorem zero128_apply (r s : Fin 128) : zero128 (F := Ideal) (ix2 r s) = (0 : EReal) := by pointwise [zero128]

/-- The masked logarithms of the diagonal block at an element. -/
theorem keep0_apply (z : FVec Ideal S128x128 .f32) (r s : Fin 128) :
    keep0 (F := Ideal) z (ix2 r s) = if s.val < r.val then keepE (z (ix2 r s)) else 0 := by
  rw [keep0, diag_select, keep_apply, zero128_apply]

theorem keep0_ne_top (z : FVec Ideal S128x128 .f32) (r s : Fin 128) : (keep0 (F := Ideal) z (ix2 r s) : EReal) ≠ ⊤ := by
  rw [keep0_apply]; split
  · exact keepE_ne_top _
  · exact EReal.zero_ne_top

section Row

variable {mm : FVec Ideal S256x256 .bf16} (hm : IsOnes mm) (z : FVec Ideal S128x128 .f32)
  (r : Fin 128) (zf : ℕ → EReal) {a : ℕ} (hz : ∀ s : Fin 128, z (ix2 r s) = zf (a + s.val))

include hm hz

/-- The diagonal block's total is the sum over its keys before the query, -/
theorem carry0_row (l : Fin 128) : carry0 (F := Ideal) z mm (ix2 r l) = ∑ s ∈ Ico a (a + r.val), keepE (zf s) := by
  rw [carry0, tot_apply hm _ _ _ (keep0_ne_top z r), ← sum_before (b := a + 128) _ (by omega),
    ← sum_block (fun s => if s < a + r.val then keepE (zf s) else 0)]
  refine Finset.sum_congr rfl fun s _ => ?_
  rw [keep0_apply, hz]; simp only [Nat.add_lt_add_iff_left]

/-- and its weights are those of the keys before the query, zero for the others. -/
theorem weight0_row (l : Fin 128) :
    weight0 (F := Ideal) z mm (ix2 r l) = if a + l.val < a + r.val then wt zf (a + r.val) (a + l.val) else 0 := by
  rw [weight0, diag_select, zero128_apply]
  simp only [Nat.add_lt_add_iff_left]
  refine if_congr Iff.rfl ?_ rfl
  pointwise
  rw [took_apply, suf_apply hm _ _ _ (keep0_ne_top z r), hz, wt, later, ← sum_before (b := a + 128) _ (by omega : a + r.val ≤ a + 128),
    ← sum_after _ (by omega : a ≤ a + l.val + 1), ← sum_block (fun s => if a + l.val < s then (if s < a + r.val then keepE (zf s) else 0) else 0)]
  refine congrArg (fun x => Ideal.exp (_ + x)) (Finset.sum_congr rfl fun s _ => ?_)
  rw [keep0_apply, hz]; simp only [Nat.add_lt_add_iff_left]

/-- The diagonal block's weighted values. -/
theorem acc0_row (v : FVec Ideal S128x64 .bf16) (d : Fin 64) (vf : ℕ → EReal) (hv : ∀ s : Fin 128, v (ix2 s d) = vf (a + s.val)) :
    pv (F := Ideal) (weight0 z mm) v (ix2 r d) = ∑ s ∈ Ico a (a + r.val), wt zf (a + r.val) s * vf s := by
  rw [pv_apply, ← sum_before (b := a + 128) _ (by omega : a + r.val ≤ a + 128),
    ← sum_block (fun s => if s < a + r.val then wt zf (a + r.val) s * vf s else 0)]
  refine Finset.sum_congr rfl fun s _ => ?_
  rw [weight0_row hm z r zf hz, hv]
  split
  · rfl
  · exact zero_mul _

omit hm hz
variable (c : FVec Ideal S128x128 .f32) (b : BitVec 1)

/-- A block not taken leaves the running sum, -/
theorem carryB_off (hm : IsOnes mm) (l : Fin 128) : carryB (F := Ideal) 0#1 z mm c (ix2 r l) = c (ix2 r l) := by
  rw [carryB, addf_apply, tot_apply hm]
  · refine (congrArg (c (ix2 r l) + ·) (Finset.sum_eq_zero fun s _ => ?_)).trans (add_zero _)
    exact zero128_apply r s
  · intro s; rw [show keepB (F := Ideal) 0#1 z = zero128 from rfl, zero128_apply]; exact EReal.zero_ne_top
/-- and adds no weighted values. -/
theorem accB_off (v : FVec Ideal S128x64 .bf16) (A : FVec Ideal S128x64 .f32) (d : Fin 64) :
    addf A (pv (F := Ideal) (weightB 0#1 z mm c) v) (ix2 r d) = A (ix2 r d) := by
  rw [addf_apply, pv_apply]
  refine (congrArg (A (ix2 r d) + ·) (Finset.sum_eq_zero fun s _ => ?_)).trans (add_zero _)
  rw [show weightB (F := Ideal) 0#1 z mm c = zero128 from rfl, zero128_apply, zero_mul]

end Row

section Three

variable {mm : FVec Ideal S256x256 .bf16} (hm : IsOnes mm) (q k0 k1 k2 : FVec Ideal S128x64 .bf16)
  (r : Fin 128) (zf : ℕ → EReal) (i : ℕ) (b1 b2 : BitVec 1)
  (h1 : b1 = if 1 ≤ i then 1#1 else 0#1) (h2 : b2 = if 2 ≤ i then 1#1 else 0#1)
  (hz0 : ∀ s : Fin 128, zOf (F := Ideal) q k0 (ix2 r s) = zf (128 * i + s.val))
  (hz1 : 1 ≤ i → ∀ s : Fin 128, zOf (F := Ideal) q k1 (ix2 r s) = zf (128 * (i - 1) + s.val))
  (hz2 : 2 ≤ i → ∀ s : Fin 128, zOf (F := Ideal) q k2 (ix2 r s) = zf (128 * (i - 2) + s.val))

include hm h1 hz0 hz1

/-- The running sum after two blocks, -/
theorem carry1_row (l : Fin 128) :
    carryB (F := Ideal) b1 (zOf q k1) mm (carry0 (zOf q k0) mm) (ix2 r l)
      = ∑ s ∈ Ico (128 * (i - 1)) (128 * i + r.val), keepE (zf s) := by
  subst h1
  by_cases hi : 1 ≤ i
  · rw [if_pos hi]
    refine carry_row hm _ _ r zf (hz1 hi) (by omega) (fun l => ?_) l
    rw [carry0_row hm _ r zf hz0, show 128 * (i - 1) + 128 = 128 * i by omega]
  · rw [if_neg hi, carryB_off _ _ _ hm, carry0_row hm _ r zf hz0, show i - 1 = i by omega]

include h2 hz2

/-- after three, -/
theorem carryF_row (l : Fin 128) :
    carryF (F := Ideal) b1 b2 q k0 k1 k2 mm (ix2 r l) = ∑ s ∈ Ico (128 * (i - 2)) (128 * i + r.val), keepE (zf s) := by
  have hp := carry1_row hm q k0 k1 r zf i b1 h1 hz0 hz1
  rw [carryF]
  subst h2
  by_cases hi : 2 ≤ i
  · rw [if_pos hi]
    refine carry_row hm _ _ r zf (hz2 hi) (by omega) (fun l => ?_) l
    rw [hp, show 128 * (i - 2) + 128 = 128 * (i - 1) by omega]
  · rw [if_neg hi, carryB_off _ _ _ hm, hp, show i - 2 = i - 1 by omega]

/-- and the weighted values after three. -/
theorem accF_row (v0 v1 v2 : FVec Ideal S128x64 .bf16) (d : Fin 64) (vf : ℕ → EReal)
    (hv0 : ∀ s : Fin 128, v0 (ix2 s d) = vf (128 * i + s.val))
    (hv1 : 1 ≤ i → ∀ s : Fin 128, v1 (ix2 s d) = vf (128 * (i - 1) + s.val))
    (hv2 : 2 ≤ i → ∀ s : Fin 128, v2 (ix2 s d) = vf (128 * (i - 2) + s.val)) :
    accF (F := Ideal) b1 b2 q k0 k1 k2 v0 v1 v2 mm (ix2 r d)
      = ∑ s ∈ Ico (128 * (i - 2)) (128 * i + r.val), wt zf (128 * i + r.val) s * vf s := by
  have hp := carry1_row hm q k0 k1 r zf i b1 h1 hz0 hz1
  have hA : addf (pv (F := Ideal) (weight0 (zOf q k0) mm) v0) (pv (weightB b1 (zOf q k1) mm (carry0 (zOf q k0) mm)) v1) (ix2 r d)
      = ∑ s ∈ Ico (128 * (i - 1)) (128 * i + r.val), wt zf (128 * i + r.val) s * vf s := by
    subst h1
    by_cases hi : 1 ≤ i
    · rw [if_pos hi]
      refine acc_row r _ v1 _ d vf _ (by omega) (fun s => ?_) (hv1 hi) ?_
      · refine weight_row hm _ _ r zf (hz1 hi) (by omega) (fun l => ?_) s
        rw [carry0_row hm _ r zf hz0, show 128 * (i - 1) + 128 = 128 * i by omega]
      · rw [acc0_row hm _ r zf hz0 v0 d vf hv0, show 128 * (i - 1) + 128 = 128 * i by omega]
    · rw [if_neg hi, accB_off, acc0_row hm _ r zf hz0 v0 d vf hv0, show i - 1 = i by omega]
  rw [accF]
  subst h2
  by_cases hi : 2 ≤ i
  · rw [if_pos hi]
    refine acc_row r _ v2 _ d vf _ (by omega) (fun s => ?_) (hv2 hi) ?_
    · refine weight_row hm _ _ r zf (hz2 hi) (by omega) (fun l => ?_) s
      rw [hp, show 128 * (i - 2) + 128 = 128 * (i - 1) by omega]
    · rw [hA, show 128 * (i - 2) + 128 = 128 * (i - 1) by omega]
  · rw [if_neg hi, accB_off, hA, show i - 2 = i - 1 by omega]

end Three

end Cert.KernelIdeal.Hand

end
-- ==== Proof.V.Inv.lean ====
/-
  The loop's invariant over the extended reals: with `n` blocks of keys left, the scratch buffers hold the sums over the
  keys from block `n` to the query. A trip moves the bound one block back; when every running sum is `-∞` the blocks
  left add nothing, so in the end the second scratch holds the sums over all the keys before the query.
-/
module

public import proofs.«01_k».proof.Proof.V.Read
public import proofs.«01_k».proof.Proof.V.Start

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Finset Cert.Stick

/-! ## The largest running sum -/

/-- The name of the loop's limit is `-∞`. -/
theorem dead_eq : (Named.named (F := Ideal) κ "dead" 0xC2D00000#32 : Ideal .f32) = (⊥ : EReal) := rfl

/-- The loop stops before a block only when the largest running sum is `-∞`. -/
theorem bot_of_stop (k : ℕ) (hk : k < 32) (a : Ideal .f32) (h : ¬ test (F := Ideal) (BitVec.ofNat 32 k) a = 1#1) : a = (⊥ : EReal) := by
  unfold test at h
  have e : ∀ k < 32, Scalar.cmpi .sge (BitVec.ofNat 32 k) 0#32 = 1#1 := by decide
  rw [e k hk, dead_eq] at h
  by_contra hne
  apply h
  pointwise
  rw [decide_eq_true (bot_lt_iff_ne_bot.mpr hne)]; rfl

/-- If the largest is `-∞` they all are. -/
theorem all_bot (p : Fin 8 → FVec Ideal S128x128 .f32) (h : topOf (F := Ideal) (p 0) (p 1) (p 2) (p 3) (p 4) (p 5) (p 6) (p 7) = (⊥ : EReal))
    (g : Fin 8) (r l : Fin 128) : p g (ix2 r l) = (⊥ : EReal) := by
  revert h; pointwise [topOf]; intro h
  have h1 := ((Finset.fold_max_le _).mp h.le).2 (r, l) (Finset.mem_univ _)
  simp only [max_le_iff] at h1
  obtain ⟨⟨⟨⟨⟨⟨⟨h0, h1⟩, h2⟩, h3⟩, h4⟩, h5⟩, h6⟩, h7⟩ := h1
  fin_cases g <;> apply le_bot_iff.mp <;> assumption

/-! ## A row's scores and values, by the key's number -/

/-- The score of the query in row `r` of its block against key `s`, for head `h`; -/
def rowZ (x0 : Vec Ideal S128x512 .bf16) (x1 : Vec Ideal S4096x512 .bf16) (h : Fin 8) (r : Fin 128) (s : ℕ) : EReal :=
  if hs : s < 4096 then ∑ d : Fin 64, (x0 (ix2 r (⟨64 * h.val + d.val, by omega⟩ : Fin 512)) * x1 (ix2 (⟨s, hs⟩ : Fin 4096) (⟨64 * h.val + d.val, by omega⟩ : Fin 512)) : EReal) else 0
/-- and element `d` of key `s`'s value. -/
def rowV (x2 : Vec Ideal S4096x512 .bf16) (h : Fin 8) (d : Fin 64) (s : ℕ) : EReal :=
  if hs : s < 4096 then x2 (ix2 (⟨s, hs⟩ : Fin 4096) (⟨64 * h.val + d.val, by omega⟩ : Fin 512)) else 0

section Loop

variable (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole)
  (arg6 : Memref sig .tc .vmem S256x256 .bf16) (harg6 : arg6.IsWhole) (arg8 : Memref sig .tc .vmem S8x128x128 .f32) (harg8 : arg8.IsWhole) (arg9 : Memref sig .tc .vmem S8x128x64 .f32) (harg9 : arg9.IsWhole)
  (x0 : Vec Ideal S128x512 .bf16) (x1 : Vec Ideal S4096x512 .bf16) (x2 : Vec Ideal S4096x512 .bf16) (x4 : Vec Ideal S256x256 .bf16)

/-- The scores of a trip's block, -/
theorem z_trip (k : ℕ) (hk : k < 32) (h : Fin 8) (r s : Fin 128) :
    zOf (F := Ideal) (hd h (ldQ arg2 harg2 x0)) (hd h (ldK arg3 harg3 (BitVec.ofNat 32 k) (chk_of_lt k hk) x1)) (ix2 r s)
      = rowZ x0 x1 h r (128 * k + s.val) := by
  rw [zOf_apply, rowZ, dif_pos (by omega)]
  refine Finset.sum_congr rfl fun d _ => ?_
  rw [hd_apply, hd_apply, ldQ_apply, ldK_apply (hk := hk)]
/-- and its values. -/
theorem v_trip (k : ℕ) (hk : k < 32) (h : Fin 8) (s : Fin 128) (d : Fin 64) :
    hd h (ldK (F := Ideal) arg4 harg4 (BitVec.ofNat 32 k) (chk_of_lt k hk) x2) (ix2 s d) = rowV x2 h d (128 * k + s.val) := by
  rw [rowV, dif_pos (by omega), hd_apply, ldK_apply (hk := hk)]

/-- With `n` blocks left: the sums over the keys from block `n` to the query at `t₀ + r`. -/
def Inv (t₀ n : ℕ) (C : Vec Ideal S8x128x128 .f32) (A : Vec Ideal S8x128x64 .f32) : Prop :=
  ∀ (h : Fin 8) (r : Fin 128),
    (∀ l : Fin 128, C (ix3 h r l) = ∑ s ∈ Ico (128 * n) (t₀ + r.val), keepE (rowZ x0 x1 h r s))
    ∧ ∀ d : Fin 64, A (ix3 h r d) = ∑ s ∈ Ico (128 * n) (t₀ + r.val), wt (rowZ x0 x1 h r) (t₀ + r.val) s * rowV x2 h d s

section Trip

variable (k : ℕ) (hk : k < 32) (a : Ideal .f32) (htest : test (F := Ideal) (BitVec.ofNat 32 k) a = 1#1)
  (C : Vec Ideal S8x128x128 .f32) (A : Vec Ideal S8x128x64 .f32)

/-- A row of the first scratch after a trip, -/
theorem stepC_apply (h : Fin 8) (r l : Fin 128) :
    stepC (F := Ideal) c i arg2 harg2 arg3 harg3 arg4 harg4 arg6 harg6 arg8 harg8 arg9 harg9 x0 x1 x2 x4 _ a (chk_of_lt k hk) htest C A (ix3 h r l)
      = carryL h (ldQ arg2 harg2 x0) (ldK arg3 harg3 (BitVec.ofNat 32 k) (chk_of_lt k hk) x1) (ldM arg6 harg6 x4) (slabC (ldC arg8 harg8 C h)) (ix2 r l) :=
  canC_rows (fun h => carryL h (ldQ arg2 harg2 x0) (ldK arg3 harg3 (BitVec.ofNat 32 k) (chk_of_lt k hk) x1) (ldM arg6 harg6 x4) (slabC (ldC arg8 harg8 C h)))
    _ (trip_C c i arg2 harg2 arg3 harg3 arg4 harg4 arg6 harg6 arg8 harg8 arg9 harg9 _ a (chk_of_lt k hk) htest x0 x1 x2 x4 C A) h r l
/-- and of the second. -/
theorem stepA_apply (h : Fin 8) (r : Fin 128) (d : Fin 64) :
    stepA (F := Ideal) c i arg2 harg2 arg3 harg3 arg4 harg4 arg6 harg6 arg8 harg8 arg9 harg9 x0 x1 x2 x4 _ a (chk_of_lt k hk) htest C A (ix3 h r d)
      = accL h (ldQ arg2 harg2 x0) (ldK arg3 harg3 (BitVec.ofNat 32 k) (chk_of_lt k hk) x1) (ldK arg4 harg4 (BitVec.ofNat 32 k) (chk_of_lt k hk) x2) (ldM arg6 harg6 x4) (slabC (ldC arg8 harg8 C h)) (slabA (ldA arg9 harg9 A h)) (ix2 r d) :=
  canA_rows (fun h => accL h (ldQ arg2 harg2 x0) (ldK arg3 harg3 (BitVec.ofNat 32 k) (chk_of_lt k hk) x1) (ldK arg4 harg4 (BitVec.ofNat 32 k) (chk_of_lt k hk) x2) (ldM arg6 harg6 x4) (slabC (ldC arg8 harg8 C h)) (slabA (ldA arg9 harg9 A h)))
    _ (trip_A c i arg2 harg2 arg3 harg3 arg4 harg4 arg6 harg6 arg8 harg8 arg9 harg9 _ a (chk_of_lt k hk) htest x0 x1 x2 x4 C A) h r d

/-- The trip passes on `-∞` only if it leaves `-∞` everywhere. -/
theorem stepM_bot (hM : stepM (F := Ideal) c i arg2 harg2 arg3 harg3 arg4 harg4 arg6 harg6 arg8 harg8 arg9 harg9 x0 x1 x2 x4 _ a (chk_of_lt k hk) htest C A = (⊥ : EReal)) (h : Fin 8) (r l : Fin 128) :
    stepC (F := Ideal) c i arg2 harg2 arg3 harg3 arg4 harg4 arg6 harg6 arg8 harg8 arg9 harg9 x0 x1 x2 x4 _ a (chk_of_lt k hk) htest C A (ix3 h r l) = (⊥ : EReal) := by
  rw [stepC_apply (hk := hk)]
  rw [stepM, trip_M] at hM
  exact all_bot (fun h => carryL h (ldQ arg2 harg2 x0) (ldK arg3 harg3 (BitVec.ofNat 32 k) (chk_of_lt k hk) x1) (ldM arg6 harg6 x4) (slabC (ldC arg8 harg8 C h))) hM h r l

theorem ones_ld (hm : IsOnes x4) : IsOnes (ldM (F := Ideal) arg6 harg6 x4) := fun k c => by rw [ldM_apply]; exact hm k c

/-- A trip keeps the invariant, one block further back. -/
theorem inv_step (hm : IsOnes x4) (t₀ : ℕ) (ht : 128 * (k + 1) ≤ t₀) (hI : Inv x0 x1 x2 t₀ (k + 1) C A) :
    Inv x0 x1 x2 t₀ k
      (stepC (F := Ideal) c i arg2 harg2 arg3 harg3 arg4 harg4 arg6 harg6 arg8 harg8 arg9 harg9 x0 x1 x2 x4 _ a (chk_of_lt k hk) htest C A)
      (stepA (F := Ideal) c i arg2 harg2 arg3 harg3 arg4 harg4 arg6 harg6 arg8 harg8 arg9 harg9 x0 x1 x2 x4 _ a (chk_of_lt k hk) htest C A) := by
  intro h r
  obtain ⟨hC, hA⟩ := hI h r
  have hz := z_trip arg2 harg2 arg3 harg3 x0 x1 k hk h r
  have hc : ∀ l : Fin 128, slabC (ldC (F := Ideal) arg8 harg8 C h) (ix2 r l) = ∑ s ∈ Ico (128 * k + 128) (t₀ + r.val), keepE (rowZ x0 x1 h r s) :=
    fun l => by rw [ldC_apply, hC]; rfl
  have hm' := ones_ld arg6 harg6 x4 hm
  refine ⟨fun l => ?_, fun d => ?_⟩
  · rw [stepC_apply (hk := hk), carryL]
    exact carry_row hm' _ _ r _ hz (by omega) hc l
  · rw [stepA_apply (hk := hk), accL]
    refine acc_row r _ _ _ d (rowV x2 h d) _ (by omega) (weight_row hm' _ _ r _ hz (by omega) hc) (v_trip arg4 harg4 x2 k hk h · d) ?_
    rw [ldA_apply, hA]; rfl

end Trip

/-- After the loop the second scratch holds the sums over all the keys before the query. -/
theorem iter_value (hm : IsOnes x4) (t₀ : ℕ) : ∀ (n : ℕ), n ≤ 32 → 128 * n ≤ t₀ → ∀ (a : Ideal .f32) (C : Vec Ideal S8x128x128 .f32) (A : Vec Ideal S8x128x64 .f32),
    (a = (⊥ : EReal) → ∀ (h : Fin 8) (r l : Fin 128), C (ix3 h r l) = (⊥ : EReal)) → Inv x0 x1 x2 t₀ n C A →
    ∀ (h : Fin 8) (r : Fin 128) (d : Fin 64),
      (iter (F := Ideal) c i arg2 harg2 arg3 harg3 arg4 harg4 arg6 harg6 arg8 harg8 arg9 harg9 x0 x1 x2 x4 n a C A).2 (ix3 h r d)
        = ∑ s ∈ Ico 0 (t₀ + r.val), wt (rowZ x0 x1 h r) (t₀ + r.val) s * rowV x2 h d s := by
  intro n
  induction n with
  | zero =>
    intro _ _ a C A _ hI h r d
    exact (hI h r).2 d
  | succ k ih =>
    intro hn ht a C A ha hI h r d
    by_cases htest : test (F := Ideal) (BitVec.ofNat 32 k) a = 1#1
    · rw [iter, dif_pos ⟨by omega, htest⟩]
      exact ih (by omega) (by omega) _ _ _ (stepM_bot c i arg2 harg2 arg3 harg3 arg4 harg4 arg6 harg6 arg8 harg8 arg9 harg9 x0 x1 x2 x4 k (by omega) a htest C A)
        (inv_step c i arg2 harg2 arg3 harg3 arg4 harg4 arg6 harg6 arg8 harg8 arg9 harg9 x0 x1 x2 x4 k (by omega) a htest C A hm t₀ ht hI) h r d
    · rw [iter, dif_neg (fun h => htest h.2)]
      obtain ⟨hC, hA⟩ := hI h r
      change A (ix3 h r d) = _
      rw [hA d]
      refine sum_dead _ _ (by omega) ?_
      rw [← hC 0]
      exact ha (bot_of_stop k (by omega) a htest) h r 0

end Loop

end Cert.KernelIdeal.Hand

end
-- ==== Proof.V.Point.lean ====
/-
  What a grid point stores, read at an index: the sums over all the keys before the query, each head's 64 numbers
  divided by their root mean square and multiplied by the gains.
-/
module

public import proofs.«01_k».proof.Proof.V.Inv
public import proofs.«01_k».proof.Proof.KI.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Finset Cert.Stick

/-- A row of the block, head by head. -/
theorem rowsOf_apply (o : Fin 8 → FVec Ideal S128x64 .f32) (h : Fin 8) (r : Fin 128) (d : Fin 64) :
    rowsOf (F := Ideal) (o 0) (o 1) (o 2) (o 3) (o 4) (o 5) (o 6) (o 7) (ix2 r (⟨64 * h.val + d.val, by omega⟩ : Fin 512)) = o h (ix2 r d) := by
  have key : ∀ s : Fin 512, s.val = 64 * h.val + d.val → rowsOf (F := Ideal) (o 0) (o 1) (o 2) (o 3) (o 4) (o 5) (o 6) (o 7) (ix2 r s) = o h (ix2 r d) := by
    intro s hs
    have hd := d.isLt
    pointwise [rowsOf]
    obtain ⟨h, hh⟩ := h
    dsimp only at hs
    interval_cases h
    · rw [dif_pos (by omega)]; congr 2; apply Fin.ext; dsimp only; omega
    · rw [dif_neg (by omega)]; rw [dif_pos (by omega)]; congr 2; apply Fin.ext; dsimp only; omega
    · rw [dif_neg (by omega)]; rw [dif_neg (by omega)]; rw [dif_pos (by omega)]; congr 2; apply Fin.ext; dsimp only; omega
    · rw [dif_neg (by omega)]; rw [dif_neg (by omega)]; rw [dif_neg (by omega)]; rw [dif_pos (by omega)]; congr 2; apply Fin.ext; dsimp only; omega
    · rw [dif_neg (by omega)]; rw [dif_neg (by omega)]; rw [dif_neg (by omega)]; rw [dif_neg (by omega)]; rw [dif_pos (by omega)]; congr 2; apply Fin.ext; dsimp only; omega
    · rw [dif_neg (by omega)]; rw [dif_neg (by omega)]; rw [dif_neg (by omega)]; rw [dif_neg (by omega)]; rw [dif_neg (by omega)]; rw [dif_pos (by omega)]; congr 2; apply Fin.ext; dsimp only; omega
    · rw [dif_neg (by omega)]; rw [dif_neg (by omega)]; rw [dif_neg (by omega)]; rw [dif_neg (by omega)]; rw [dif_neg (by omega)]; rw [dif_neg (by omega)]; rw [dif_pos (by omega)]; congr 2; apply Fin.ext; dsimp only; omega
    · rw [dif_neg (by omega)]; rw [dif_neg (by omega)]; rw [dif_neg (by omega)]; rw [dif_neg (by omega)]; rw [dif_neg (by omega)]; rw [dif_neg (by omega)]; rw [dif_neg (by omega)]; congr 2; apply Fin.ext; dsimp only; omega
  exact key _ rfl

/-- One element of a head's 64 numbers, divided by their root mean square and multiplied by its gain. -/
def normed (o : Fin 64 → EReal) (g : EReal) (d : Fin 64) : EReal :=
  o d * Ideal.rsqrt (Ideal.div (∑ x, o x * o x) (Ideal.ofBits .f32 1115684864#32) + Ideal.ofBits .f32 925353388#32) * g

theorem rms_apply (a : FVec Ideal S128x64 .f32) (g : FVec Ideal S1x64 .f32) (r : Fin 128) (d : Fin 64) :
    rms (F := Ideal) a g (ix2 r d) = normed (fun x => a (ix2 r x)) (g (ix2 0 d)) d := by
  pointwise [rms]; rfl

section Point

variable (c : Dev nD) (i : grid0.Coords) (arg2 : Memref sig .tc .vmem S128x512 .bf16) (harg2 : arg2.IsWhole) (arg3 : Memref sig .tc .vmem S4096x512 .bf16) (harg3 : arg3.IsWhole) (arg4 : Memref sig .tc .vmem S4096x512 .bf16) (harg4 : arg4.IsWhole)
  (arg5 : Memref sig .tc .vmem S1x512 .f32) (harg5 : arg5.IsWhole)
  (arg6 : Memref sig .tc .vmem S256x256 .bf16) (harg6 : arg6.IsWhole) (arg8 : Memref sig .tc .vmem S8x128x128 .f32) (harg8 : arg8.IsWhole) (arg9 : Memref sig .tc .vmem S8x128x64 .f32) (harg9 : arg9.IsWhole)
  (x0 : Vec Ideal S128x512 .bf16) (x1 : Vec Ideal S4096x512 .bf16) (x2 : Vec Ideal S4096x512 .bf16) (x3 : Vec Ideal S1x512 .f32) (x4 : Vec Ideal S256x256 .bf16)

/-- The tests for a block one or two before the diagonal one. -/
theorem from1_eq : from1 i = if 1 ≤ (i 1).val then 1#1 else 0#1 :=
  (by decide : ∀ b : Fin 32, Scalar.cmpi .sge (BitVec.ofNat 32 b.val) 1#32 = if 1 ≤ b.val then 1#1 else 0#1) (i 1)
theorem from2_eq : from2 i = if 2 ≤ (i 1).val then 1#1 else 0#1 :=
  (by decide : ∀ b : Fin 32, Scalar.cmpi .sge (BitVec.ofNat 32 b.val) 2#32 = if 2 ≤ b.val then 1#1 else 0#1) (i 1)

/-- The scores of one of the first three blocks, -/
theorem z_first (b : Fin 3) (h : Fin 8) (r s : Fin 128) :
    zOf (F := Ideal) (hd h (ldQ arg2 harg2 x0)) (hd h (ldF i arg3 harg3 x1 b)) (ix2 r s)
      = rowZ x0 x1 h r (128 * ((i 1).val - b.val) + s.val) := by
  have hi : (i 1).val < 32 := (i 1).isLt
  rw [zOf_apply, rowZ, dif_pos (by omega)]
  refine Finset.sum_congr rfl fun d _ => ?_
  rw [hd_apply, hd_apply, ldQ_apply, ldF_apply]
/-- and its values. -/
theorem v_first (b : Fin 3) (h : Fin 8) (s : Fin 128) (d : Fin 64) :
    hd h (ldF (F := Ideal) i arg4 harg4 x2 b) (ix2 s d) = rowV x2 h d (128 * ((i 1).val - b.val) + s.val) := by
  have hi : (i 1).val < 32 := (i 1).isLt
  rw [rowV, dif_pos (by omega), hd_apply, ldF_apply]

/-- Before the loop the invariant holds at the third block. -/
theorem inv_start (hm : IsOnes x4) :
    Inv x0 x1 x2 (128 * (i 1).val) ((i 1).val - 2)
      (canC (firstLC (F := Ideal) i arg2 harg2 arg3 harg3 arg6 harg6 x0 x1 x4))
      (canA (firstLA (F := Ideal) i arg2 harg2 arg3 harg3 arg4 harg4 arg6 harg6 x0 x1 x2 x4)) := by
  intro h r
  have hm' := ones_ld arg6 harg6 x4 hm
  refine ⟨fun l => ?_, fun d => ?_⟩
  · rw [canC_rows (fun h => firstCarry (F := Ideal) i arg2 harg2 arg3 harg3 arg6 harg6 x0 x1 x4 h) (firstLC (F := Ideal) i arg2 harg2 arg3 harg3 arg6 harg6 x0 x1 x4) rfl, firstCarry]
    exact carryF_row hm' _ _ _ _ r _ _ _ _ (from1_eq i) (from2_eq i) (z_first i arg2 harg2 arg3 harg3 x0 x1 0 h r)
      (fun _ => z_first i arg2 harg2 arg3 harg3 x0 x1 1 h r) (fun _ => z_first i arg2 harg2 arg3 harg3 x0 x1 2 h r) l
  · rw [canA_rows (fun h => firstAcc (F := Ideal) i arg2 harg2 arg3 harg3 arg4 harg4 arg6 harg6 x0 x1 x2 x4 h) (firstLA (F := Ideal) i arg2 harg2 arg3 harg3 arg4 harg4 arg6 harg6 x0 x1 x2 x4) rfl, firstAcc]
    exact accF_row hm' _ _ _ _ r _ _ _ _ (from1_eq i) (from2_eq i) (z_first i arg2 harg2 arg3 harg3 x0 x1 0 h r)
      (fun _ => z_first i arg2 harg2 arg3 harg3 x0 x1 1 h r) (fun _ => z_first i arg2 harg2 arg3 harg3 x0 x1 2 h r)
      _ _ _ d _ (v_first i arg4 harg4 x2 0 h · d) (fun _ => (v_first i arg4 harg4 x2 1 h · d)) (fun _ => (v_first i arg4 harg4 x2 2 h · d))

/-- The sums over all the keys before query `r` of the block. -/
def attn (h : Fin 8) (r : Fin 128) (d : Fin 64) : EReal :=
  ∑ s ∈ Ico 0 (128 * (i 1).val + r.val), wt (rowZ x0 x1 h r) (128 * (i 1).val + r.val) s * rowV x2 h d s

/-- What the second scratch holds after the loop. -/
theorem last_apply (hm : IsOnes x4) (h : Fin 8) (r : Fin 128) (d : Fin 64) :
    (lastCA (F := Ideal) c i arg2 harg2 arg3 harg3 arg4 harg4 arg6 harg6 arg8 harg8 arg9 harg9 ((i 1).val - 2) x0 x1 x2 x4).2 (ix3 h r d) = attn i x0 x1 x2 h r d := by
  have hi : (i 1).val < 32 := (i 1).isLt
  rw [lastCA]
  refine iter_value c i arg2 harg2 arg3 harg3 arg4 harg4 arg6 harg6 arg8 harg8 arg9 harg9 x0 x1 x2 x4 hm (128 * (i 1).val) _ (by omega) (by omega) _ _ _ (fun ha h r l => ?_) (inv_start i arg2 harg2 arg3 harg3 arg4 harg4 arg6 harg6 x0 x1 x2 x4 hm) h r d
  rw [canC_rows (fun h => firstCarry (F := Ideal) i arg2 harg2 arg3 harg3 arg6 harg6 x0 x1 x4 h) (firstLC (F := Ideal) i arg2 harg2 arg3 harg3 arg6 harg6 x0 x1 x4) rfl]
  exact all_bot (fun h => firstCarry (F := Ideal) i arg2 harg2 arg3 harg3 arg6 harg6 x0 x1 x4 h) ha h r l

/-- A head's normalised sums. -/
theorem lastOut_apply (hm : IsOnes x4) (h : Fin 8) (r : Fin 128) (d : Fin 64) :
    lastOut (F := Ideal) c i arg2 harg2 arg3 harg3 arg4 harg4 arg5 harg5 arg6 harg6 arg8 harg8 arg9 harg9 ((i 1).val - 2) x0 x1 x2 x3 x4 h (ix2 r d)
      = normed (attn i x0 x1 x2 h r) (x3 (ix2 0 (⟨64 * h.val + d.val, by omega⟩ : Fin 512))) d := by
  rw [lastOut, rms_apply, ldG_apply]
  congr 1
  funext x
  rw [ldA_apply, last_apply (hm := hm)]

end Point

variable (m : (ℓ : Loc nD τ sig) → Buf (Elt Ideal) ℓ)

/-- The block a grid point stores, at an index. -/
theorem outsAt_apply (c : Dev nD) (t : Fin (cfg0 (F := Ideal)).N) (hm : IsOnes (iblk m c 4 t)) (h : Fin 8) (r : Fin 128) (d : Fin 64) :
    outsAt (F := Ideal) m c t (ix2 r (⟨64 * h.val + d.val, by omega⟩ : Fin 512))
      = normed (attn ((cfg0 (F := Ideal)).grid.coords t) (iblk m c 0 t) (iblk m c 1 t) (iblk m c 2 t) h r)
          (iblk m c 3 t (ix2 0 (⟨64 * h.val + d.val, by omega⟩ : Fin 512))) d := by
  rw [outsAt, View.read_writes_junk_eq_canon, pieces, body_L5]
  rw [View.canon_unit_zero (by decide)]
  rw [rowsOf_apply (fun h => lastOut (F := Ideal) _ _ _ _ _ _ _ _ _ _ _ _ _ _ _ _ _ _ _ _ _ _ h)]
  exact lastOut_apply _ _ _ _ _ _ _ _ _ _ _ _ _ _ _ _ _ _ _ _ _ hm h r d

end Cert.KernelIdeal.Hand

end
-- ==== Proof.V.Entry.lean ====
/-
  What the region finds in its operands: the queries times one eighth, the keys, the values and the gains, each at an
  index of the argument, and the square of ones and zeros that sums along a block.
-/
module

public import proofs.«01_k».proof.Proof.V.Point
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Finset Cert.Stick Idealize.ShloMosaic.Pipeline

variable (m : (ℓ : Loc nD τ sig) → Buf (Elt Ideal) ℓ) (c : Dev nD)

/-- Which block of its array each window is at, at grid point `t`. -/
theorem idx0 : ∀ t : Fin grid0.N, win0_0.index t = ![t.val, 0] := by decide +kernel
theorem idx1 : ∀ t : Fin grid0.N, win0_1.index t = ![t.val / 32, 0] := by decide +kernel
theorem idx2 : ∀ t : Fin grid0.N, win0_2.index t = ![t.val / 32, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem coord1 : ∀ t : Fin grid0.N, (grid0.coords t 1).val = t.val % 32 := by decide +kernel

/-- The queries, row `n` of sequence `b`. -/
theorem q_entry (b : Fin 4) (n : Fin 4096) (h : Fin 8) (d : Fin 64) :
    V m c main_v3 (ix2 (⟨4096 * b.val + n.val, by omega⟩ : Fin 16384) (⟨64 * h.val + d.val, by omega⟩ : Fin 512))
      = (show EReal from m ((c : Thread nD τ).loc main_arg0) (ix4 b n h d)) * Ideal.ofBits .f32 0x3E000000#32 := by
  entry_read
  pointwise
  refine congrArg (fun x => (show EReal from m ((c : Thread nD τ).loc main_arg0) x) * Ideal.ofBits .f32 0x3E000000#32) ?_
  congr 1 <;> (apply Fin.ext; dsimp only; omega)

/-- The keys, -/
theorem k_entry (b : Fin 4) (n : Fin 4096) (h : Fin 8) (d : Fin 64) :
    V m c main_v5 (ix2 (⟨4096 * b.val + n.val, by omega⟩ : Fin 16384) (⟨64 * h.val + d.val, by omega⟩ : Fin 512))
      = m ((c : Thread nD τ).loc main_arg1) (ix4 b n h d) := by
  entry_read
  pointwise
  refine congrArg (m ((c : Thread nD τ).loc main_arg1)) ?_
  congr 1 <;> (apply Fin.ext; dsimp only; omega)
/-- the values, -/
theorem v_entry (b : Fin 4) (n : Fin 4096) (h : Fin 8) (d : Fin 64) :
    V m c main_v7 (ix2 (⟨4096 * b.val + n.val, by omega⟩ : Fin 16384) (⟨64 * h.val + d.val, by omega⟩ : Fin 512))
      = m ((c : Thread nD τ).loc main_arg2) (ix4 b n h d) := by
  entry_read
  pointwise
  refine congrArg (m ((c : Thread nD τ).loc main_arg2)) ?_
  congr 1 <;> (apply Fin.ext; dsimp only; omega)
/-- and the gains. -/
theorem g_entry (d : Fin 512) : V m c main_v8 (ix2 0 d) = m ((c : Thread nD τ).loc main_arg3) (ix1 d) := by
  entry_read
  pointwise

/-- Whether one number below 128 is larger than another, as a number. -/
theorem gt_word (a b : ℕ) (ha : a < 128) (hb : b < 128) :
    FloatOps.uitofp (F := Ideal) .f32 (IntOp.cmpi .sgt (BitVec.ofNat 32 a) (BitVec.ofNat 32 b)) = (if b < a then (1 : EReal) else 0) := by
  have e : ∀ a b : Fin 128, IntOp.cmpi .sgt (BitVec.ofNat 32 a.val) (BitVec.ofNat 32 b.val) = if b.val < a.val then 1#1 else 0#1 := by decide +kernel
  rw [e ⟨a, ha⟩ ⟨b, hb⟩]
  dsimp only
  split
  · show ((1#1 : BitVec 1).toNat : EReal) = 1
    simp
  · show ((0#1 : BitVec 1).toNat : EReal) = 0
    simp

/-- The square: ones in its left half, and in the right half a one where the row within its half is past the column. -/
theorem ones_entry : IsOnes (V m c main_v19) := by
  intro k l
  entry_read
  pointwise
  have hk := k.isLt
  have hl := l.isLt
  by_cases h1 : l.val < 128
  · simp only [h1, dite_true, true_or, if_true, dite_eq_ite, ite_self]
  · by_cases h2 : k.val < 128
    · rw [dif_pos h2, dif_neg h1, gt_word _ _ h2 (by omega)]
      simp only [h1, false_or, Nat.mod_eq_of_lt h2]
    · rw [dif_neg h2, dif_neg h1, gt_word _ _ (by omega) (by omega)]
      simp only [h1, false_or, show k.val % 128 = k.val - 128 by omega]

/-- Each window's block at a grid point is read off its array. -/
theorem ones_blk (t : Fin (cfg0 (F := Ideal)).N) (k l : Fin 256) : iblk m c 4 t (ix2 k l) = V m c main_v19 (ix2 k l) := by
  blk_ext [iblk, idx4 t]
theorem g_blk (t : Fin (cfg0 (F := Ideal)).N) (l : Fin 512) : iblk m c 3 t (ix2 0 l) = V m c main_v8 (ix2 0 l) := by
  blk_ext [iblk, idx3 t]
theorem q_blk (t : Fin (cfg0 (F := Ideal)).N) (r : Fin 128) (l : Fin 512) :
    iblk m c 0 t (ix2 r l) = V m c main_v3 (ix2 (⟨128 * t.val + r.val, by have : t.val < 128 := t.isLt; omega⟩ : Fin 16384) l) := by
  blk_ext [iblk, idx0 t]
theorem k_blk (t : Fin (cfg0 (F := Ideal)).N) (s : Fin 4096) (l : Fin 512) :
    iblk m c 1 t (ix2 s l) = V m c main_v5 (ix2 (⟨4096 * (t.val / 32) + s.val, by have : t.val < 128 := t.isLt; omega⟩ : Fin 16384) l) := by
  blk_ext [iblk, idx1 t]
theorem v_blk (t : Fin (cfg0 (F := Ideal)).N) (s : Fin 4096) (l : Fin 512) :
    iblk m c 2 t (ix2 s l) = V m c main_v7 (ix2 (⟨4096 * (t.val / 32) + s.val, by have : t.val < 128 := t.isLt; omega⟩ : Fin 16384) l) := by
  blk_ext [iblk, idx2 t]

end Cert.KernelIdeal.Hand

end
-- ==== Proof.V.Ref.lean ====
/-
  The reference as one composition of named parts, each read at an index over the extended reals: the scores, the
  logarithms of what a score takes and keeps, the suffix sums, the weights, the weighted sums and the normalised result.
-/
module

public import proofs.«01_k».proof.Proof.V.Scalar
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Finset Cert.Stick

section Parts

variable {F : FTy → Type} [FloatOps F]

/-- The scores, -/
def zR (q k : FVec F S4x4096x8x64 .f32) : FVec F S4x8x4096x4096 .f32 :=
  mulf (Host.dotGeneral dot_S4x4096x8x64_S4x4096x8x64_S4x8x4096x4096_3_3_1_1_02_02 none q k) (broadcastInDim S4x8x4096x4096 ![] bcast_S_S4x8x4096x4096 (constant S_ .f32 0x3E000000#32))
/-- the mask that admits the keys before the query, -/
def maskR : IVec S4x8x4096x4096 1 :=
  broadcastInDim S4x8x4096x4096 ![2, 3] bcast_S4096x4096_S4x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- an array of zeros, -/
def zeroR : FVec F S4x8x4096x4096 .f32 := broadcastInDim S4x8x4096x4096 ![] bcast_S_S4x8x4096x4096 (constant S_ .f32 0x00000000#32)
/-- `log (1 + exp x)` as the library writes it, -/
def softR (x : FVec F S4x8x4096x4096 .f32) : FVec F S4x8x4096x4096 .f32 :=
  select (cmpf .une (subf x zeroR) (subf x zeroR)) (addf x zeroR) (addf (maximumf x zeroR) (Host.log1p (Host.exp (Host.negf (Host.absf (subf x zeroR))))))
/-- `log (sigmoid x)`, -/
def sigR (x : FVec F S4x8x4096x4096 .f32) : FVec F S4x8x4096x4096 .f32 := Host.negf (softR (Host.negf x))
/-- an array where the mask holds, zero elsewhere, -/
def onR (x : FVec F S4x8x4096x4096 .f32) : FVec F S4x8x4096x4096 .f32 :=
  select maskR x (broadcastInDim S4x8x4096x4096 ![] bcast_S_S4x8x4096x4096 (id (constant S_ .f32 0x00000000#32)))
/-- the sums from each key on, -/
def sumR (x : FVec F S4x8x4096x4096 .f32) : FVec F S4x8x4096x4096 .f32 :=
  Host.reduceWindowAdd ![1, 1, 1, 4096] ![1, 1, 1, 1] ![0, 0, 0, 0] ![0, 0, 0, 4095] x (broadcastInDim S_ ![] bcast_S_S_ (constant S_ .f32 0x00000000#32)) reduceWindows_S4x8x4096x4096_S4x8x4096x4096_w1s1p0_0_w1s1p0_0_w1s1p0_0_w4096s1p0_4095 h_S_
/-- the weights, -/
def wR (z : FVec F S4x8x4096x4096 .f32) : FVec F S4x8x4096x4096 .f32 :=
  onR (Host.exp (addf (sigR z) (subf (sumR (onR (sigR (Host.negf z)))) (onR (sigR (Host.negf z))))))
/-- the weighted sums, -/
def oR (v : FVec F S4x4096x8x64 .f32) (w : FVec F S4x8x4096x4096 .f32) : FVec F S4x4096x8x64 .f32 :=
  transpose S4x4096x8x64 [0, 3, 1, 2] (Host.dotGeneral dot_S4x4096x8x64_S4x8x4096x4096_S4x8x64x4096_1_3_3_2_02_01 none v w) transposes_S4x8x64x4096_S4x4096x8x64_0_3_1_2
/-- and the normalised result. -/
def nR (o : FVec F S4x4096x8x64 .f32) (g : FVec F S512 .f32) : FVec F S16384x512 .bf16 :=
  truncf .bf16 (shapeCast _ (mulf (shapeCast _ (mulf o (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x3727C5AC#32)))))) shapeCasts_S4x4096x8x64_S4x4096x512) (broadcastInDim S4x4096x512 ![0, 1, 2] bcast_S1x1x512_S4x4096x512_0_1_2 (broadcastInDim S1x1x512 ![2] bcast_S512_S1x1x512_2 g))) shapeCasts_S4x4096x512_S16384x512) bitsLt_bf16_f32

/-- The reference's result is their composition. -/
theorem res_eq (m : (ℓ : Loc nD τ sig) → Buf (Elt F) ℓ) (c : Dev nD) :
    Cert.ReferenceIdeal.Value.res_out0 m c
      = nR (oR (m ((c.tc : Thread nD τ).loc main_arg2)) (wR (zR (m ((c.tc : Thread nD τ).loc main_arg0)) (m ((c.tc : Thread nD τ).loc main_arg1))))) (m ((c.tc : Thread nD τ).loc main_arg3)) := by
  unfold Cert.ReferenceIdeal.Value.res_out0 Cert.ReferenceIdeal.Value.res_main_v35
  rfl

end Parts

/-! ## Each part at an index, over the extended reals -/

theorem zR_apply (q k : FVec Ideal S4x4096x8x64 .f32) (b : Fin 4) (h : Fin 8) (t s : Fin 4096) :
    zR (F := Ideal) q k (ix4 b h t s) = (∑ d : Fin 64, (q (ix4 b t h d) * k (ix4 b s h d) : EReal)) * Ideal.ofBits .f32 0x3E000000#32 := by
  pointwise [zR]

/-- Comparing two numbers below 4096 as signed words. -/
theorem lt_word (a b : ℕ) (ha : a < 4096) (hb : b < 4096) :
    IntOp.cmpi .slt (BitVec.ofNat 32 a) (BitVec.ofNat 32 b) = if a < b then 1#1 else 0#1 := by
  have e : ∀ n < 4096, (BitVec.ofNat 32 n).toInt = n := by
    intro n hn
    rw [BitVec.toInt_eq_toNat_of_lt] <;> rw [BitVec.toNat_ofNat, Nat.mod_eq_of_lt (by omega)]; omega
  show BitVec.ofBool (BitVec.slt _ _) = _
  rw [BitVec.slt, e a ha, e b hb]
  by_cases h : a < b
  · rw [if_pos h, decide_eq_true (by omega)]; rfl
  · rw [if_neg h, decide_eq_false (by omega)]; rfl

theorem mask_apply (b : Fin 4) (h : Fin 8) (t s : Fin 4096) : maskR (ix4 b h t s) = if s.val < t.val then 1#1 else 0#1 := by
  pointwise [maskR]
  exact lt_word _ _ s.isLt t.isLt

theorem on_apply (x : FVec Ideal S4x8x4096x4096 .f32) (b : Fin 4) (h : Fin 8) (t s : Fin 4096) :
    onR (F := Ideal) x (ix4 b h t s) = if s.val < t.val then x (ix4 b h t s) else (0 : EReal) := by
  have e : onR (F := Ideal) x (ix4 b h t s) = if maskR (ix4 b h t s) = 1#1 then x (ix4 b h t s) else (0 : EReal) := by
    have hz : (id (constant (F := Ideal) S_ .f32 0x00000000#32) ix0 : EReal) = 0 := by
      show Ideal.ofBits .f32 0x00000000#32 = 0
      simp [Ideal.ofBits, Ideal.ieee]
    pointwise [onR]
    rw [hz]; rfl
  rw [e, mask_apply]
  by_cases hs : s.val < t.val
  · rw [if_pos hs, if_pos hs, if_pos rfl]
  · rw [if_neg hs, if_neg hs, if_neg (by decide)]

theorem soft_apply (x : FVec Ideal S4x8x4096x4096 .f32) (b : Fin 4) (h : Fin 8) (t s : Fin 4096) :
    softR (F := Ideal) x (ix4 b h t s) = spE (x (ix4 b h t s)) := by
  pointwise [softR, zeroR]
  rw [if_neg (fun h => h rfl), spE, zero_sub]
  rfl

theorem sig_apply (x : FVec Ideal S4x8x4096x4096 .f32) (b : Fin 4) (h : Fin 8) (t s : Fin 4096) :
    sigR (F := Ideal) x (ix4 b h t s) = -(spE (-(show EReal from x (ix4 b h t s)))) := by
  have e : sigR (F := Ideal) x (ix4 b h t s) = -(show EReal from softR (F := Ideal) (Host.negf x) (ix4 b h t s)) := by
    pointwise [sigR]
  rw [e, soft_apply]
  pointwise

/-- What a score keeps. -/
theorem keep_apply (x : FVec Ideal S4x8x4096x4096 .f32) (b : Fin 4) (h : Fin 8) (t s : Fin 4096) :
    sigR (F := Ideal) (Host.negf x) (ix4 b h t s) = keepE (x (ix4 b h t s)) := by
  rw [sig_apply, keepE, zero_sub]
  pointwise
  rw [neg_neg]

/-- A window sum from zero, element by element of the window. -/
theorem window_apply {s t u : Shape} (window strides lo hi : Fin s.rank → ℕ) (x : FVec Ideal s .f32) (init : FVec Ideal u .f32)
    (h : s.ReduceWindows window strides lo hi t) (hu : 0 < u.numel) (hv : (init (Shape.Idx.first hu) : EReal) = 0) (j : t.Idx) :
    Host.reduceWindowAdd (F := Ideal) window strides lo hi x init h hu j
      = ∑ k : (⟨s.rank, window⟩ : Shape).Idx, (if hin : ∀ a, lo a ≤ (j (a.cast h.1.symm)).val * strides a + (k a).val
          ∧ (j (a.cast h.1.symm)).val * strides a + (k a).val - lo a < s.size a
        then (x (fun a => ⟨(j (a.cast h.1.symm)).val * strides a + (k a).val - lo a, (hin a).2⟩) : EReal) else 0) := by
  rw [sum_idx_eq_foldl]
  show Ideal.hostReduceWindowAdd window strides lo hi h x (init (Shape.Idx.first hu)) j = _
  rw [hv]
  unfold Ideal.hostReduceWindowAdd Host.reduceWindow
  dsimp only
  refine congrArg (fun f : EReal → Fin _ → EReal => List.foldl f 0 _) ?_
  funext a i
  refine congrArg (a + ·) ?_
  split <;> rfl

/-- The window sum: the elements from `s` to the row's end. -/
theorem sum_apply (x : FVec Ideal S4x8x4096x4096 .f32) (b : Fin 4) (h : Fin 8) (t s : Fin 4096) (f : ℕ → EReal)
    (hf : ∀ j : Fin 4096, x (ix4 b h t j) = f j.val) :
    sumR (F := Ideal) x (ix4 b h t s) = ∑ j ∈ Ico s.val 4096, f j := by
  have hz : (broadcastInDim S_ ![] bcast_S_S_ (constant (F := Ideal) S_ .f32 0x00000000#32) (Shape.Idx.first h_S_) : EReal) = 0 := by
    show Ideal.ofBits .f32 0x00000000#32 = 0
    simp [Ideal.ofBits, Ideal.ieee]
  have e : ∀ k : Fin 4096, (if hin : ∀ a : Fin 4, ((![0, 0, 0, 0] : Fin 4 → ℕ) a ≤ ((ix4 b h t s : S4x8x4096x4096.Idx) a).val * (![1, 1, 1, 1] : Fin 4 → ℕ) a + (((ix4 0 0 0 k : (⟨4, ![1, 1, 1, 4096]⟩ : Shape).Idx)) a).val
        ∧ ((ix4 b h t s : S4x8x4096x4096.Idx) a).val * (![1, 1, 1, 1] : Fin 4 → ℕ) a + (((ix4 0 0 0 k : (⟨4, ![1, 1, 1, 4096]⟩ : Shape).Idx)) a).val - (![0, 0, 0, 0] : Fin 4 → ℕ) a < S4x8x4096x4096.size a)
      then x (fun a => ⟨_, (hin a).2⟩) else (0 : EReal)) = if s.val + k.val < 4096 then f (s.val + k.val) else 0 := by
    intro k
    by_cases hk : s.val + k.val < 4096
    · rw [if_pos hk, dif_pos, ← hf ⟨s.val + k.val, hk⟩]
      · congr 1
        funext a
        fin_cases a <;> (apply Fin.ext; simp [ix4])
      · intro a
        have hb := b.isLt; have hh := h.isLt; have ht := t.isLt
        fin_cases a <;> simp [ix4] <;> omega
    · rw [if_neg hk, dif_neg]
      intro hin
      have := (hin 3).2
      simp [ix4] at this
      omega
  have e2 : sumR (F := Ideal) x (ix4 b h t s) = ∑ k : Fin 4096, (if s.val + k.val < 4096 then f (s.val + k.val) else 0) := by
    rw [sumR, window_apply _ _ _ _ _ _ _ _ hz]
    refine (sum_idx4 _).trans ?_
    rw [Fintype.sum_unique, Fintype.sum_unique, Fintype.sum_unique]
    exact Finset.sum_congr rfl fun k _ => e k
  rw [e2, Fin.sum_univ_eq_sum_range (fun k => if s.val + k < 4096 then f (s.val + k) else 0) 4096,
    Finset.sum_Ico_eq_sum_range, ← Finset.sum_subset (Finset.range_subset_range.mpr (by omega : 4096 - s.val ≤ 4096))]
  · refine Finset.sum_congr rfl fun k hk => ?_
    rw [if_pos (by have := Finset.mem_range.mp hk; omega)]
  · intro k _ hk
    rw [if_neg (by have := mt Finset.mem_range.mpr hk; omega)]

/-- The weights: those of the keys before the query, zero from the query on. -/
theorem wR_apply (z : FVec Ideal S4x8x4096x4096 .f32) (b : Fin 4) (h : Fin 8) (t s : Fin 4096) (f : ℕ → EReal)
    (hf : ∀ j : Fin 4096, z (ix4 b h t j) = f j.val) :
    wR (F := Ideal) z (ix4 b h t s) = if s.val < t.val then wt f t.val s.val else 0 := by
  rw [wR, on_apply]
  by_cases hs : s.val < t.val
  · rw [if_pos hs, if_pos hs]
    have hsum : sumR (F := Ideal) (onR (sigR (Host.negf z))) (ix4 b h t s) = keepE (f s.val) + later f t.val s.val := by
      rw [sum_apply _ b h t s (fun j => if j < t.val then keepE (f j) else 0) (fun j => by rw [on_apply, keep_apply, hf])]
      rw [← Finset.sum_Ico_consecutive _ (by omega : s.val ≤ t.val) (by omega : t.val ≤ 4096),
        Finset.sum_eq_zero (s := Ico t.val 4096) (fun j hj => if_neg (by have := Finset.mem_Ico.mp hj; omega)), add_zero,
        Finset.sum_congr rfl (fun j hj => if_pos (Finset.mem_Ico.mp hj).2), Finset.sum_eq_sum_Ico_succ_bot hs]
      rfl
    have e : Host.exp (addf (sigR z) (subf (sumR (onR (sigR (Host.negf z)))) (onR (sigR (Host.negf z))))) (ix4 b h t s)
        = Ideal.exp ((show EReal from sigR (F := Ideal) z (ix4 b h t s)) + ((show EReal from sumR (F := Ideal) (onR (sigR (Host.negf z))) (ix4 b h t s)) - (show EReal from onR (F := Ideal) (sigR (Host.negf z)) (ix4 b h t s)))) := by
      pointwise
    rw [e, hsum, on_apply, if_pos hs, keep_apply, sig_apply, hf, wt]
    exact congrArg Ideal.exp (log_weight _ _)
  · rw [if_neg hs, if_neg hs]

/-- The weighted sums: over the keys before the query. -/
theorem oR_apply (v : FVec Ideal S4x4096x8x64 .f32) (z : FVec Ideal S4x8x4096x4096 .f32) (b : Fin 4) (t : Fin 4096) (h : Fin 8) (d : Fin 64)
    (f g : ℕ → EReal) (hf : ∀ j : Fin 4096, z (ix4 b h t j) = f j.val) (hg : ∀ j : Fin 4096, v (ix4 b j h d) = g j.val) :
    oR (F := Ideal) v (wR z) (ix4 b t h d) = ∑ s ∈ Ico 0 t.val, wt f t.val s * g s := by
  have e : oR (F := Ideal) v (wR z) (ix4 b t h d) = ∑ s : Fin 4096, (if s.val < t.val then wt f t.val s.val * g s.val else 0) := by
    have e1 : oR (F := Ideal) v (wR z) (ix4 b t h d) = ∑ s : Fin 4096, ((show EReal from v (ix4 b s h d)) * (show EReal from wR (F := Ideal) z (ix4 b h t s))) := by
      pointwise [oR]
    rw [e1]
    refine Finset.sum_congr rfl fun s _ => ?_
    rw [wR_apply z b h t s f hf, hg]
    by_cases hs : s.val < t.val
    · rw [if_pos hs, if_pos hs]; exact mul_comm _ _
    · rw [if_neg hs, if_neg hs]; exact mul_zero _
  rw [e, Fin.sum_univ_eq_sum_range (fun s => if s < t.val then wt f t.val s * g s else 0) 4096, ← Finset.range_eq_Ico,
    ← Finset.sum_subset (Finset.range_subset_range.mpr (by omega : t.val ≤ 4096))]
  · exact Finset.sum_congr rfl fun s hs => if_pos (Finset.mem_range.mp hs)
  · exact fun s _ hs => if_neg (mt Finset.mem_range.mpr hs)

/-- The normalised result. -/
theorem nR_apply (o : FVec Ideal S4x4096x8x64 .f32) (g : FVec Ideal S512 .f32) (b : Fin 4) (t : Fin 4096) (h : Fin 8) (d : Fin 64) :
    nR (F := Ideal) o g (ix2 (⟨4096 * b.val + t.val, by omega⟩ : Fin 16384) (⟨64 * h.val + d.val, by omega⟩ : Fin 512))
      = (show EReal from o (ix4 b t h d)) * Ideal.rsqrt (Ideal.div (∑ x : Fin 64, (show EReal from o (ix4 b t h x)) * (show EReal from o (ix4 b t h x))) (Ideal.ofBits .f32 1115684864#32) + Ideal.ofBits .f32 925353388#32)
          * (show EReal from g (ix1 (⟨64 * h.val + d.val, by omega⟩ : Fin 512))) := by
  pointwise [nR]

end Cert.ReferenceIdeal.Hand

end
-- ==== Proof.V.Value.lean ====
/-
  The equation: the kernel's result array, block by block, is the reference's result.
-/
module

public import proofs.«01_k».proof.Proof.V.Entry
public import proofs.«01_k».proof.Proof.V.Ref
public import proofs.«01_k».proof.Defs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Finset Cert.Stick Idealize.SL.Sem
open Idealize.ShloMosaic.Pipeline (Dat)

/-- A nonnegative finite factor moves into a sum. -/
theorem sum_scale {n : ℕ} (f : Fin n → EReal) {c : EReal} (h0 : 0 ≤ c) (h1 : c ≠ ⊤) : (∑ d, f d) * c = ∑ d, f d * c := by
  induction n with
  | zero => simp
  | succ n ih => rw [Fin.sum_univ_castSucc, Fin.sum_univ_castSucc, EReal.right_distrib_of_nonneg_of_ne_top h0 h1, ih]

/-- The scale is one eighth. -/
theorem scale_eq : (Ideal.ofBits .f32 0x3E000000#32 : EReal) = ((1 / 8 : ℝ) : EReal) := by
  simp [Ideal.ofBits, Ideal.ieee, -EReal.coe_mul]; norm_num

variable (m : (ℓ : Loc nD τ sig) → Buf (Elt Ideal) ℓ) (c : Dev nD)
variable (q k v : FVec Ideal S4x4096x8x64 .f32) (g : FVec Ideal S512 .f32)

section Point

variable (hq : m ((c : Thread nD τ).loc main_arg0) = q) (hk : m ((c : Thread nD τ).loc main_arg1) = k)
  (hv : m ((c : Thread nD τ).loc main_arg2) = v) (hg : m ((c : Thread nD τ).loc main_arg3) = g)
variable (b : Fin 4) (i : Fin 32) (t : Fin (cfg0 (F := Ideal)).N) (ht : t.val = 32 * b.val + i.val)

include ht

include hq hk in
/-- A grid point's scores are the reference's. -/
theorem scores (h : Fin 8) (r : Fin 128) (j : Fin 4096) :
    Cert.ReferenceIdeal.Hand.zR (F := Ideal) q k (ix4 b h (⟨128 * i.val + r.val, by omega⟩ : Fin 4096) j)
      = rowZ (iblk m c 0 t) (iblk m c 1 t) h r j.val := by
  rw [Cert.ReferenceIdeal.Hand.zR_apply, rowZ, dif_pos j.isLt, scale_eq, sum_scale _ (by positivity) (EReal.coe_ne_top _)]
  refine Finset.sum_congr rfl fun d _ => ?_
  rw [q_blk, k_blk]
  have e0 := q_entry m c b (⟨128 * i.val + r.val, by omega⟩ : Fin 4096) h d
  have e1 := k_entry m c b j h d
  rw [hq, scale_eq] at e0
  rw [hk] at e1
  rw [show (⟨128 * t.val + r.val, by have : t.val < 128 := t.isLt; omega⟩ : Fin 16384) = ⟨4096 * b.val + (128 * i.val + r.val), by omega⟩ from Fin.ext (by dsimp only; omega),
    show (⟨4096 * (t.val / 32) + j.val, by have : t.val < 128 := t.isLt; omega⟩ : Fin 16384) = ⟨4096 * b.val + j.val, by omega⟩ from Fin.ext (by dsimp only; omega)]
  rw [e0, e1]
  exact mul_right_comm _ _ _

include hv in
/-- Its values are. -/
theorem values (h : Fin 8) (d : Fin 64) (j : Fin 4096) : v (ix4 b j h d) = rowV (iblk m c 2 t) h d j.val := by
  rw [rowV, dif_pos j.isLt, v_blk]
  have e1 := v_entry m c b j h d
  rw [hv] at e1
  rw [show (⟨4096 * (t.val / 32) + j.val, by have : t.val < 128 := t.isLt; omega⟩ : Fin 16384) = ⟨4096 * b.val + j.val, by omega⟩ from Fin.ext (by dsimp only; omega), e1]

include hq hk hv hg in
/-- What a grid point stores is the reference's result there. -/
theorem point_eq (h : Fin 8) (r : Fin 128) (d : Fin 64) :
    outsAt (F := Ideal) m c t (ix2 r (⟨64 * h.val + d.val, by omega⟩ : Fin 512))
      = Cert.ReferenceIdeal.Hand.nR (F := Ideal) (Cert.ReferenceIdeal.Hand.oR v (Cert.ReferenceIdeal.Hand.wR (Cert.ReferenceIdeal.Hand.zR q k))) g
          (ix2 (⟨4096 * b.val + (128 * i.val + r.val), by omega⟩ : Fin 16384) (⟨64 * h.val + d.val, by omega⟩ : Fin 512)) := by
  have hm : IsOnes (iblk m c 4 t) := fun k l => by rw [ones_blk]; exact ones_entry m c k l
  rw [outsAt_apply m c t hm, Cert.ReferenceIdeal.Hand.nR_apply _ _ b (⟨128 * i.val + r.val, by omega⟩ : Fin 4096)]
  have ho : ∀ x : Fin 64, Cert.ReferenceIdeal.Hand.oR (F := Ideal) v (Cert.ReferenceIdeal.Hand.wR (Cert.ReferenceIdeal.Hand.zR q k)) (ix4 b (⟨128 * i.val + r.val, by omega⟩ : Fin 4096) h x)
      = attn ((cfg0 (F := Ideal)).grid.coords t) (iblk m c 0 t) (iblk m c 1 t) (iblk m c 2 t) h r x := by
    intro x
    have e : ((cfg0 (F := Ideal)).grid.coords t 1).val = i.val := (coord1 t).trans (by omega)
    rw [Cert.ReferenceIdeal.Hand.oR_apply _ _ _ _ _ _ (rowZ (iblk m c 0 t) (iblk m c 1 t) h r) (rowV (iblk m c 2 t) h x)
      (scores m c q k hq hk b i t ht h r) (values m c v hv b i t ht h x), attn, e]
  have hgain : iblk m c 3 t (ix2 0 (⟨64 * h.val + d.val, by omega⟩ : Fin 512)) = g (ix1 (⟨64 * h.val + d.val, by omega⟩ : Fin 512)) := by
    rw [g_blk, g_entry, hg]
  rw [hgain, normed]
  simp only [ho]

end Point

/-- The result array at the end: the reference's result. -/
theorem array_eq (hq : m ((c : Thread nD τ).loc main_arg0) = q) (hk : m ((c : Thread nD τ).loc main_arg1) = k)
    (hv : m ((c : Thread nD τ).loc main_arg2) = v) (hg : m ((c : Thread nD τ).loc main_arg3) = g) :
    (dats (F := Ideal) m 0 c).arrAt 5 (cfg0 (F := Ideal)).N
      = Cert.ReferenceIdeal.Hand.nR (F := Ideal) (Cert.ReferenceIdeal.Hand.oR v (Cert.ReferenceIdeal.Hand.wR (Cert.ReferenceIdeal.Hand.zR q k))) g := by
  refine (dats m 0 c).arrAt_eq_of_covers 5 _ (by decide +kernel) fun t hf y => ?_
  blk_simp
  rw [after_5]
  have h0 : (y 0).val < 128 := (y 0).isLt
  have h1 : (y 1).val < 512 := (y 1).isLt
  have htl : t.val < 128 := t.isLt
  have hy : y = ix2 (⟨(y 0).val, h0⟩ : Fin 128) (⟨64 * (⟨(y 1).val / 64, by omega⟩ : Fin 8).val + (⟨(y 1).val % 64, by omega⟩ : Fin 64).val, by dsimp only; omega⟩ : Fin 512) := by
    funext a; fin_cases a
    · rfl
    · exact Fin.ext (Nat.div_add_mod _ _).symm
  refine (congrArg (outsAt m c t) hy).trans ((point_eq m c q k v g hq hk hv hg (⟨t.val / 32, by omega⟩ : Fin 4) (⟨t.val % 32, by omega⟩ : Fin 32) t
    (Nat.div_add_mod _ _).symm (⟨(y 1).val / 64, by omega⟩ : Fin 8) (⟨(y 0).val, h0⟩ : Fin 128) (⟨(y 1).val % 64, by omega⟩ : Fin 64)).trans (congrArg _ ?_))
  blk_ext [idx5 t]

/-- The kernel's run, its result named. -/
theorem run_value (ρ : Dev nD → PrngReg) : θ_run defs (onTc (τ := τ) (main (F := Ideal))) ⟨m, fun _ => 0, ρ⟩ fun r => ∀ c : Dev nD,
      r.2.mem ((c.tc : Thread nD τ).loc main_v20) = (dats (F := Ideal) m 0 c).arrAt 5 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 5, h.2.1 c⟩) (θ_run_and (run_main m ρ) (frame m ρ))

end Cert.KernelIdeal.Hand

namespace Cert.Proof

open Idealize.ShloMosaic Idealize.SL.Sem

open Idealize.ShloMosaic.TcCoe in
/-- The kernel and the reference, over the extended reals, end with equal results and unchanged arguments. -/
theorem equal : Cert.algebraic_KernelIdeal_ReferenceIdeal := by
  intro m ρ m' ρ' _ hargs
  refine ⟨fun c => (Cert.KernelIdeal.Hand.dats (F := Idealize.ShloMosaic.Ideal) m 0 c).arrAt 5 (Cert.KernelIdeal.cfg0 (F := Idealize.ShloMosaic.Ideal)).N, Cert.KernelIdeal.Hand.run_value m ρ, ?_⟩
  refine (θ_run Cert.ReferenceIdeal.defs _ _).mono (fun r h c => ⟨(h c).1.trans ?_, (h c).2⟩) (Cert.ReferenceIdeal.Value.run (F := Idealize.ShloMosaic.Ideal) m' ρ')
  obtain ⟨h0, h1, h2, h3⟩ := hargs c
  exact (Cert.ReferenceIdeal.Hand.res_eq m' c).trans
    (Cert.KernelIdeal.Hand.array_eq m c _ _ _ _ h0.symm h1.symm h2.symm h3.symm).symm

end Cert.Proof

end
-- ==== Proof.V2.Point.lean ====
/-
  What the projection's body leaves in each of its ten blocks at a grid point, read at an index: a sum of products,
  for the queries times 1/8.
-/
module

public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Finset

/-- A row of the block against a column of the weights. -/
def entry (x0 : Vec Ideal S512x1024 .f32) (x1 : Vec Ideal S1024x3072 .bf16) (r : Fin 512) (l : Fin 3072) : Ideal .f32 :=
  (show EReal from ∑ k : Fin 1024, x0 (ix2 r k) * x1 (ix2 k l))

/-- The same times 1/8. -/
def eighth (x0 : Vec Ideal S512x1024 .f32) (x1 : Vec Ideal S1024x3072 .bf16) (r : Fin 512) (l : Fin 3072) : Ideal .f32 :=
  (show EReal from entry x0 x1 r l * Ideal.ofBits .f32 1040187392#32)

/-! ## The body's values, one at a time -/

theorem pay12_apply (x : FVec Ideal S512x1024 .f32) (w : FVec Ideal S1024x512 .bf16) (r l : Fin 512) :
    k0_pay12 (F := Ideal) x w (ix2 r l) = ((∑ k : Fin 1024, x (ix2 r k) * w (ix2 k l)) * Ideal.ofBits .f32 1040187392#32 : EReal) := by
  pointwise [k0_pay12, k0_pay11]
theorem pay14_apply (x : FVec Ideal S512x1024 .f32) (w : FVec Ideal S1024x512 .bf16) (r l : Fin 512) :
    k0_pay14 (F := Ideal) x w (ix2 r l) = (∑ k : Fin 1024, x (ix2 r k) * w (ix2 k l) : EReal) := by
  pointwise [k0_pay14, k0_pay13, k0_pay11]
theorem pay2_apply (x : FVec Ideal S512x1024 .bf16) (w : FVec Ideal S1024x512 .bf16) (r l : Fin 512) :
    k0_pay2 (F := Ideal) x w (ix2 r l) = (∑ k : Fin 1024, x (ix2 r k) * w (ix2 k l) : EReal) := by
  pointwise [k0_pay2, k0_pay1]
theorem pay4_apply (x : FVec Ideal S512x1024 .bf16) (w : FVec Ideal S1024x512 .bf16) (r l : Fin 512) :
    k0_pay4 (F := Ideal) x w (ix2 r l) = ((∑ k : Fin 1024, x (ix2 r k) * w (ix2 k l)) * Ideal.ofBits .f32 1040187392#32 : EReal) := by
  pointwise [k0_pay4]
theorem pay6_apply (x : FVec Ideal S512x1024 .bf16) (w : FVec Ideal S1024x512 .bf16) (r l : Fin 512) :
    k0_pay6 (F := Ideal) x w (ix2 r l) = (∑ k : Fin 1024, x (ix2 r k) * w (ix2 k l) : EReal) := by
  pointwise [k0_pay6, k0_pay5]
theorem pay8_apply (x : FVec Ideal S512x1024 .bf16) (w : FVec Ideal S1024x512 .bf16) (r l : Fin 512) :
    k0_pay8 (F := Ideal) x w (ix2 r l) = (∑ k : Fin 1024, x (ix2 r k) * w (ix2 k l) : EReal) := by
  pointwise [k0_pay8, k0_pay7]
theorem pay15_apply (x : FVec Ideal S512x1024 .f32) (w : FVec Ideal S1024x512 .bf16) (l r : Fin 512) :
    k0_pay15 (F := Ideal) x w (ix4 0 0 l r) = (∑ k : Fin 1024, x (ix2 r k) * w (ix2 k l) : EReal) := by
  pointwise [k0_pay15, k0_pay13, k0_pay11]
theorem pay3_apply (x : FVec Ideal S512x1024 .bf16) (w : FVec Ideal S1024x512 .bf16) (l r : Fin 512) :
    k0_pay3 (F := Ideal) x w (ix4 0 0 l r) = (∑ k : Fin 1024, x (ix2 r k) * w (ix2 k l) : EReal) := by
  pointwise [k0_pay3, k0_pay1]
theorem pay9_apply (x : FVec Ideal S512x1024 .bf16) (w : FVec Ideal S1024x512 .bf16) (l r : Fin 512) :
    k0_pay9 (F := Ideal) x w (ix4 0 0 l r) = (∑ k : Fin 1024, x (ix2 r k) * w (ix2 k l) : EReal) := by
  pointwise [k0_pay9, k0_pay5]
theorem pay10_apply (x : FVec Ideal S512x1024 .bf16) (w : FVec Ideal S1024x512 .bf16) (l r : Fin 512) :
    k0_pay10 (F := Ideal) x w (ix4 0 0 l r) = (∑ k : Fin 1024, x (ix2 r k) * w (ix2 k l) : EReal) := by
  pointwise [k0_pay10, k0_pay7]
theorem pay11_apply (x : FVec Ideal S512x1024 .f32) (r : Fin 512) (k : Fin 1024) : k0_pay11 (F := Ideal) x (ix2 r k) = x (ix2 r k) := by
  pointwise [k0_pay11]
theorem pay16_apply (w : FVec Ideal S1024x512 .bf16) (k : Fin 1024) (l : Fin 512) : k0_pay16 (F := Ideal) w (ix2 k l) = w (ix2 k l) := by
  pointwise [k0_pay16]

end Cert.Kernel2Ideal.Hand

end
-- ==== Proof.V2.Blocks.lean ====
/-
  The projection's blocks in the two cases of its grid points.
-/
module

public import proofs.«01_k».proof.Proof.V2.Point

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Finset

/-! ## The loads -/

theorem rd_x (a : Memref sig .tc .vmem S512x1024 .f32) (ha : a.IsWhole) (x0 : Vec Ideal S512x1024 .f32) (r : Fin 512) (k : Fin 1024) :
    View.readAt (Elt Ideal) a.view (Rect.unit (s := S512x1024) ![0, 0] S512x1024.size inb_S512x1024_S512x1024_0_0).toLoadRect (ha.unread x0) (ix2 r k) = x0 (ix2 r k) := by
  rw [View.readAt_eq_ld, ha.read_unread]
  pointwise

theorem rd_w0 (a : Memref sig .tc .vmem S1024x3072 .bf16) (ha : a.IsWhole) (x1 : Vec Ideal S1024x3072 .bf16) (k : Fin 1024) (l : Fin 512) :
    View.readAt (Elt Ideal) a.view (Rect.unit (s := S1024x3072) ![0, 0] S1024x512.size inb_S1024x3072_S1024x512_0_0).toLoadRect (ha.unread x1) (ix2 k l)
      = x1 (ix2 k (⟨0 + l.val, by omega⟩ : Fin 3072)) := by
  rw [View.readAt_eq_ld, ha.read_unread]
  pointwise

theorem rd_w512 (a : Memref sig .tc .vmem S1024x3072 .bf16) (ha : a.IsWhole) (x1 : Vec Ideal S1024x3072 .bf16) (k : Fin 1024) (l : Fin 512) :
    View.readAt (Elt Ideal) a.view (Rect.unit (s := S1024x3072) ![0, 512] S1024x512.size inb_S1024x3072_S1024x512_0_512).toLoadRect (ha.unread x1) (ix2 k l)
      = x1 (ix2 k (⟨512 + l.val, by omega⟩ : Fin 3072)) := by
  rw [View.readAt_eq_ld, ha.read_unread]
  pointwise

theorem rd_w1024 (a : Memref sig .tc .vmem S1024x3072 .bf16) (ha : a.IsWhole) (x1 : Vec Ideal S1024x3072 .bf16) (k : Fin 1024) (l : Fin 512) :
    View.readAt (Elt Ideal) a.view (Rect.unit (s := S1024x3072) ![0, 1024] S1024x512.size inb_S1024x3072_S1024x512_0_1024).toLoadRect (ha.unread x1) (ix2 k l)
      = x1 (ix2 k (⟨1024 + l.val, by omega⟩ : Fin 3072)) := by
  rw [View.readAt_eq_ld, ha.read_unread]
  pointwise

theorem rd_w1536 (a : Memref sig .tc .vmem S1024x3072 .bf16) (ha : a.IsWhole) (x1 : Vec Ideal S1024x3072 .bf16) (k : Fin 1024) (l : Fin 512) :
    View.readAt (Elt Ideal) a.view (Rect.unit (s := S1024x3072) ![0, 1536] S1024x512.size inb_S1024x3072_S1024x512_0_1536).toLoadRect (ha.unread x1) (ix2 k l)
      = x1 (ix2 k (⟨1536 + l.val, by omega⟩ : Fin 3072)) := by
  rw [View.readAt_eq_ld, ha.read_unread]
  pointwise

theorem rd_w2048 (a : Memref sig .tc .vmem S1024x3072 .bf16) (ha : a.IsWhole) (x1 : Vec Ideal S1024x3072 .bf16) (k : Fin 1024) (l : Fin 512) :
    View.readAt (Elt Ideal) a.view (Rect.unit (s := S1024x3072) ![0, 2048] S1024x512.size inb_S1024x3072_S1024x512_0_2048).toLoadRect (ha.unread x1) (ix2 k l)
      = x1 (ix2 k (⟨2048 + l.val, by omega⟩ : Fin 3072)) := by
  rw [View.readAt_eq_ld, ha.read_unread]
  pointwise

theorem rd_w2560 (a : Memref sig .tc .vmem S1024x3072 .bf16) (ha : a.IsWhole) (x1 : Vec Ideal S1024x3072 .bf16) (k : Fin 1024) (l : Fin 512) :
    View.readAt (Elt Ideal) a.view (Rect.unit (s := S1024x3072) ![0, 2560] S1024x512.size inb_S1024x3072_S1024x512_0_2560).toLoadRect (ha.unread x1) (ix2 k l)
      = x1 (ix2 k (⟨2560 + l.val, by omega⟩ : Fin 3072)) := by
  rw [View.readAt_eq_ld, ha.read_unread]
  pointwise

/-- A sum of products, factor by factor. -/
theorem sum_of (x0 : Vec Ideal S512x1024 .f32) (x1 : Vec Ideal S1024x3072 .bf16) {f g : Fin 1024 → EReal} (r : Fin 512) (l : Fin 3072)
    (hf : ∀ k, f k = x0 (ix2 r k)) (hg : ∀ k, g k = x1 (ix2 k l)) : ∑ k : Fin 1024, f k * g k = (show EReal from entry x0 x1 r l) :=
  Finset.sum_congr rfl fun k _ => congrArg₂ (fun a b => (show EReal from a * b)) (hf k) (hg k)

/-! ## The blocks -/

variable (c : Dev nD) (i : grid0.Coords) (arg1 : Memref sig .tc .vmem S512x1024 .f32) (harg1 : arg1.IsWhole) (arg2 : Memref sig .tc .vmem S1024x3072 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x1x512x512 .f32) (harg9 : arg9.IsWhole) (arg10 : Memref sig .tc .vmem S1x1x512x512 .f32) (harg10 : arg10.IsWhole) (arg11 : Memref sig .tc .vmem S1x1x512x512 .f32) (harg11 : arg11.IsWhole) (arg12 : Memref sig .tc .vmem S1x1x512x512 .f32) (harg12 : arg12.IsWhole)

/-- Case A, the first queries. -/
theorem a2 (hc0 : ¬cond0_0 i) (x0 : Vec Ideal S512x1024 .f32) (x1 : Vec Ideal S1024x3072 .bf16) (r l : Fin 512) :
    out0_A_2 c i arg1 harg1 arg2 harg2 arg3 harg3 arg4 harg4 arg5 harg5 arg6 harg6 arg7 harg7 arg8 harg8 arg9 harg9 arg10 harg10 arg11 harg11 arg12 harg12 hc0 x0 x1 (ix2 r l) = eighth x0 x1 r ⟨0 + l.val, by omega⟩ := by
  unfold out0_A_2
  rw [View.read_writes_junk_eq_canon]
  unfold kernelRun0_A
  dsimp only
  sl_unfold_words
  rw [View.canon_unit_zero (by decide)]
  exact (pay12_apply _ _ r l).trans (congrArg (fun a => (show EReal from a * Ideal.ofBits .f32 1040187392#32)) (sum_of x0 x1 r ⟨0 + l.val, by omega⟩ (fun k => rd_x arg1 harg1 x0 r k) (fun k => rd_w0 arg2 harg2 x1 k l)))

/-- Case A, the first keys. -/
theorem a3 (hc0 : ¬cond0_0 i) (x0 : Vec Ideal S512x1024 .f32) (x1 : Vec Ideal S1024x3072 .bf16) (r l : Fin 512) :
    out0_A_3 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨512 + l.val, by omega⟩ := by
  unfold out0_A_3
  rw [View.read_writes_junk_eq_canon]
  unfold kernelRun0_A
  dsimp only
  sl_unfold_words
  rw [View.canon_unit_zero (by decide)]
  exact (pay14_apply _ _ r l).trans (sum_of x0 x1 r ⟨512 + l.val, by omega⟩ (fun k => rd_x arg1 harg1 x0 r k) (fun k => rd_w512 arg2 harg2 x1 k l))

/-- Case A, the first values. -/
theorem a4 (hc0 : ¬cond0_0 i) (x0 : Vec Ideal S512x1024 .f32) (x1 : Vec Ideal S1024x3072 .bf16) (r l : Fin 512) :
    out0_A_4 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨1024 + l.val, by omega⟩ := by
  unfold out0_A_4
  rw [View.read_writes_junk_eq_canon]
  unfold kernelRun0_A
  dsimp only
  sl_unfold_words
  rw [View.canon_unit_zero (by decide)]
  exact (pay2_apply _ _ r l).trans (sum_of x0 x1 r ⟨1024 + l.val, by omega⟩ (fun k => (pay11_apply _ r k).trans (rd_x arg1 harg1 x0 r k)) (fun k => (pay16_apply _ k l).trans (rd_w1024 arg2 harg2 x1 k l)))

/-- Case A, the second queries. -/
theorem a5 (hc0 : ¬cond0_0 i) (x0 : Vec Ideal S512x1024 .f32) (x1 : Vec Ideal S1024x3072 .bf16) (r l : Fin 512) :
    out0_A_5 c i arg1 harg1 arg2 harg2 arg3 harg3 arg4 harg4 arg5 harg5 arg6 harg6 arg7 harg7 arg8 harg8 arg9 harg9 arg10 harg10 arg11 harg11 arg12 harg12 hc0 x0 x1 (ix2 r l) = eighth x0 x1 r ⟨1536 + l.val, by omega⟩ := by
  unfold out0_A_5
  rw [View.read_writes_junk_eq_canon]
  unfold kernelRun0_A
  dsimp only
  sl_unfold_words
  rw [View.canon_unit_zero (by decide)]
  exact (pay4_apply _ _ r l).trans (congrArg (fun a => (show EReal from a * Ideal.ofBits .f32 1040187392#32)) (sum_of x0 x1 r ⟨1536 + l.val, by omega⟩ (fun k => (pay11_apply _ r k).trans (rd_x arg1 harg1 x0 r k)) (fun k => rd_w1536 arg2 harg2 x1 k l)))

/-- Case A, the second keys. -/
theorem a6 (hc0 : ¬cond0_0 i) (x0 : Vec Ideal S512x1024 .f32) (x1 : Vec Ideal S1024x3072 .bf16) (r l : Fin 512) :
    out0_A_6 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨2048 + l.val, by omega⟩ := by
  unfold out0_A_6
  rw [View.read_writes_junk_eq_canon]
  unfold kernelRun0_A
  dsimp only
  sl_unfold_words
  rw [View.canon_unit_zero (by decide)]
  exact (pay6_apply _ _ r l).trans (sum_of x0 x1 r ⟨2048 + l.val, by omega⟩ (fun k => (pay11_apply _ r k).trans (rd_x arg1 harg1 x0 r k)) (fun k => rd_w2048 arg2 harg2 x1 k l))

/-- Case A, the second values. -/
theorem a7 (hc0 : ¬cond0_0 i) (x0 : Vec Ideal S512x1024 .f32) (x1 : Vec Ideal S1024x3072 .bf16) (r l : Fin 512) :
    out0_A_7 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨2560 + l.val, by omega⟩ := by
  unfold out0_A_7
  rw [View.read_writes_junk_eq_canon]
  unfold kernelRun0_A
  dsimp only
  sl_unfold_words
  rw [View.canon_unit_zero (by decide)]
  exact (pay8_apply _ _ r l).trans (sum_of x0 x1 r ⟨2560 + l.val, by omega⟩ (fun k => (pay11_apply _ r k).trans (rd_x arg1 harg1 x0 r k)) (fun k => rd_w2560 arg2 harg2 x1 k l))

/-- Case A, the first keys' slab. -/
theorem a8 (hc0 : ¬cond0_0 i) (x0 : Vec Ideal S512x1024 .f32) (x1 : Vec Ideal S1024x3072 .bf16) (r l : Fin 512) :
    out0_A_8 c i arg1 harg1 arg2 harg2 arg3 harg3 arg4 harg4 arg5 harg5 arg6 harg6 arg7 harg7 arg8 harg8 arg9 harg9 arg10 harg10 arg11 harg11 arg12 harg12 hc0 x0 x1 (ix4 0 0 l r) = entry x0 x1 r ⟨512 + l.val, by omega⟩ := by
  unfold out0_A_8
  rw [View.read_writes_junk_eq_canon]
  unfold kernelRun0_A
  dsimp only
  sl_unfold_words
  rw [View.canon_unit_zero (by decide)]
  exact (pay15_apply _ _ l r).trans (sum_of x0 x1 r ⟨512 + l.val, by omega⟩ (fun k => rd_x arg1 harg1 x0 r k) (fun k => rd_w512 arg2 harg2 x1 k l))

/-- Case A, the first values' slab. -/
theorem a9 (hc0 : ¬cond0_0 i) (x0 : Vec Ideal S512x1024 .f32) (x1 : Vec Ideal S1024x3072 .bf16) (r l : Fin 512) :
    out0_A_9 c i arg1 harg1 arg2 harg2 arg3 harg3 arg4 harg4 arg5 harg5 arg6 harg6 arg7 harg7 arg8 harg8 arg9 harg9 arg10 harg10 arg11 harg11 arg12 harg12 hc0 x0 x1 (ix4 0 0 l r) = entry x0 x1 r ⟨1024 + l.val, by omega⟩ := by
  unfold out0_A_9
  rw [View.read_writes_junk_eq_canon]
  unfold kernelRun0_A
  dsimp only
  sl_unfold_words
  rw [View.canon_unit_zero (by decide)]
  exact (pay3_apply _ _ l r).trans (sum_of x0 x1 r ⟨1024 + l.val, by omega⟩ (fun k => (pay11_apply _ r k).trans (rd_x arg1 harg1 x0 r k)) (fun k => (pay16_apply _ k l).trans (rd_w1024 arg2 harg2 x1 k l)))

/-- Case B, the first queries. -/
theorem b2 (hc0 : cond0_0 i) (x0 : Vec Ideal S512x1024 .f32) (x1 : Vec Ideal S1024x3072 .bf16) (r l : Fin 512) :
    out0_B_2 c i arg1 harg1 arg2 harg2 arg3 harg3 arg4 harg4 arg5 harg5 arg6 harg6 arg7 harg7 arg8 harg8 arg9 harg9 arg10 harg10 arg11 harg11 arg12 harg12 hc0 x0 x1 (ix2 r l) = eighth x0 x1 r ⟨0 + l.val, by omega⟩ := by
  unfold out0_B_2
  rw [View.read_writes_junk_eq_canon]
  unfold kernelRun0_B
  dsimp only
  sl_unfold_words
  rw [View.canon_unit_zero (by decide)]
  exact (pay12_apply _ _ r l).trans (congrArg (fun a => (show EReal from a * Ideal.ofBits .f32 1040187392#32)) (sum_of x0 x1 r ⟨0 + l.val, by omega⟩ (fun k => rd_x arg1 harg1 x0 r k) (fun k => rd_w0 arg2 harg2 x1 k l)))

/-- Case B, the first keys. -/
theorem b3 (hc0 : cond0_0 i) (x0 : Vec Ideal S512x1024 .f32) (x1 : Vec Ideal S1024x3072 .bf16) (r l : Fin 512) :
    out0_B_3 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨512 + l.val, by omega⟩ := by
  unfold out0_B_3
  rw [View.read_writes_junk_eq_canon]
  unfold kernelRun0_B
  dsimp only
  sl_unfold_words
  rw [View.canon_unit_zero (by decide)]
  exact (pay14_apply _ _ r l).trans (sum_of x0 x1 r ⟨512 + l.val, by omega⟩ (fun k => rd_x arg1 harg1 x0 r k) (fun k => rd_w512 arg2 harg2 x1 k l))

/-- Case B, the first values. -/
theorem b4 (hc0 : cond0_0 i) (x0 : Vec Ideal S512x1024 .f32) (x1 : Vec Ideal S1024x3072 .bf16) (r l : Fin 512) :
    out0_B_4 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨1024 + l.val, by omega⟩ := by
  unfold out0_B_4
  rw [View.read_writes_junk_eq_canon]
  unfold kernelRun0_B
  dsimp only
  sl_unfold_words
  rw [View.canon_unit_zero (by decide)]
  exact (pay2_apply _ _ r l).trans (sum_of x0 x1 r ⟨1024 + l.val, by omega⟩ (fun k => (pay11_apply _ r k).trans (rd_x arg1 harg1 x0 r k)) (fun k => (pay16_apply _ k l).trans (rd_w1024 arg2 harg2 x1 k l)))

/-- Case B, the second queries. -/
theorem b5 (hc0 : cond0_0 i) (x0 : Vec Ideal S512x1024 .f32) (x1 : Vec Ideal S1024x3072 .bf16) (r l : Fin 512) :
    out0_B_5 c i arg1 harg1 arg2 harg2 arg3 harg3 arg4 harg4 arg5 harg5 arg6 harg6 arg7 harg7 arg8 harg8 arg9 harg9 arg10 harg10 arg11 harg11 arg12 harg12 hc0 x0 x1 (ix2 r l) = eighth x0 x1 r ⟨1536 + l.val, by omega⟩ := by
  unfold out0_B_5
  rw [View.read_writes_junk_eq_canon]
  unfold kernelRun0_B
  dsimp only
  sl_unfold_words
  rw [View.canon_unit_zero (by decide)]
  exact (pay4_apply _ _ r l).trans (congrArg (fun a => (show EReal from a * Ideal.ofBits .f32 1040187392#32)) (sum_of x0 x1 r ⟨1536 + l.val, by omega⟩ (fun k => (pay11_apply _ r k).trans (rd_x arg1 harg1 x0 r k)) (fun k => rd_w1536 arg2 harg2 x1 k l)))

/-- Case B, the second keys. -/
theorem b6 (hc0 : cond0_0 i) (x0 : Vec Ideal S512x1024 .f32) (x1 : Vec Ideal S1024x3072 .bf16) (r l : Fin 512) :
    out0_B_6 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨2048 + l.val, by omega⟩ := by
  unfold out0_B_6
  rw [View.read_writes_junk_eq_canon]
  unfold kernelRun0_B
  dsimp only
  sl_unfold_words
  rw [View.canon_unit_zero (by decide)]
  exact (pay6_apply _ _ r l).trans (sum_of x0 x1 r ⟨2048 + l.val, by omega⟩ (fun k => (pay11_apply _ r k).trans (rd_x arg1 harg1 x0 r k)) (fun k => rd_w2048 arg2 harg2 x1 k l))

/-- Case B, the second values. -/
theorem b7 (hc0 : cond0_0 i) (x0 : Vec Ideal S512x1024 .f32) (x1 : Vec Ideal S1024x3072 .bf16) (r l : Fin 512) :
    out0_B_7 c i arg1 harg1 arg2 harg2 arg3 harg3 arg4 harg4 arg5 harg5 arg6 harg6 arg7 harg7 arg8 harg8 arg9 harg9 arg10 harg10 arg11 harg11 arg12 harg12 hc0 x0 x1 (ix2 r l) = entry x0 x1 r ⟨2560 + l.val, by omega⟩ := by
  unfold out0_B_7
  rw [View.read_writes_junk_eq_canon]
  unfold kernelRun0_B
  dsimp only
  sl_unfold_words
  rw [View.canon_unit_zero (by decide)]
  exact (pay8_apply _ _ r l).trans (sum_of x0 x1 r ⟨2560 + l.val, by omega⟩ (fun k => (pay11_apply _ r k).trans (rd_x arg1 harg1 x0 r k)) (fun k => rd_w2560 arg2 harg2 x1 k l))

/-- Case B, the first keys' slab. -/
theorem b8 (hc0 : cond0_0 i) (x0 : Vec Ideal S512x1024 .f32) (x1 : Vec Ideal S1024x3072 .bf16) (r l : Fin 512) :
    out0_B_8 c i arg1 harg1 arg2 harg2 arg3 harg3 arg4 harg4 arg5 harg5 arg6 harg6 arg7 harg7 arg8 harg8 arg9 harg9 arg10 harg10 arg11 harg11 arg12 harg12 hc0 x0 x1 (ix4 0 0 l r) = entry x0 x1 r ⟨512 + l.val, by omega⟩ := by
  unfold out0_B_8
  rw [View.read_writes_junk_eq_canon]
  unfold kernelRun0_B
  dsimp only
  sl_unfold_words
  rw [View.canon_unit_zero (by decide)]
  exact (pay15_apply _ _ l r).trans (sum_of x0 x1 r ⟨512 + l.val, by omega⟩ (fun k => rd_x arg1 harg1 x0 r k) (fun k => rd_w512 arg2 harg2 x1 k l))

/-- Case B, the first values' slab. -/
theorem b9 (hc0 : cond0_0 i) (x0 : Vec Ideal S512x1024 .f32) (x1 : Vec Ideal S1024x3072 .bf16) (r l : Fin 512) :
    out0_B_9 c i arg1 harg1 arg2 harg2 arg3 harg3 arg4 harg4 arg5 harg5 arg6 harg6 arg7 harg7 arg8 harg8 arg9 harg9 arg10 harg10 arg11 harg11 arg12 harg12 hc0 x0 x1 (ix4 0 0 l r) = entry x0 x1 r ⟨1024 + l.val, by omega⟩ := by
  unfold out0_B_9
  rw [View.read_writes_junk_eq_canon]
  unfold kernelRun0_B
  dsimp only
  sl_unfold_words
  rw [View.canon_unit_zero (by decide)]
  exact (pay3_apply _ _ l r).trans (sum_of x0 x1 r ⟨1024 + l.val, by omega⟩ (fun k => (pay11_apply _ r k).trans (rd_x arg1 harg1 x0 r k)) (fun k => (pay16_apply _ k l).trans (rd_w1024 arg2 harg2 x1 k l)))

/-- Case B, the second keys' last rows. -/
theorem b10 (hc0 : cond0_0 i) (x0 : Vec Ideal S512x1024 .f32) (x1 : Vec Ideal S1024x3072 .bf16) (r l : Fin 512) :
    out0_B_10 c i arg1 harg1 arg2 harg2 arg3 harg3 arg4 harg4 arg5 harg5 arg6 harg6 arg7 harg7 arg8 harg8 arg9 harg9 arg10 harg10 arg11 harg11 arg12 harg12 hc0 x0 x1 (ix4 0 0 l r) = entry x0 x1 r ⟨2048 + l.val, by omega⟩ := by
  unfold out0_B_10
  rw [View.read_writes_junk_eq_canon]
  unfold kernelRun0_B
  dsimp only
  sl_unfold_words
  rw [View.canon_unit_zero (by decide)]
  exact (pay9_apply _ _ l r).trans (sum_of x0 x1 r ⟨2048 + l.val, by omega⟩ (fun k => (pay11_apply _ r k).trans (rd_x arg1 harg1 x0 r k)) (fun k => rd_w2048 arg2 harg2 x1 k l))

/-- Case B, the second values' last rows. -/
theorem b11 (hc0 : cond0_0 i) (x0 : Vec Ideal S512x1024 .f32) (x1 : Vec Ideal S1024x3072 .bf16) (r l : Fin 512) :
    out0_B_11 c i arg1 harg1 arg2 harg2 arg3 harg3 arg4 harg4 arg5 harg5 arg6 harg6 arg7 harg7 arg8 harg8 arg9 harg9 arg10 harg10 arg11 harg11 arg12 harg12 hc0 x0 x1 (ix4 0 0 l r) = entry x0 x1 r ⟨2560 + l.val, by omega⟩ := by
  unfold out0_B_11
  rw [View.read_writes_junk_eq_canon]
  unfold kernelRun0_B
  dsimp only
  sl_unfold_words
  rw [View.canon_unit_zero (by decide)]
  exact (pay10_apply _ _ l r).trans (sum_of x0 x1 r ⟨2560 + l.val, by omega⟩ (fun k => (pay11_apply _ r k).trans (rd_x arg1 harg1 x0 r k)) (fun k => rd_w2560 arg2 harg2 x1 k l))

end Cert.Kernel2Ideal.Hand

end
-- ==== Proof.V2.Ref.lean ====
/-
  The reference of the projection: its ten results read at an index.
-/
module

public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen
open Idealize.ShloMosaic Idealize.ShloMosaic.TcCoe Idealize.ShloMosaic.Tactic
open Finset

variable (x : FVec Ideal S4x4096x1024 .f32) (w : FVec Ideal S1024x3072 .f32)

/-- A row of the flattened input, `n` over batch and position, against a column of the weights. -/
def proj (n : Fin 16384) (l : Fin 3072) : EReal :=
  ∑ k : Fin 1024, x (ix3 (⟨n.val / 4096, by omega⟩ : Fin 4) (⟨n.val % 4096, by omega⟩ : Fin 4096) k) * w (ix2 k l)

/-- The first queries, -/
def y2 : FVec Ideal S16384x512 .bf16 := truncf .bf16 (shapeCast _ (mulf (extractStridedSlice S4x4096x512 ![0, 0, 0] (Host.dotGeneral dot_S4x4096x1024_S1024x3072_S4x4096x3072_2_0_01_1_n_n none x w) slices_S4x4096x3072_S4x4096x512_0_0_0) (broadcastInDim S4x4096x512 ![] bcast_S_S4x4096x512 (constant S_ .f32 0x3E000000#32))) shapeCasts_S4x4096x512_S16384x512) bitsLt_bf16_f32

theorem y2_apply (n : Fin 16384) (l : Fin 512) : y2 x w (ix2 n l) = (proj x w n ⟨0 + l.val, by omega⟩ * Ideal.ofBits .f32 1040187392#32 : EReal) := by
  pointwise [y2, proj]

/-- The first keys, -/
def y3 : FVec Ideal S16384x512 .bf16 := truncf .bf16 (shapeCast _ (extractStridedSlice S4x4096x512 ![0, 0, 512] (Host.dotGeneral dot_S4x4096x1024_S1024x3072_S4x4096x3072_2_0_01_1_n_n none x w) slices_S4x4096x3072_S4x4096x512_0_0_512) shapeCasts_S4x4096x512_S16384x512) bitsLt_bf16_f32

theorem y3_apply (n : Fin 16384) (l : Fin 512) : y3 x w (ix2 n l) = proj x w n ⟨512 + l.val, by omega⟩ := by
  pointwise [y3, proj]

/-- The first values, -/
def y4 : FVec Ideal S16384x512 .bf16 := truncf .bf16 (shapeCast _ (extractStridedSlice S4x4096x512 ![0, 0, 1024] (Host.dotGeneral dot_S4x4096x1024_S1024x3072_S4x4096x3072_2_0_01_1_n_n none x w) slices_S4x4096x3072_S4x4096x512_0_0_1024) shapeCasts_S4x4096x512_S16384x512) bitsLt_bf16_f32

theorem y4_apply (n : Fin 16384) (l : Fin 512) : y4 x w (ix2 n l) = proj x w n ⟨1024 + l.val, by omega⟩ := by
  pointwise [y4, proj]

/-- The second queries, -/
def y5 : FVec Ideal S16384x512 .bf16 := truncf .bf16 (shapeCast _ (mulf (extractStridedSlice S4x4096x512 ![0, 0, 1536] (Host.dotGeneral dot_S4x4096x1024_S1024x3072_S4x4096x3072_2_0_01_1_n_n none x w) slices_S4x4096x3072_S4x4096x512_0_0_1536) (broadcastInDim S4x4096x512 ![] bcast_S_S4x4096x512 (constant S_ .f32 0x3E000000#32))) shapeCasts_S4x4096x512_S16384x512) bitsLt_bf16_f32

theorem y5_apply (n : Fin 16384) (l : Fin 512) : y5 x w (ix2 n l) = (proj x w n ⟨1536 + l.val, by omega⟩ * Ideal.ofBits .f32 1040187392#32 : EReal) := by
  pointwise [y5, proj]

/-- The second keys, -/
def y6 : FVec Ideal S16384x512 .bf16 := truncf .bf16 (shapeCast _ (extractStridedSlice S4x4096x512 ![0, 0, 2048] (Host.dotGeneral dot_S4x4096x1024_S1024x3072_S4x4096x3072_2_0_01_1_n_n none x w) slices_S4x4096x3072_S4x4096x512_0_0_2048) shapeCasts_S4x4096x512_S16384x512) bitsLt_bf16_f32

theorem y6_apply (n : Fin 16384) (l : Fin 512) : y6 x w (ix2 n l) = proj x w n ⟨2048 + l.val, by omega⟩ := by
  pointwise [y6, proj]

/-- The second values, -/
def y7 : FVec Ideal S16384x512 .bf16 := truncf .bf16 (shapeCast _ (extractStridedSlice S4x4096x512 ![0, 0, 2560] (Host.dotGeneral dot_S4x4096x1024_S1024x3072_S4x4096x3072_2_0_01_1_n_n none x w) slices_S4x4096x3072_S4x4096x512_0_0_2560) shapeCasts_S4x4096x512_S16384x512) bitsLt_bf16_f32

theorem y7_apply (n : Fin 16384) (l : Fin 512) : y7 x w (ix2 n l) = proj x w n ⟨2560 + l.val, by omega⟩ := by
  pointwise [y7, proj]

/-- The first keys' slab, -/
def y8 : FVec Ideal S1x4x512x4096 .f32 := broadcastInDim S1x4x512x4096 ![1, 2, 3] bcast_S4x512x4096_S1x4x512x4096_1_2_3 (transpose S4x512x4096 [0, 2, 1] (extractStridedSlice S4x4096x512 ![0, 0, 512] (Host.dotGeneral dot_S4x4096x1024_S1024x3072_S4x4096x3072_2_0_01_1_n_n none x w) slices_S4x4096x3072_S4x4096x512_0_0_512) transposes_S4x4096x512_S4x512x4096_0_2_1)

theorem y8_apply (b : Fin 4) (l : Fin 512) (s : Fin 4096) : y8 x w (ix4 0 b l s) = proj x w ⟨4096 * b.val + s.val, by omega⟩ ⟨512 + l.val, by omega⟩ := by
  pointwise [y8, proj]
  refine Finset.sum_congr rfl fun k _ => congrArg (fun y => (show EReal from x y * w (ix2 k (⟨512 + l.val, by omega⟩ : Fin 3072)))) ?_
  congr 1 <;> (apply Fin.ext; dsimp only; omega)

/-- The first values' slab, -/
def y9 : FVec Ideal S1x4x512x4096 .f32 := broadcastInDim S1x4x512x4096 ![1, 2, 3] bcast_S4x512x4096_S1x4x512x4096_1_2_3 (transpose S4x512x4096 [0, 2, 1] (extractStridedSlice S4x4096x512 ![0, 0, 1024] (Host.dotGeneral dot_S4x4096x1024_S1024x3072_S4x4096x3072_2_0_01_1_n_n none x w) slices_S4x4096x3072_S4x4096x512_0_0_1024) transposes_S4x4096x512_S4x512x4096_0_2_1)

theorem y9_apply (b : Fin 4) (l : Fin 512) (s : Fin 4096) : y9 x w (ix4 0 b l s) = proj x w ⟨4096 * b.val + s.val, by omega⟩ ⟨1024 + l.val, by omega⟩ := by
  pointwise [y9, proj]
  refine Finset.sum_congr rfl fun k _ => congrArg (fun y => (show EReal from x y * w (ix2 k (⟨1024 + l.val, by omega⟩ : Fin 3072)))) ?_
  congr 1 <;> (apply Fin.ext; dsimp only; omega)

/-- The second keys' last rows, -/
def y10 : FVec Ideal S1x4x512x512 .f32 := broadcastInDim S1x4x512x512 ![1, 2, 3] bcast_S4x512x512_S1x4x512x512_1_2_3 (transpose S4x512x512 [0, 2, 1] (extractStridedSlice S4x512x512 ![0, 3584, 0] (extractStridedSlice S4x4096x512 ![0, 0, 2048] (Host.dotGeneral dot_S4x4096x1024_S1024x3072_S4x4096x3072_2_0_01_1_n_n none x w) slices_S4x4096x3072_S4x4096x512_0_0_2048) slices_S4x4096x512_S4x512x512_0_3584_0) transposes_S4x512x512_S4x512x512_0_2_1)

theorem y10_apply (b : Fin 4) (l r : Fin 512) : y10 x w (ix4 0 b l r) = proj x w ⟨4096 * b.val + 3584 + r.val, by omega⟩ ⟨2048 + l.val, by omega⟩ := by
  pointwise [y10, proj]
  refine Finset.sum_congr rfl fun k _ => congrArg (fun y => (show EReal from x y * w (ix2 k (⟨2048 + l.val, by omega⟩ : Fin 3072)))) ?_
  congr 1 <;> (apply Fin.ext; dsimp only; omega)

/-- The second values' last rows, -/
def y11 : FVec Ideal S1x4x512x512 .f32 := broadcastInDim S1x4x512x512 ![1, 2, 3] bcast_S4x512x512_S1x4x512x512_1_2_3 (transpose S4x512x512 [0, 2, 1] (extractStridedSlice S4x512x512 ![0, 3584, 0] (extractStridedSlice S4x4096x512 ![0, 0, 2560] (Host.dotGeneral dot_S4x4096x1024_S1024x3072_S4x4096x3072_2_0_01_1_n_n none x w) slices_S4x4096x3072_S4x4096x512_0_0_2560) slices_S4x4096x512_S4x512x512_0_3584_0) transposes_S4x512x512_S4x512x512_0_2_1)

theorem y11_apply (b : Fin 4) (l r : Fin 512) : y11 x w (ix4 0 b l r) = proj x w ⟨4096 * b.val + 3584 + r.val, by omega⟩ ⟨2560 + l.val, by omega⟩ := by
  pointwise [y11, proj]
  refine Finset.sum_congr rfl fun k _ => congrArg (fun y => (show EReal from x y * w (ix2 k (⟨2560 + l.val, by omega⟩ : Fin 3072)))) ?_
  congr 1 <;> (apply Fin.ext; dsimp only; omega)

end Cert.Reference2Ideal.Hand

end
-- ==== Proof.V2.Value.lean ====
/-
  The equations of the projection: the kernel's ten result arrays, block by block, are the reference's results.
-/
module

public import proofs.«01_k».proof.Proof.V2.Blocks
public import proofs.«01_k».proof.Proof.V2.Ref
public import proofs.«01_k».proof.Proof.Gen.Kernel2Ideal.Value
public import proofs.«01_k».proof.Defs
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Finset
open Idealize.SL.Sem
open Idealize.ShloMosaic.Pipeline (Dat)
open Cert.Reference2Ideal.Hand (proj)

variable (m : (ℓ : Loc nD τ sig) → Buf (Elt Ideal) ℓ) (c : Dev nD)

/-- Which block of its array each window is at, at grid point `t`. -/
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, t.val / 8, 0, t.val % 8] := by decide +kernel
theorem idx9 : ∀ t : Fin grid0.N, win0_9.index t = ![0, t.val / 8, 0, t.val % 8] := by decide +kernel
theorem idx10 : ∀ t : Fin grid0.N, win0_10.index t = ![0, t.val / 8, 0, 0] := by decide +kernel
theorem last10 : ∀ t : Fin grid0.N, win0_10.flush t = true → t.val % 8 = 7 := by decide +kernel
theorem idx11 : ∀ t : Fin grid0.N, win0_11.index t = ![0, t.val / 8, 0, 0] := by decide +kernel
theorem last11 : ∀ t : Fin grid0.N, win0_11.flush t = true → t.val % 8 = 7 := by decide +kernel

/-- The grid has 32 points. -/
theorem t_lt (t : Fin cfg0.N) : t.val < 32 := t.isLt

theorem x_entry (n : Fin 16384) (k : Fin 1024) :
    V m c main_v0 (ix2 n k) = m ((c : Thread nD τ).loc main_arg0) (ix3 (⟨n.val / 4096, by omega⟩ : Fin 4) (⟨n.val % 4096, by omega⟩ : Fin 4096) k) := by
  entry_read
  pointwise

theorem w_entry (k : Fin 1024) (l : Fin 3072) : V m c main_v1 (ix2 k l) = m ((c : Thread nD τ).loc main_arg1) (ix2 k l) := by
  entry_read
  pointwise

theorem x_blk (t : Fin cfg0.N) (r : Fin 512) (k : Fin 1024) :
    iblk m c 0 t (ix2 r k) = V m c main_v0 (ix2 (⟨512 * t.val + r.val, by have := t_lt t; omega⟩ : Fin 16384) k) := by
  blk_ext [iblk, idx0 t]

theorem w_blk (t : Fin cfg0.N) (k : Fin 1024) (l : Fin 3072) : iblk m c 1 t (ix2 k l) = V m c main_v1 (ix2 k l) := by
  blk_ext [iblk, idx1 t]

section Point

variable (x : FVec Ideal S4x4096x1024 .f32) (w : FVec Ideal S1024x3072 .f32)
  (h0 : m ((c : Thread nD τ).loc main_arg0) = x) (h1 : m ((c : Thread nD τ).loc main_arg1) = w)

include h0 h1 in
/-- A row of a block against a column of the weights is a row of the flattened input against it. -/
theorem entry_eq (t : Fin cfg0.N) (r : Fin 512) (l : Fin 3072) :
    entry (iblk m c 0 t) (iblk m c 1 t) r l = proj x w (⟨512 * t.val + r.val, by have := t_lt t; omega⟩ : Fin 16384) l :=
  Finset.sum_congr rfl fun k _ => congrArg₂ (fun a b => (show EReal from a * b))
    ((x_blk m c t r k).trans ((x_entry m c _ k).trans (congrFun h0 _))) ((w_blk m c t k l).trans ((w_entry m c k l).trans (congrFun h1 _)))

/-- What a grid point leaves of the first queries, -/
theorem after2_apply (t : Fin cfg0.N) (r l : Fin 512) :
    (outsAt0 m c t.val t.isLt).1 (ix2 r l) = eighth (iblk m c 0 t) (iblk m c 1 t) r ⟨0 + l.val, by omega⟩ := by
  by_cases h : t.val % 8 = 7
  · rw [outsAt0_B m c t h]; dsimp only; apply b2
  · rw [outsAt0_A m c t h]; dsimp only; apply a2

include h0 h1 in
/-- and their array at the end: the reference's. -/
theorem array2 : (dats (F := Ideal) m 0 c).arrAt 2 cfg0.N = Cert.Reference2Ideal.Hand.y2 x w := by
  refine (dats m 0 c).arrAt_eq_of_covers 2 _ (by decide +kernel) fun t hf y => ?_
  blk_simp
  rw [after0_2]
  have hy : y = ix2 (⟨(y 0).val, (y 0).isLt⟩ : Fin 512) (⟨(y 1).val, (y 1).isLt⟩ : Fin 512) := by
    funext a; fin_cases a <;> rfl
  refine (congrArg (outsAt0 (F := Ideal) m c t.val t.isLt).1 hy).trans ((after2_apply m c t _ _).trans (Eq.trans (congrArg (fun a => (show EReal from a * Ideal.ofBits .f32 1040187392#32)) (entry_eq m c x w h0 h1 t _ _)) ((Cert.Reference2Ideal.Hand.y2_apply x w _ _).symm.trans (congrArg _ ?_))))
  blk_ext [idx2 t]

/-- What a grid point leaves of the first keys, -/
theorem after3_apply (t : Fin cfg0.N) (r l : Fin 512) :
    (outsAt0 m c t.val t.isLt).2.1 (ix2 r l) = entry (iblk m c 0 t) (iblk m c 1 t) r ⟨512 + l.val, by omega⟩ := by
  by_cases h : t.val % 8 = 7
  · rw [outsAt0_B m c t h]; dsimp only; apply b3
  · rw [outsAt0_A m c t h]; dsimp only; apply a3

include h0 h1 in
/-- and their array at the end: the reference's. -/
theorem array3 : (dats (F := Ideal) m 0 c).arrAt 3 cfg0.N = Cert.Reference2Ideal.Hand.y3 x w := by
  refine (dats m 0 c).arrAt_eq_of_covers 3 _ (by decide +kernel) fun t hf y => ?_
  blk_simp
  rw [after0_3]
  have hy : y = ix2 (⟨(y 0).val, (y 0).isLt⟩ : Fin 512) (⟨(y 1).val, (y 1).isLt⟩ : Fin 512) := by
    funext a; fin_cases a <;> rfl
  refine (congrArg (outsAt0 (F := Ideal) m c t.val t.isLt).2.1 hy).trans ((after3_apply m c t _ _).trans (Eq.trans (entry_eq m c x w h0 h1 t _ _) ((Cert.Reference2Ideal.Hand.y3_apply x w _ _).symm.trans (congrArg _ ?_))))
  blk_ext [idx3 t]

/-- What a grid point leaves of the first values, -/
theorem after4_apply (t : Fin cfg0.N) (r l : Fin 512) :
    (outsAt0 m c t.val t.isLt).2.2.1 (ix2 r l) = entry (iblk m c 0 t) (iblk m c 1 t) r ⟨1024 + l.val, by omega⟩ := by
  by_cases h : t.val % 8 = 7
  · rw [outsAt0_B m c t h]; dsimp only; apply b4
  · rw [outsAt0_A m c t h]; dsimp only; apply a4

include h0 h1 in
/-- and their array at the end: the reference's. -/
theorem array4 : (dats (F := Ideal) m 0 c).arrAt 4 cfg0.N = Cert.Reference2Ideal.Hand.y4 x w := by
  refine (dats m 0 c).arrAt_eq_of_covers 4 _ (by decide +kernel) fun t hf y => ?_
  blk_simp
  rw [after0_4]
  have hy : y = ix2 (⟨(y 0).val, (y 0).isLt⟩ : Fin 512) (⟨(y 1).val, (y 1).isLt⟩ : Fin 512) := by
    funext a; fin_cases a <;> rfl
  refine (congrArg (outsAt0 (F := Ideal) m c t.val t.isLt).2.2.1 hy).trans ((after4_apply m c t _ _).trans (Eq.trans (entry_eq m c x w h0 h1 t _ _) ((Cert.Reference2Ideal.Hand.y4_apply x w _ _).symm.trans (congrArg _ ?_))))
  blk_ext [idx4 t]

/-- What a grid point leaves of the second queries, -/
theorem after5_apply (t : Fin cfg0.N) (r l : Fin 512) :
    (outsAt0 m c t.val t.isLt).2.2.2.1 (ix2 r l) = eighth (iblk m c 0 t) (iblk m c 1 t) r ⟨1536 + l.val, by omega⟩ := by
  by_cases h : t.val % 8 = 7
  · rw [outsAt0_B m c t h]; dsimp only; apply b5
  · rw [outsAt0_A m c t h]; dsimp only; apply a5

include h0 h1 in
/-- and their array at the end: the reference's. -/
theorem array5 : (dats (F := Ideal) m 0 c).arrAt 5 cfg0.N = Cert.Reference2Ideal.Hand.y5 x w := by
  refine (dats m 0 c).arrAt_eq_of_covers 5 _ (by decide +kernel) fun t hf y => ?_
  blk_simp
  rw [after0_5]
  have hy : y = ix2 (⟨(y 0).val, (y 0).isLt⟩ : Fin 512) (⟨(y 1).val, (y 1).isLt⟩ : Fin 512) := by
    funext a; fin_cases a <;> rfl
  refine (congrArg (outsAt0 (F := Ideal) m c t.val t.isLt).2.2.2.1 hy).trans ((after5_apply m c t _ _).trans (Eq.trans (congrArg (fun a => (show EReal from a * Ideal.ofBits .f32 1040187392#32)) (entry_eq m c x w h0 h1 t _ _)) ((Cert.Reference2Ideal.Hand.y5_apply x w _ _).symm.trans (congrArg _ ?_))))
  blk_ext [idx5 t]

/-- What a grid point leaves of the second keys, -/
theorem after6_apply (t : Fin cfg0.N) (r l : Fin 512) :
    (outsAt0 m c t.val t.isLt).2.2.2.2.1 (ix2 r l) = entry (iblk m c 0 t) (iblk m c 1 t) r ⟨2048 + l.val, by omega⟩ := by
  by_cases h : t.val % 8 = 7
  · rw [outsAt0_B m c t h]; dsimp only; apply b6
  · rw [outsAt0_A m c t h]; dsimp only; apply a6

include h0 h1 in
/-- and their array at the end: the reference's. -/
theorem array6 : (dats (F := Ideal) m 0 c).arrAt 6 cfg0.N = Cert.Reference2Ideal.Hand.y6 x w := by
  refine (dats m 0 c).arrAt_eq_of_covers 6 _ (by decide +kernel) fun t hf y => ?_
  blk_simp
  rw [after0_6]
  have hy : y = ix2 (⟨(y 0).val, (y 0).isLt⟩ : Fin 512) (⟨(y 1).val, (y 1).isLt⟩ : Fin 512) := by
    funext a; fin_cases a <;> rfl
  refine (congrArg (outsAt0 (F := Ideal) m c t.val t.isLt).2.2.2.2.1 hy).trans ((after6_apply m c t _ _).trans (Eq.trans (entry_eq m c x w h0 h1 t _ _) ((Cert.Reference2Ideal.Hand.y6_apply x w _ _).symm.trans (congrArg _ ?_))))
  blk_ext [idx6 t]

/-- What a grid point leaves of the second values, -/
theorem after7_apply (t : Fin cfg0.N) (r l : Fin 512) :
    (outsAt0 m c t.val t.isLt).2.2.2.2.2.1 (ix2 r l) = entry (iblk m c 0 t) (iblk m c 1 t) r ⟨2560 + l.val, by omega⟩ := by
  by_cases h : t.val % 8 = 7
  · rw [outsAt0_B m c t h]; dsimp only; apply b7
  · rw [outsAt0_A m c t h]; dsimp only; apply a7

include h0 h1 in
/-- and their array at the end: the reference's. -/
theorem array7 : (dats (F := Ideal) m 0 c).arrAt 7 cfg0.N = Cert.Reference2Ideal.Hand.y7 x w := by
  refine (dats m 0 c).arrAt_eq_of_covers 7 _ (by decide +kernel) fun t hf y => ?_
  blk_simp
  rw [after0_7]
  have hy : y = ix2 (⟨(y 0).val, (y 0).isLt⟩ : Fin 512) (⟨(y 1).val, (y 1).isLt⟩ : Fin 512) := by
    funext a; fin_cases a <;> rfl
  refine (congrArg (outsAt0 (F := Ideal) m c t.val t.isLt).2.2.2.2.2.1 hy).trans ((after7_apply m c t _ _).trans (Eq.trans (entry_eq m c x w h0 h1 t _ _) ((Cert.Reference2Ideal.Hand.y7_apply x w _ _).symm.trans (congrArg _ ?_))))
  blk_ext [idx7 t]

/-- What a grid point leaves of the first keys' slab, -/
theorem after8_apply (t : Fin cfg0.N) (r l : Fin 512) :
    (outsAt0 m c t.val t.isLt).2.2.2.2.2.2.1 (ix4 0 0 l r) = entry (iblk m c 0 t) (iblk m c 1 t) r ⟨512 + l.val, by omega⟩ := by
  by_cases h : t.val % 8 = 7
  · rw [outsAt0_B m c t h]; dsimp only; apply b8
  · rw [outsAt0_A m c t h]; dsimp only; apply a8

include h0 h1 in
/-- and their array at the end: the reference's. -/
theorem array8 : (dats (F := Ideal) m 0 c).arrAt 8 cfg0.N = Cert.Reference2Ideal.Hand.y8 x w := by
  refine (dats m 0 c).arrAt_eq_of_covers 8 _ (by decide +kernel) fun t hf y => ?_
  blk_simp
  rw [after0_8]
  have htl := t_lt t
  have y0 : (y 0).val < 1 := (y 0).isLt
  have y1 : (y 1).val < 1 := (y 1).isLt
  have y3 : (y 3).val < 512 := (y 3).isLt
  have hy : y = ix4 (0 : Fin 1) (0 : Fin 1) (⟨(y 2).val, (y 2).isLt⟩ : Fin 512) (⟨(y 3).val, (y 3).isLt⟩ : Fin 512) := by
    funext a; fin_cases a
    · exact Fin.ext (by change (y 0).val = 0; omega)
    · exact Fin.ext (by change (y 1).val = 0; omega)
    · rfl
    · rfl
  refine (congrArg (outsAt0 (F := Ideal) m c t.val t.isLt).2.2.2.2.2.2.1 hy).trans ((after8_apply m c t _ _).trans (Eq.trans (entry_eq m c x w h0 h1 t _ _) ((congrArg (fun n => proj x w n _) (Fin.ext ?_)).trans
    ((Cert.Reference2Ideal.Hand.y8_apply x w (⟨t.val / 8, by omega⟩ : Fin 4) _ (⟨512 * (t.val % 8) + (y 3).val, by omega⟩ : Fin 4096)).symm.trans (congrArg _ ?_)))))
  · dsimp only; omega
  · blk_ext [idx8 t]

/-- What a grid point leaves of the first values' slab, -/
theorem after9_apply (t : Fin cfg0.N) (r l : Fin 512) :
    (outsAt0 m c t.val t.isLt).2.2.2.2.2.2.2.1 (ix4 0 0 l r) = entry (iblk m c 0 t) (iblk m c 1 t) r ⟨1024 + l.val, by omega⟩ := by
  by_cases h : t.val % 8 = 7
  · rw [outsAt0_B m c t h]; dsimp only; apply b9
  · rw [outsAt0_A m c t h]; dsimp only; apply a9

include h0 h1 in
/-- and their array at the end: the reference's. -/
theorem array9 : (dats (F := Ideal) m 0 c).arrAt 9 cfg0.N = Cert.Reference2Ideal.Hand.y9 x w := by
  refine (dats m 0 c).arrAt_eq_of_covers 9 _ (by decide +kernel) fun t hf y => ?_
  blk_simp
  rw [after0_9]
  have htl := t_lt t
  have y0 : (y 0).val < 1 := (y 0).isLt
  have y1 : (y 1).val < 1 := (y 1).isLt
  have y3 : (y 3).val < 512 := (y 3).isLt
  have hy : y = ix4 (0 : Fin 1) (0 : Fin 1) (⟨(y 2).val, (y 2).isLt⟩ : Fin 512) (⟨(y 3).val, (y 3).isLt⟩ : Fin 512) := by
    funext a; fin_cases a
    · exact Fin.ext (by change (y 0).val = 0; omega)
    · exact Fin.ext (by change (y 1).val = 0; omega)
    · rfl
    · rfl
  refine (congrArg (outsAt0 (F := Ideal) m c t.val t.isLt).2.2.2.2.2.2.2.1 hy).trans ((after9_apply m c t _ _).trans (Eq.trans (entry_eq m c x w h0 h1 t _ _) ((congrArg (fun n => proj x w n _) (Fin.ext ?_)).trans
    ((Cert.Reference2Ideal.Hand.y9_apply x w (⟨t.val / 8, by omega⟩ : Fin 4) _ (⟨512 * (t.val % 8) + (y 3).val, by omega⟩ : Fin 4096)).symm.trans (congrArg _ ?_)))))
  · dsimp only; omega
  · blk_ext [idx9 t]

/-- What a grid point leaves of the second keys' last rows, -/
theorem after10_apply (t : Fin cfg0.N) (h : t.val % 8 = 7) (r l : Fin 512) :
    (outsAt0 m c t.val t.isLt).2.2.2.2.2.2.2.2.1 (ix4 0 0 l r) = entry (iblk m c 0 t) (iblk m c 1 t) r ⟨2048 + l.val, by omega⟩ := by
  rw [outsAt0_B m c t h]; dsimp only; apply b10

include h0 h1 in
/-- and their array at the end: the reference's. -/
theorem array10 : (dats (F := Ideal) m 0 c).arrAt 10 cfg0.N = Cert.Reference2Ideal.Hand.y10 x w := by
  refine (dats m 0 c).arrAt_eq_of_covers 10 _ (by decide +kernel) fun t hf y => ?_
  blk_simp
  rw [after0_10]
  have h7 := last10 t hf
  have htl := t_lt t
  have y0 : (y 0).val < 1 := (y 0).isLt
  have y1 : (y 1).val < 1 := (y 1).isLt
  have y3 : (y 3).val < 512 := (y 3).isLt
  have hy : y = ix4 (0 : Fin 1) (0 : Fin 1) (⟨(y 2).val, (y 2).isLt⟩ : Fin 512) (⟨(y 3).val, (y 3).isLt⟩ : Fin 512) := by
    funext a; fin_cases a
    · exact Fin.ext (by change (y 0).val = 0; omega)
    · exact Fin.ext (by change (y 1).val = 0; omega)
    · rfl
    · rfl
  refine (congrArg (outsAt0 (F := Ideal) m c t.val t.isLt).2.2.2.2.2.2.2.2.1 hy).trans ((after10_apply m c t (last10 t hf) _ _).trans (Eq.trans (entry_eq m c x w h0 h1 t _ _) ((congrArg (fun n => proj x w n _) (Fin.ext ?_)).trans
    ((Cert.Reference2Ideal.Hand.y10_apply x w (⟨t.val / 8, by omega⟩ : Fin 4) _ (⟨(y 3).val, y3⟩ : Fin 512)).symm.trans (congrArg _ ?_)))))
  · dsimp only; omega
  · blk_ext [idx10 t]

/-- What a grid point leaves of the second values' last rows, -/
theorem after11_apply (t : Fin cfg0.N) (h : t.val % 8 = 7) (r l : Fin 512) :
    (outsAt0 m c t.val t.isLt).2.2.2.2.2.2.2.2.2 (ix4 0 0 l r) = entry (iblk m c 0 t) (iblk m c 1 t) r ⟨2560 + l.val, by omega⟩ := by
  rw [outsAt0_B m c t h]; dsimp only; apply b11

include h0 h1 in
/-- and their array at the end: the reference's. -/
theorem array11 : (dats (F := Ideal) m 0 c).arrAt 11 cfg0.N = Cert.Reference2Ideal.Hand.y11 x w := by
  refine (dats m 0 c).arrAt_eq_of_covers 11 _ (by decide +kernel) fun t hf y => ?_
  blk_simp
  rw [after0_11]
  have h7 := last11 t hf
  have htl := t_lt t
  have y0 : (y 0).val < 1 := (y 0).isLt
  have y1 : (y 1).val < 1 := (y 1).isLt
  have y3 : (y 3).val < 512 := (y 3).isLt
  have hy : y = ix4 (0 : Fin 1) (0 : Fin 1) (⟨(y 2).val, (y 2).isLt⟩ : Fin 512) (⟨(y 3).val, (y 3).isLt⟩ : Fin 512) := by
    funext a; fin_cases a
    · exact Fin.ext (by change (y 0).val = 0; omega)
    · exact Fin.ext (by change (y 1).val = 0; omega)
    · rfl
    · rfl
  refine (congrArg (outsAt0 (F := Ideal) m c t.val t.isLt).2.2.2.2.2.2.2.2.2 hy).trans ((after11_apply m c t (last11 t hf) _ _).trans (Eq.trans (entry_eq m c x w h0 h1 t _ _) ((congrArg (fun n => proj x w n _) (Fin.ext ?_)).trans
    ((Cert.Reference2Ideal.Hand.y11_apply x w (⟨t.val / 8, by omega⟩ : Fin 4) _ (⟨(y 3).val, y3⟩ : Fin 512)).symm.trans (congrArg _ ?_)))))
  · dsimp only; omega
  · blk_ext [idx11 t]

end Point

end Cert.Kernel2Ideal.Hand

namespace Cert.Proof

open Idealize.ShloMosaic Idealize.SL.Sem

open Idealize.ShloMosaic.TcCoe in
/-- The projection and its reference, over the extended reals, end with equal results and unchanged arguments. -/
theorem equal2 : Cert.algebraic_Kernel2Ideal_Reference2Ideal := by
  intro m ρ m' ρ' _ hargs
  refine ⟨fun c => (Cert.Kernel2Ideal.Gen.dats (F := Idealize.ShloMosaic.Ideal) m 0 c).arrAt 2 Cert.Kernel2Ideal.cfg0.N,
    fun c => (Cert.Kernel2Ideal.Gen.dats (F := Idealize.ShloMosaic.Ideal) m 0 c).arrAt 3 Cert.Kernel2Ideal.cfg0.N,
    fun c => (Cert.Kernel2Ideal.Gen.dats (F := Idealize.ShloMosaic.Ideal) m 0 c).arrAt 4 Cert.Kernel2Ideal.cfg0.N,
    fun c => (Cert.Kernel2Ideal.Gen.dats (F := Idealize.ShloMosaic.Ideal) m 0 c).arrAt 5 Cert.Kernel2Ideal.cfg0.N,
    fun c => (Cert.Kernel2Ideal.Gen.dats (F := Idealize.ShloMosaic.Ideal) m 0 c).arrAt 6 Cert.Kernel2Ideal.cfg0.N,
    fun c => (Cert.Kernel2Ideal.Gen.dats (F := Idealize.ShloMosaic.Ideal) m 0 c).arrAt 7 Cert.Kernel2Ideal.cfg0.N,
    fun c => (Cert.Kernel2Ideal.Gen.dats (F := Idealize.ShloMosaic.Ideal) m 0 c).arrAt 8 Cert.Kernel2Ideal.cfg0.N,
    fun c => (Cert.Kernel2Ideal.Gen.dats (F := Idealize.ShloMosaic.Ideal) m 0 c).arrAt 9 Cert.Kernel2Ideal.cfg0.N,
    fun c => (Cert.Kernel2Ideal.Gen.dats (F := Idealize.ShloMosaic.Ideal) m 0 c).arrAt 10 Cert.Kernel2Ideal.cfg0.N,
    fun c => (Cert.Kernel2Ideal.Gen.dats (F := Idealize.ShloMosaic.Ideal) m 0 c).arrAt 11 Cert.Kernel2Ideal.cfg0.N,
    Cert.Kernel2Ideal.Value.run_blocks m ρ, ?_⟩
  refine (θ_run Cert.Reference2Ideal.defs _ _).mono (fun r h c => ?_) (Cert.Reference2Ideal.Value.run (F := Idealize.ShloMosaic.Ideal) m' ρ')
  obtain ⟨e0, e1, e2, e3, e4, e5, e6, e7, e8, e9, e⟩ := h c
  obtain ⟨h0, h1⟩ := hargs c
  exact ⟨e0.trans (Cert.Kernel2Ideal.Hand.array2 m c _ _ h0.symm h1.symm).symm,
    e1.trans (Cert.Kernel2Ideal.Hand.array3 m c _ _ h0.symm h1.symm).symm,
    e2.trans (Cert.Kernel2Ideal.Hand.array4 m c _ _ h0.symm h1.symm).symm,
    e3.trans (Cert.Kernel2Ideal.Hand.array5 m c _ _ h0.symm h1.symm).symm,
    e4.trans (Cert.Kernel2Ideal.Hand.array6 m c _ _ h0.symm h1.symm).symm,
    e5.trans (Cert.Kernel2Ideal.Hand.array7 m c _ _ h0.symm h1.symm).symm,
    e6.trans (Cert.Kernel2Ideal.Hand.array8 m c _ _ h0.symm h1.symm).symm,
    e7.trans (Cert.Kernel2Ideal.Hand.array9 m c _ _ h0.symm h1.symm).symm,
    e8.trans (Cert.Kernel2Ideal.Hand.array10 m c _ _ h0.symm h1.symm).symm,
    e9.trans (Cert.Kernel2Ideal.Hand.array11 m c _ _ h0.symm h1.symm).symm, e⟩

end Cert.Proof

end
-- ==== Proof.V3.Row.lean ====
/-
  One row of the merge in the extended reals: the weighted sum of the row's two halves added to the residual, its layer
  normalisation, and the query and score products that follow.
-/
module

public import Idealize.ShloMosaic.Lib.Pointwise

@[expose] public section

noncomputable section

namespace Cert.Merge

open Idealize.ShloMosaic Finset

/-- The residual `x`, scaled, and the products of the two halves of a row with one column of the weights. -/
def mixed (a b : Fin 512 → EReal) (x : EReal) (u v : Fin 512 → EReal) : EReal :=
  Ideal.ofBits .f32 1068827891#32 * x + (∑ k, a k * u k + ∑ k, b k * v k)

/-- The mean of a row. -/
def mean (y : Fin 1024 → EReal) : EReal := Ideal.div (∑ k, y k) (Ideal.ofBits .f32 1149239296#32)

/-- A row less its mean. -/
def centred (y : Fin 1024 → EReal) (l : Fin 1024) : EReal := y l - mean y

/-- The layer normalisation of a row, at one column with its gain and its offset. -/
def normal (y : Fin 1024 → EReal) (g b : EReal) (l : Fin 1024) : EReal :=
  centred y l * Ideal.rsqrt (mean (fun k => centred y k * centred y k) + Ideal.ofBits .f32 925353388#32) * g + b

end Cert.Merge

end
-- ==== Proof.V3.Point.lean ====
/-
  What the merge's body computes at a grid point, read at an index: the normalised rows of its two halves, the queries
  and the scores against the subkeys.
-/
module

public import proofs.«01_k».proof.Proof.V3.Row
public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Finset Cert.Merge

/-! ## The body's values, one at a time -/

theorem pay4_apply (a : FVec Ideal S256x512 .bf16) (u : FVec Ideal S512x1024 .bf16) (b : FVec Ideal S256x512 .bf16) (v : FVec Ideal S512x1024 .bf16) (r : Fin 256) (l : Fin 1024) :
    k0_pay4 (F := Ideal) a u b v (ix2 r l) = (∑ k : Fin 512, a (ix2 r k) * u (ix2 k l) + ∑ k : Fin 512, b (ix2 r k) * v (ix2 k l) : EReal) := by
  pointwise [k0_pay4]

theorem pay5_apply (a : FVec Ideal S256x512 .bf16) (u : FVec Ideal S512x1024 .bf16) (b : FVec Ideal S256x512 .bf16) (v : FVec Ideal S512x1024 .bf16) (x : FVec Ideal S256x1024 .f32) (r : Fin 256) (l : Fin 1024) :
    k0_pay5 (F := Ideal) a u b v x (ix2 r l) = mixed (fun k => a (ix2 r k)) (fun k => b (ix2 r k)) (x (ix2 r l)) (fun k => u (ix2 k l)) (fun k => v (ix2 k l)) := by
  pointwise [k0_pay5]
  rfl

theorem pay8_apply (y : FVec Ideal S256x1024 .f32) (g b : FVec Ideal S1x1024 .f32) (r : Fin 256) (l : Fin 1024) :
    k0_pay8 (F := Ideal) y g b (ix2 r l) = normal (fun k => y (ix2 r k)) (g (ix2 0 l)) (b (ix2 0 l)) l := by
  pointwise [k0_pay8]
  rfl

theorem pay11_apply (s x : FVec Ideal S256x1024 .f32) (r : Fin 256) (l : Fin 1024) :
    k0_pay11 (F := Ideal) s x (ix2 r l) = centred (fun k => (Ideal.ofBits .f32 1068827891#32 * x (ix2 r k) + s (ix2 r k) : EReal)) l := by
  pointwise [k0_pay11]
  rfl

theorem pay12_apply (s x : FVec Ideal S256x1024 .f32) (r : Fin 256) (l : Fin 1024) :
    k0_pay12 (F := Ideal) s x (ix2 r l)
      = Ideal.rsqrt (mean (fun k => k0_pay11 (F := Ideal) s x (ix2 r k) * k0_pay11 (F := Ideal) s x (ix2 r k)) + Ideal.ofBits .f32 925353388#32) := by
  pointwise [k0_pay12]
  rfl

theorem pay13_apply (g b : FVec Ideal S1x1024 .f32) (c s : FVec Ideal S256x1024 .f32) (r : Fin 256) (l : Fin 1024) :
    k0_pay13 (F := Ideal) g b c s (ix2 r l) = (c (ix2 r l) * s (ix2 r l) * g (ix2 0 l) + b (ix2 0 l) : EReal) := by
  pointwise [k0_pay13]

theorem pay14_apply (x : FVec Ideal S256x1024 .f32) (w : FVec Ideal S1024x2048 .bf16) (r : Fin 256) (j : Fin 2048) :
    k0_pay14 (F := Ideal) x w (ix2 r j) = (∑ l : Fin 1024, x (ix2 r l) * w (ix2 l j) : EReal) := by
  pointwise [k0_pay14]

/-! ## The loads -/

section Loads

variable (x0 x1 : Vec Ideal S512x512 .bf16) (x2 : Vec Ideal S512x1024 .f32) (x3 x4 : Vec Ideal S512x1024 .bf16) (x5 x6 : Vec Ideal S1x1024 .f32) (x7 : Vec Ideal S1024x2048 .bf16) (x8 : Vec Ideal S2x128x128 .bf16)

/-- The first half of a block's rows, -/
theorem ld_a0 (r : Fin 256) (k : Fin 512) : View.ld (Val := Elt Ideal) x0 r0_0 (ix2 r k) = x0 (ix2 (⟨0 + r.val, by omega⟩ : Fin 512) k) := by pointwise
theorem ld_x0 (r : Fin 256) (k : Fin 1024) : View.ld (Val := Elt Ideal) x2 r0_3 (ix2 r k) = x2 (ix2 (⟨0 + r.val, by omega⟩ : Fin 512) k) := by pointwise
/-- the second half, -/
theorem ld_a1 (r : Fin 256) (k : Fin 512) : View.ld (Val := Elt Ideal) x0 r0_2 (ix2 r k) = x0 (ix2 (⟨256 + r.val, by omega⟩ : Fin 512) k) := by pointwise
theorem ld_x1 (r : Fin 256) (k : Fin 1024) : View.ld (Val := Elt Ideal) x2 r0_5 (ix2 r k) = x2 (ix2 (⟨256 + r.val, by omega⟩ : Fin 512) k) := by pointwise
/-- the whole of a table, -/
theorem ld_w (k : Fin 512) (l : Fin 1024) : View.ld (Val := Elt Ideal) x3 r0_1 (ix2 k l) = x3 (ix2 k l) := by pointwise
theorem ld_g (l : Fin 1024) : View.ld (Val := Elt Ideal) x5 r0_4 (ix2 0 l) = x5 (ix2 0 l) := by pointwise
theorem ld_q (k : Fin 1024) (j : Fin 2048) : View.ld (Val := Elt Ideal) x7 r0_6 (ix2 k j) = x7 (ix2 k j) := by pointwise
/-- and the two tables of subkeys. -/
theorem ld_k0 (j d : Fin 128) : View.ld (Val := Elt Ideal) x8 r0_9 (ix3 0 j d) = x8 (ix3 0 j d) := by pointwise
theorem ld_k1 (j d : Fin 128) : View.ld (Val := Elt Ideal) x8 r0_12 (ix3 0 j d) = x8 (ix3 1 j d) := by pointwise

end Loads

/-! ## The two halves of a block -/

section Halves

variable (x0 x1 : Vec Ideal S512x512 .bf16) (x2 : Vec Ideal S512x1024 .f32) (x3 x4 : Vec Ideal S512x1024 .bf16) (x5 x6 : Vec Ideal S1x1024 .f32) (x7 : Vec Ideal S1024x2048 .bf16) (x8 : Vec Ideal S2x128x128 .bf16)

/-- A block's normalised rows. -/
def rowN (r : Fin 512) (l : Fin 1024) : EReal :=
  normal (fun l => mixed (fun k => x0 (ix2 r k)) (fun k => x1 (ix2 r k)) (x2 (ix2 r l)) (fun k => x3 (ix2 k l)) (fun k => x4 (ix2 k l))) (x5 (ix2 0 l)) (x6 (ix2 0 l)) l

/-- A block's queries. -/
def rowQ (r : Fin 512) (j : Fin 2048) : EReal := ∑ l : Fin 1024, rowN x0 x1 x2 x3 x4 x5 x6 r l * x7 (ix2 l j)

/-- A block's scores: row `ρ` is a head, a half of its query and a subkey. -/
def rowS (ρ : Fin 2048) (r : Fin 512) : EReal :=
  ∑ d : Fin 128, x8 (ix3 (⟨ρ.val / 128 % 2, by omega⟩ : Fin 2) (⟨ρ.val % 128, by omega⟩ : Fin 128) d) * rowQ x0 x1 x2 x3 x4 x5 x6 x7 r (⟨128 * (ρ.val / 128) + d.val, by omega⟩ : Fin 2048)

/-- The rows computed from what a first half loads are the block's from row `o` on, if the loads are, -/
theorem top_of (o : ℕ) (ho : o + 256 ≤ 512) (a : FVec Ideal S256x512 .bf16) (u : FVec Ideal S512x1024 .bf16) (b : FVec Ideal S256x512 .bf16) (v : FVec Ideal S512x1024 .bf16) (x : FVec Ideal S256x1024 .f32) (g p : FVec Ideal S1x1024 .f32)
    (ha : ∀ r k, a (ix2 r k) = x0 (ix2 (⟨o + r.val, by omega⟩ : Fin 512) k)) (hb : ∀ r k, b (ix2 r k) = x1 (ix2 (⟨o + r.val, by omega⟩ : Fin 512) k))
    (hx : ∀ r k, x (ix2 r k) = x2 (ix2 (⟨o + r.val, by omega⟩ : Fin 512) k)) (hu : ∀ k l, u (ix2 k l) = x3 (ix2 k l)) (hv : ∀ k l, v (ix2 k l) = x4 (ix2 k l))
    (hg : ∀ l, g (ix2 0 l) = x5 (ix2 0 l)) (hp : ∀ l, p (ix2 0 l) = x6 (ix2 0 l)) (r : Fin 256) (l : Fin 1024) :
    k0_pay8 (F := Ideal) (k0_pay5 a u b v x) (k0_pay6 g) (k0_pay7 p) (ix2 r l) = rowN x0 x1 x2 x3 x4 x5 x6 (⟨o + r.val, by omega⟩ : Fin 512) l := by
  have eg : k0_pay6 (F := Ideal) g (ix2 0 l) = g (ix2 0 l) := by pointwise [k0_pay6]
  have ep : k0_pay7 (F := Ideal) p (ix2 0 l) = p (ix2 0 l) := by pointwise [k0_pay7]
  rw [pay8_apply, rowN, eg, ep]
  simp only [pay5_apply, ha, hb, hx, hu, hv, hg, hp]

/-- and so are those computed from what a second half loads. -/
theorem low_of (o : ℕ) (ho : o + 256 ≤ 512) (a : FVec Ideal S256x512 .bf16) (u : FVec Ideal S512x1024 .bf16) (b : FVec Ideal S256x512 .bf16) (v : FVec Ideal S512x1024 .bf16) (x : FVec Ideal S256x1024 .f32) (g p : FVec Ideal S1x1024 .f32)
    (ha : ∀ r k, a (ix2 r k) = x0 (ix2 (⟨o + r.val, by omega⟩ : Fin 512) k)) (hb : ∀ r k, b (ix2 r k) = x1 (ix2 (⟨o + r.val, by omega⟩ : Fin 512) k))
    (hx : ∀ r k, x (ix2 r k) = x2 (ix2 (⟨o + r.val, by omega⟩ : Fin 512) k)) (hu : ∀ k l, u (ix2 k l) = x3 (ix2 k l)) (hv : ∀ k l, v (ix2 k l) = x4 (ix2 k l))
    (hg : ∀ l, g (ix2 0 l) = x5 (ix2 0 l)) (hp : ∀ l, p (ix2 0 l) = x6 (ix2 0 l)) (r : Fin 256) (l : Fin 1024) :
    k0_pay13 (F := Ideal) (k0_pay9 g) (k0_pay10 p) (k0_pay11 (k0_pay4 a u b v) x) (k0_pay12 (k0_pay4 a u b v) x) (ix2 r l)
      = rowN x0 x1 x2 x3 x4 x5 x6 (⟨o + r.val, by omega⟩ : Fin 512) l := by
  have eg : k0_pay9 (F := Ideal) g (ix2 0 l) = g (ix2 0 l) := by pointwise [k0_pay9]
  have ep : k0_pay10 (F := Ideal) p (ix2 0 l) = p (ix2 0 l) := by pointwise [k0_pay10]
  rw [pay13_apply, rowN, eg, ep, normal, pay12_apply]
  simp only [pay11_apply, pay4_apply, ha, hb, hx, hu, hv, hg, hp]
  rfl

/-- The first half's normalised rows, -/
theorem top_apply (r : Fin 256) (l : Fin 1024) :
    k0_pay54 (F := Ideal) x0 x1 x2 x3 x4 x5 x6 x7 x8 (ix2 r l) = rowN x0 x1 x2 x3 x4 x5 x6 (⟨0 + r.val, by omega⟩ : Fin 512) l :=
  top_of x0 x1 x2 x3 x4 x5 x6 0 (by omega) _ _ _ _ _ _ _ (ld_a0 x0) (ld_a0 x1) (ld_x0 x2) (ld_w x3) (ld_w x4) (ld_g x5) (ld_g x6) r l

/-- the second half's, -/
theorem low_apply (r : Fin 256) (l : Fin 1024) :
    k0_pay13 (F := Ideal) (k0_pay55 x0 x1 x2 x3 x4 x5 x6 x7 x8) (k0_pay56 x0 x1 x2 x3 x4 x5 x6 x7 x8) (k0_pay57 x0 x1 x2 x3 x4 x5 x6 x7 x8) (k0_pay58 x0 x1 x2 x3 x4 x5 x6 x7 x8) (ix2 r l)
      = rowN x0 x1 x2 x3 x4 x5 x6 (⟨256 + r.val, by omega⟩ : Fin 512) l :=
  low_of x0 x1 x2 x3 x4 x5 x6 256 (by omega) _ _ _ _ _ _ _ (ld_a1 x0) (ld_a1 x1) (ld_x1 x2) (ld_w x3) (ld_w x4) (ld_g x5) (ld_g x6) r l

/-- the first half's queries -/
theorem topQ_apply (r : Fin 256) (j : Fin 2048) :
    k0_pay59 (F := Ideal) x0 x1 x2 x3 x4 x5 x6 x7 x8 (ix2 r j) = rowQ x0 x1 x2 x3 x4 x5 x6 x7 (⟨0 + r.val, by omega⟩ : Fin 512) j := by
  rw [k0_pay59, pay14_apply, rowQ]
  exact Finset.sum_congr rfl fun l _ => congrArg₂ (fun a b : EReal => a * b) (top_apply x0 x1 x2 x3 x4 x5 x6 x7 x8 r l) (ld_q x7 l j)

/-- and the second half's. -/
theorem lowQ_apply (r : Fin 256) (j : Fin 2048) :
    k0_pay60 (F := Ideal) x0 x1 x2 x3 x4 x5 x6 x7 x8 (ix2 r j) = rowQ x0 x1 x2 x3 x4 x5 x6 x7 (⟨256 + r.val, by omega⟩ : Fin 512) j := by
  have e : k0_pay60 (F := Ideal) x0 x1 x2 x3 x4 x5 x6 x7 x8 = k0_pay14 (F := Ideal) (k0_pay13 (F := Ideal) (k0_pay55 x0 x1 x2 x3 x4 x5 x6 x7 x8) (k0_pay56 x0 x1 x2 x3 x4 x5 x6 x7 x8) (k0_pay57 x0 x1 x2 x3 x4 x5 x6 x7 x8) (k0_pay58 x0 x1 x2 x3 x4 x5 x6 x7 x8)) (View.ld (Val := Elt Ideal) x7 r0_6) := rfl
  rw [e, pay14_apply, rowQ]
  exact Finset.sum_congr rfl fun l _ => congrArg₂ (fun a b : EReal => a * b) (low_apply x0 x1 x2 x3 x4 x5 x6 x7 x8 r l) (ld_q x7 l j)

end Halves

end Cert.Kernel3Ideal.Hand

end
-- ==== Proof.V3.Pieces.lean ====
/-
  What the merge's body leaves in its three outputs at a grid point: the normalised rows, their transpose and the scores,
  each put together from the pieces stored.
-/
module

public import proofs.«01_k».proof.Proof.V3.Point

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Finset Cert.Merge

section Pieces

variable (x0 x1 : Vec Ideal S512x512 .bf16) (x2 : Vec Ideal S512x1024 .f32) (x3 x4 : Vec Ideal S512x1024 .bf16) (x5 x6 : Vec Ideal S1x1024 .f32) (x7 : Vec Ideal S1024x2048 .bf16) (x8 : Vec Ideal S2x128x128 .bf16)

/-- A piece of the rows, at row `o` of the block, holds what it should. -/
theorem row_piece (o : ℕ) (ho : o + 256 ≤ 512) (inb) (v : Vec Ideal S256x1024 .f32)
    (hv : ∀ (r : Fin 256) (l : Fin 1024), v (ix2 r l) = rowN x0 x1 x2 x3 x4 x5 x6 (⟨o + r.val, by omega⟩ : Fin 512) l)
    (x : (Rect.unit (s := S512x1024) ![o, 0] S256x1024.size inb).shape.Idx) :
    v x = (fun y : S512x1024.Idx => rowN x0 x1 x2 x3 x4 x5 x6 (⟨(y 0).val, (y 0).isLt⟩ : Fin 512) (⟨(y 1).val, (y 1).isLt⟩ : Fin 1024)) ((Rect.unit (s := S512x1024) ![o, 0] S256x1024.size inb).emb x) := by
  have e : x = ix2 (⟨(x 0).val, (x 0).isLt⟩ : Fin 256) (⟨(x 1).val, (x 1).isLt⟩ : Fin 1024) := by
    funext a; fin_cases a <;> rfl
  refine (congrArg v e).trans ((hv _ _).trans ?_)
  dsimp only
  congr 1 <;> refine Fin.ext ?_
  · show o + (x 0).val = o + 1 * (x 0).val
    omega
  · show (x 1).val = 0 + 1 * (x 1).val
    omega

/-- The rows' buffer, -/
theorem out9_apply (r : Fin 512) (l : Fin 1024) : out0_9 (F := Ideal) x0 x1 x2 x3 x4 x5 x6 x7 x8 (ix2 r l) = rowN x0 x1 x2 x3 x4 x5 x6 r l := by
  rw [out0_9, View.canon_apply_of_pieces (fun y : S512x1024.Idx => rowN x0 x1 x2 x3 x4 x5 x6 (⟨(y 0).val, (y 0).isLt⟩ : Fin 512) (⟨(y 1).val, (y 1).isLt⟩ : Fin 1024)) _ ?_ _ (cover0_9 _ _ _)]
  · rfl
  refine List.forall_mem_cons.2 ⟨row_piece x0 x1 x2 x3 x4 x5 x6 256 (by omega) inb_S512x1024_S256x1024_256_0 _ (low_apply x0 x1 x2 x3 x4 x5 x6 x7 x8), List.forall_mem_cons.2 ⟨row_piece x0 x1 x2 x3 x4 x5 x6 0 (by omega) inb_S512x1024_S256x1024_0_0 _ (top_apply x0 x1 x2 x3 x4 x5 x6 x7 x8), List.forall_mem_nil _⟩⟩

/-- A piece of the transpose holds what it should. -/
theorem col_piece (o : ℕ) (ho : o + 256 ≤ 512) (inb) (v : Vec Ideal S1024x256 .bf16)
    (hv : ∀ (l : Fin 1024) (r : Fin 256), v (ix2 l r) = rowN x0 x1 x2 x3 x4 x5 x6 (⟨o + r.val, by omega⟩ : Fin 512) l)
    (x : (Rect.unit (s := S1024x512) ![0, o] S1024x256.size inb).shape.Idx) :
    v x = (fun y : S1024x512.Idx => rowN x0 x1 x2 x3 x4 x5 x6 (⟨(y 1).val, (y 1).isLt⟩ : Fin 512) (⟨(y 0).val, (y 0).isLt⟩ : Fin 1024)) ((Rect.unit (s := S1024x512) ![0, o] S1024x256.size inb).emb x) := by
  have e : x = ix2 (⟨(x 0).val, (x 0).isLt⟩ : Fin 1024) (⟨(x 1).val, (x 1).isLt⟩ : Fin 256) := by
    funext a; fin_cases a <;> rfl
  refine (congrArg v e).trans ((hv _ _).trans ?_)
  dsimp only
  congr 1 <;> refine Fin.ext ?_
  · show o + (x 1).val = o + 1 * (x 1).val
    omega
  · show (x 0).val = 0 + 1 * (x 0).val
    omega

theorem pay16_apply (y : FVec Ideal S256x1024 .f32) (l : Fin 1024) (r : Fin 256) : k0_pay16 (F := Ideal) y (ix2 l r) = y (ix2 r l) := by
  pointwise [k0_pay16]
theorem pay17_apply (g b : FVec Ideal S1x1024 .f32) (c s : FVec Ideal S256x1024 .f32) (l : Fin 1024) (r : Fin 256) :
    k0_pay17 (F := Ideal) g b c s (ix2 l r) = k0_pay13 (F := Ideal) g b c s (ix2 r l) := by
  pointwise [k0_pay17]

/-- the transpose's -/
theorem out10_apply (l : Fin 1024) (r : Fin 512) : out0_10 (F := Ideal) x0 x1 x2 x3 x4 x5 x6 x7 x8 (ix2 l r) = rowN x0 x1 x2 x3 x4 x5 x6 r l := by
  rw [out0_10, View.canon_apply_of_pieces (fun y : S1024x512.Idx => rowN x0 x1 x2 x3 x4 x5 x6 (⟨(y 1).val, (y 1).isLt⟩ : Fin 512) (⟨(y 0).val, (y 0).isLt⟩ : Fin 1024)) _ ?_ _ (cover0_10 _ _ _)]
  · rfl
  refine List.forall_mem_cons.2 ⟨col_piece x0 x1 x2 x3 x4 x5 x6 256 (by omega) inb_S1024x512_S1024x256_0_256 _ fun l r => (pay17_apply _ _ _ _ l r).trans (low_apply x0 x1 x2 x3 x4 x5 x6 x7 x8 r l),
    List.forall_mem_cons.2 ⟨col_piece x0 x1 x2 x3 x4 x5 x6 0 (by omega) inb_S1024x512_S1024x256_0_0 _ fun l r => (pay16_apply _ l r).trans (top_apply x0 x1 x2 x3 x4 x5 x6 x7 x8 r l), List.forall_mem_nil _⟩⟩

/-- The scores at row `128 i + j`. -/
theorem rowS_at (i : ℕ) (j : Fin 128) (hi : i < 16) (ρ : Fin 2048) (hρ : ρ.val = 128 * i + j.val) (r : Fin 512) :
    rowS x0 x1 x2 x3 x4 x5 x6 x7 x8 ρ r = ∑ d : Fin 128, x8 (ix3 (⟨i % 2, by omega⟩ : Fin 2) j d) * rowQ x0 x1 x2 x3 x4 x5 x6 x7 r (⟨128 * i + d.val, by omega⟩ : Fin 2048) := by
  rw [rowS]
  have e : ρ.val / 128 = i := by omega
  have e' : ρ.val % 128 = j.val := by omega
  refine Finset.sum_congr rfl fun d _ => ?_
  congr 1
  · congr 2 <;> refine Fin.ext ?_ <;> dsimp only <;> omega
  · congr 1; refine Fin.ext ?_; dsimp only; omega

/-- A piece of the scores, at row `128 i` and column `o`, holds what it should. -/
theorem score_piece (i o : ℕ) (hi : i < 16) (ho : o + 256 ≤ 512) (inb) (v : Vec Ideal S128x256 .f32) (k : FVec Ideal S1x128x128 .bf16) (q : FVec Ideal S256x2048 .f32)
    (hv : ∀ (j : Fin 128) (r : Fin 256), v (ix2 j r) = (∑ d : Fin 128, k (ix3 0 j d) * q (ix2 r (⟨128 * i + d.val, by omega⟩ : Fin 2048)) : EReal))
    (hk : ∀ (j d : Fin 128), k (ix3 0 j d) = x8 (ix3 (⟨i % 2, by omega⟩ : Fin 2) j d))
    (hq : ∀ (r : Fin 256) (j : Fin 2048), q (ix2 r j) = rowQ x0 x1 x2 x3 x4 x5 x6 x7 (⟨o + r.val, by omega⟩ : Fin 512) j)
    (x : (Rect.unit (s := S2048x512) ![128 * i, o] S128x256.size inb).shape.Idx) :
    v x = (fun y : S2048x512.Idx => rowS x0 x1 x2 x3 x4 x5 x6 x7 x8 (⟨(y 0).val, (y 0).isLt⟩ : Fin 2048) (⟨(y 1).val, (y 1).isLt⟩ : Fin 512)) ((Rect.unit (s := S2048x512) ![128 * i, o] S128x256.size inb).emb x) := by
  have e : x = ix2 (⟨(x 0).val, (x 0).isLt⟩ : Fin 128) (⟨(x 1).val, (x 1).isLt⟩ : Fin 256) := by
    funext a; fin_cases a <;> rfl
  have h0 : (x 0).val < 128 := (x 0).isLt
  have e0 : ((Rect.unit (s := S2048x512) ![128 * i, o] S128x256.size inb).emb x 0).val = 128 * i + (x 0).val := by
    show 128 * i + 1 * (x 0).val = _
    omega
  have e1 : ((Rect.unit (s := S2048x512) ![128 * i, o] S128x256.size inb).emb x 1).val = o + (x 1).val := by
    show o + 1 * (x 1).val = _
    omega
  rw [show v x = _ from (congrArg v e).trans (hv _ _)]
  refine Eq.trans ?_ (rowS_at x0 x1 x2 x3 x4 x5 x6 x7 x8 i ⟨(x 0).val, h0⟩ hi ⟨_, _⟩ e0 ⟨_, _⟩).symm
  refine Finset.sum_congr rfl fun d _ => ?_
  rw [hk, hq]
  refine congrArg (fun t => x8 (ix3 (⟨i % 2, by omega⟩ : Fin 2) ⟨(x 0).val, h0⟩ d) * rowQ x0 x1 x2 x3 x4 x5 x6 x7 t (⟨128 * i + d.val, by omega⟩ : Fin 2048)) ?_
  exact Fin.ext e1.symm

/-! ### Each of the stored score blocks -/

theorem score_15_256 (q : FVec Ideal S256x2048 .f32) (k : FVec Ideal S1x128x128 .bf16) (j : Fin 128) (r : Fin 256) :
    k0_pay3 (F := Ideal) q k (ix2 j r) = (∑ d : Fin 128, k (ix3 0 j d) * (q) (ix2 r (⟨128 * 15 + d.val, by omega⟩ : Fin 2048)) : EReal) := by
  pointwise [k0_pay3]
theorem score_15_0 (q : FVec Ideal S256x2048 .f32) (k : FVec Ideal S1x128x128 .bf16) (j : Fin 128) (r : Fin 256) :
    k0_pay2 (F := Ideal) q k (ix2 j r) = (∑ d : Fin 128, k (ix3 0 j d) * (q) (ix2 r (⟨128 * 15 + d.val, by omega⟩ : Fin 2048)) : EReal) := by
  pointwise [k0_pay2]
theorem score_14_256 (q : FVec Ideal S256x2048 .f32) (k : FVec Ideal S1x128x128 .bf16) (j : Fin 128) (r : Fin 256) :
    k0_pay1 (F := Ideal) (k0_pay52 q) k (ix2 j r) = (∑ d : Fin 128, k (ix3 0 j d) * (q) (ix2 r (⟨128 * 14 + d.val, by omega⟩ : Fin 2048)) : EReal) := by
  pointwise [k0_pay1, k0_pay52]
theorem score_14_0 (q : FVec Ideal S256x2048 .f32) (k : FVec Ideal S1x128x128 .bf16) (j : Fin 128) (r : Fin 256) :
    k0_pay51 (F := Ideal) q k (ix2 j r) = (∑ d : Fin 128, k (ix3 0 j d) * (q) (ix2 r (⟨128 * 14 + d.val, by omega⟩ : Fin 2048)) : EReal) := by
  pointwise [k0_pay51]
theorem score_13_256 (q : FVec Ideal S256x2048 .f32) (k : FVec Ideal S1x128x128 .bf16) (j : Fin 128) (r : Fin 256) :
    k0_pay50 (F := Ideal) q k (ix2 j r) = (∑ d : Fin 128, k (ix3 0 j d) * (q) (ix2 r (⟨128 * 13 + d.val, by omega⟩ : Fin 2048)) : EReal) := by
  pointwise [k0_pay50]
theorem score_13_0 (q : FVec Ideal S256x2048 .f32) (k : FVec Ideal S1x128x128 .bf16) (j : Fin 128) (r : Fin 256) :
    k0_pay49 (F := Ideal) q k (ix2 j r) = (∑ d : Fin 128, k (ix3 0 j d) * (q) (ix2 r (⟨128 * 13 + d.val, by omega⟩ : Fin 2048)) : EReal) := by
  pointwise [k0_pay49]
theorem score_12_256 (q : FVec Ideal S256x2048 .f32) (k : FVec Ideal S1x128x128 .bf16) (j : Fin 128) (r : Fin 256) :
    k0_pay48 (F := Ideal) q k (ix2 j r) = (∑ d : Fin 128, k (ix3 0 j d) * (q) (ix2 r (⟨128 * 12 + d.val, by omega⟩ : Fin 2048)) : EReal) := by
  pointwise [k0_pay48]
theorem score_12_0 (q : FVec Ideal S256x2048 .f32) (k : FVec Ideal S1x128x128 .bf16) (j : Fin 128) (r : Fin 256) :
    k0_pay47 (F := Ideal) q k (ix2 j r) = (∑ d : Fin 128, k (ix3 0 j d) * (q) (ix2 r (⟨128 * 12 + d.val, by omega⟩ : Fin 2048)) : EReal) := by
  pointwise [k0_pay47]
theorem score_11_256 (q : FVec Ideal S256x2048 .f32) (k : FVec Ideal S1x128x128 .bf16) (j : Fin 128) (r : Fin 256) :
    k0_pay46 (F := Ideal) q k (ix2 j r) = (∑ d : Fin 128, k (ix3 0 j d) * (q) (ix2 r (⟨128 * 11 + d.val, by omega⟩ : Fin 2048)) : EReal) := by
  pointwise [k0_pay46]
theorem score_11_0 (q : FVec Ideal S256x2048 .f32) (k : FVec Ideal S1x128x128 .bf16) (j : Fin 128) (r : Fin 256) :
    k0_pay45 (F := Ideal) q k (ix2 j r) = (∑ d : Fin 128, k (ix3 0 j d) * (q) (ix2 r (⟨128 * 11 + d.val, by omega⟩ : Fin 2048)) : EReal) := by
  pointwise [k0_pay45]
theorem score_10_256 (q : FVec Ideal S256x2048 .f32) (k : FVec Ideal S1x128x128 .bf16) (j : Fin 128) (r : Fin 256) :
    k0_pay44 (F := Ideal) q k (ix2 j r) = (∑ d : Fin 128, k (ix3 0 j d) * (q) (ix2 r (⟨128 * 10 + d.val, by omega⟩ : Fin 2048)) : EReal) := by
  pointwise [k0_pay44]
theorem score_10_0 (q : FVec Ideal S256x2048 .f32) (k : FVec Ideal S1x128x128 .bf16) (j : Fin 128) (r : Fin 256) :
    k0_pay43 (F := Ideal) (k0_pay42 q) k (ix2 j r) = (∑ d : Fin 128, k (ix3 0 j d) * (q) (ix2 r (⟨128 * 10 + d.val, by omega⟩ : Fin 2048)) : EReal) := by
  pointwise [k0_pay43, k0_pay42]
theorem score_9_256 (q : FVec Ideal S256x2048 .f32) (k : FVec Ideal S1x128x128 .bf16) (j : Fin 128) (r : Fin 256) :
    k0_pay41 (F := Ideal) q k (ix2 j r) = (∑ d : Fin 128, k (ix3 0 j d) * (q) (ix2 r (⟨128 * 9 + d.val, by omega⟩ : Fin 2048)) : EReal) := by
  pointwise [k0_pay41]
theorem score_9_0 (q : FVec Ideal S256x2048 .f32) (k : FVec Ideal S1x128x128 .bf16) (j : Fin 128) (r : Fin 256) :
    k0_pay40 (F := Ideal) q k (ix2 j r) = (∑ d : Fin 128, k (ix3 0 j d) * (q) (ix2 r (⟨128 * 9 + d.val, by omega⟩ : Fin 2048)) : EReal) := by
  pointwise [k0_pay40]
theorem score_8_256 (q : FVec Ideal S256x2048 .f32) (k : FVec Ideal S1x128x128 .bf16) (j : Fin 128) (r : Fin 256) :
    k0_pay39 (F := Ideal) q k (ix2 j r) = (∑ d : Fin 128, k (ix3 0 j d) * (q) (ix2 r (⟨128 * 8 + d.val, by omega⟩ : Fin 2048)) : EReal) := by
  pointwise [k0_pay39]
theorem score_8_0 (q : FVec Ideal S256x2048 .f32) (k : FVec Ideal S1x128x128 .bf16) (j : Fin 128) (r : Fin 256) :
    k0_pay38 (F := Ideal) q k (ix2 j r) = (∑ d : Fin 128, k (ix3 0 j d) * (q) (ix2 r (⟨128 * 8 + d.val, by omega⟩ : Fin 2048)) : EReal) := by
  pointwise [k0_pay38]
theorem score_7_256 (q : FVec Ideal S256x2048 .f32) (k : FVec Ideal S1x128x128 .bf16) (j : Fin 128) (r : Fin 256) :
    k0_pay37 (F := Ideal) (k0_pay36 q) k (ix2 j r) = (∑ d : Fin 128, k (ix3 0 j d) * (q) (ix2 r (⟨128 * 7 + d.val, by omega⟩ : Fin 2048)) : EReal) := by
  pointwise [k0_pay37, k0_pay36]
theorem score_7_0 (q : FVec Ideal S256x2048 .f32) (k : FVec Ideal S1x128x128 .bf16) (j : Fin 128) (r : Fin 256) :
    k0_pay35 (F := Ideal) q k (ix2 j r) = (∑ d : Fin 128, k (ix3 0 j d) * (q) (ix2 r (⟨128 * 7 + d.val, by omega⟩ : Fin 2048)) : EReal) := by
  pointwise [k0_pay35]
theorem score_6_256 (q : FVec Ideal S256x2048 .f32) (k : FVec Ideal S1x128x128 .bf16) (j : Fin 128) (r : Fin 256) :
    k0_pay34 (F := Ideal) q k (ix2 j r) = (∑ d : Fin 128, k (ix3 0 j d) * (q) (ix2 r (⟨128 * 6 + d.val, by omega⟩ : Fin 2048)) : EReal) := by
  pointwise [k0_pay34]
theorem score_6_0 (q : FVec Ideal S256x2048 .f32) (k : FVec Ideal S1x128x128 .bf16) (j : Fin 128) (r : Fin 256) :
    k0_pay33 (F := Ideal) q k (ix2 j r) = (∑ d : Fin 128, k (ix3 0 j d) * (q) (ix2 r (⟨128 * 6 + d.val, by omega⟩ : Fin 2048)) : EReal) := by
  pointwise [k0_pay33]
theorem score_5_256 (q : FVec Ideal S256x2048 .f32) (k : FVec Ideal S1x128x128 .bf16) (j : Fin 128) (r : Fin 256) :
    k0_pay32 (F := Ideal) q k (ix2 j r) = (∑ d : Fin 128, k (ix3 0 j d) * (q) (ix2 r (⟨128 * 5 + d.val, by omega⟩ : Fin 2048)) : EReal) := by
  pointwise [k0_pay32]
theorem score_5_0 (q : FVec Ideal S256x2048 .f32) (k : FVec Ideal S1x128x128 .bf16) (j : Fin 128) (r : Fin 256) :
    k0_pay31 (F := Ideal) q k (ix2 j r) = (∑ d : Fin 128, k (ix3 0 j d) * (q) (ix2 r (⟨128 * 5 + d.val, by omega⟩ : Fin 2048)) : EReal) := by
  pointwise [k0_pay31]
theorem score_4_256 (q : FVec Ideal S256x2048 .f32) (k : FVec Ideal S1x128x128 .bf16) (j : Fin 128) (r : Fin 256) :
    k0_pay30 (F := Ideal) q k (ix2 j r) = (∑ d : Fin 128, k (ix3 0 j d) * (q) (ix2 r (⟨128 * 4 + d.val, by omega⟩ : Fin 2048)) : EReal) := by
  pointwise [k0_pay30]
theorem score_4_0 (q : FVec Ideal S256x2048 .f32) (k : FVec Ideal S1x128x128 .bf16) (j : Fin 128) (r : Fin 256) :
    k0_pay29 (F := Ideal) q k (ix2 j r) = (∑ d : Fin 128, k (ix3 0 j d) * (q) (ix2 r (⟨128 * 4 + d.val, by omega⟩ : Fin 2048)) : EReal) := by
  pointwise [k0_pay29]
theorem score_3_256 (q : FVec Ideal S256x2048 .f32) (k : FVec Ideal S1x128x128 .bf16) (j : Fin 128) (r : Fin 256) :
    k0_pay28 (F := Ideal) q k (ix2 j r) = (∑ d : Fin 128, k (ix3 0 j d) * (q) (ix2 r (⟨128 * 3 + d.val, by omega⟩ : Fin 2048)) : EReal) := by
  pointwise [k0_pay28]
theorem score_3_0 (q : FVec Ideal S256x2048 .f32) (k : FVec Ideal S1x128x128 .bf16) (j : Fin 128) (r : Fin 256) :
    k0_pay27 (F := Ideal) (k0_pay26 q) k (ix2 j r) = (∑ d : Fin 128, k (ix3 0 j d) * (q) (ix2 r (⟨128 * 3 + d.val, by omega⟩ : Fin 2048)) : EReal) := by
  pointwise [k0_pay27, k0_pay26]
theorem score_2_256 (q : FVec Ideal S256x2048 .f32) (k : FVec Ideal S1x128x128 .bf16) (j : Fin 128) (r : Fin 256) :
    k0_pay25 (F := Ideal) q k (ix2 j r) = (∑ d : Fin 128, k (ix3 0 j d) * (q) (ix2 r (⟨128 * 2 + d.val, by omega⟩ : Fin 2048)) : EReal) := by
  pointwise [k0_pay25]
theorem score_2_0 (q : FVec Ideal S256x2048 .f32) (k : FVec Ideal S1x128x128 .bf16) (j : Fin 128) (r : Fin 256) :
    k0_pay24 (F := Ideal) q k (ix2 j r) = (∑ d : Fin 128, k (ix3 0 j d) * (q) (ix2 r (⟨128 * 2 + d.val, by omega⟩ : Fin 2048)) : EReal) := by
  pointwise [k0_pay24]
theorem score_1_256 (q : FVec Ideal S256x2048 .f32) (k : FVec Ideal S1x128x128 .bf16) (j : Fin 128) (r : Fin 256) :
    k0_pay23 (F := Ideal) q k (ix2 j r) = (∑ d : Fin 128, k (ix3 0 j d) * (q) (ix2 r (⟨128 * 1 + d.val, by omega⟩ : Fin 2048)) : EReal) := by
  pointwise [k0_pay23]
theorem score_1_0 (q : FVec Ideal S256x2048 .f32) (k : FVec Ideal S1x128x128 .bf16) (j : Fin 128) (r : Fin 256) :
    k0_pay22 (F := Ideal) q k (ix2 j r) = (∑ d : Fin 128, k (ix3 0 j d) * (q) (ix2 r (⟨128 * 1 + d.val, by omega⟩ : Fin 2048)) : EReal) := by
  pointwise [k0_pay22]
theorem score_0_256 (g b : FVec Ideal S1x1024 .f32) (y s : FVec Ideal S256x1024 .f32) (w : FVec Ideal S1024x2048 .bf16) (k : FVec Ideal S1x128x128 .bf16) (j : Fin 128) (r : Fin 256) :
    k0_pay21 (F := Ideal) (k0_pay19 g b y s w) (k0_pay20 k) (constant S128x256 .f32 0x00000000#32) (ix2 j r) = (∑ d : Fin 128, k (ix3 0 j d) * (k0_pay15 (F := Ideal) g b y s w) (ix2 r (⟨128 * 0 + d.val, by omega⟩ : Fin 2048)) : EReal) := by
  pointwise [k0_pay21, k0_pay19, k0_pay20]
theorem score_0_0 (y : FVec Ideal S256x1024 .f32) (w : FVec Ideal S1024x2048 .bf16) (k : FVec Ideal S1x128x128 .bf16) (j : Fin 128) (r : Fin 256) :
    k0_pay18 (F := Ideal) y w k (ix2 j r) = (∑ d : Fin 128, k (ix3 0 j d) * (k0_pay14 (F := Ideal) y w) (ix2 r (⟨128 * 0 + d.val, by omega⟩ : Fin 2048)) : EReal) := by
  pointwise [k0_pay18]

/-- and the scores'. -/
theorem out11_apply (ρ : Fin 2048) (r : Fin 512) : out0_11 (F := Ideal) x0 x1 x2 x3 x4 x5 x6 x7 x8 (ix2 ρ r) = rowS x0 x1 x2 x3 x4 x5 x6 x7 x8 ρ r := by
  rw [out0_11, View.canon_apply_of_pieces (fun y : S2048x512.Idx => rowS x0 x1 x2 x3 x4 x5 x6 x7 x8 (⟨(y 0).val, (y 0).isLt⟩ : Fin 2048) (⟨(y 1).val, (y 1).isLt⟩ : Fin 512)) _ ?_ _ (cover0_11 _ _ _ _ _ _ _ _ _ _ _ _ _ _ _ _ _ _ _ _ _ _ _ _ _ _ _ _ _ _ _ _ _)]
  · rfl
  refine List.forall_mem_cons.2 ⟨score_piece x0 x1 x2 x3 x4 x5 x6 x7 x8 15 256 (by omega) (by omega) inb_S2048x512_S128x256_1920_256 _ _ _ (score_15_256 _ _) (ld_k1 x8) (lowQ_apply x0 x1 x2 x3 x4 x5 x6 x7 x8), ?_⟩
  refine List.forall_mem_cons.2 ⟨score_piece x0 x1 x2 x3 x4 x5 x6 x7 x8 15 0 (by omega) (by omega) inb_S2048x512_S128x256_1920_0 _ _ _ (score_15_0 _ _) (ld_k1 x8) (topQ_apply x0 x1 x2 x3 x4 x5 x6 x7 x8), ?_⟩
  refine List.forall_mem_cons.2 ⟨score_piece x0 x1 x2 x3 x4 x5 x6 x7 x8 14 256 (by omega) (by omega) inb_S2048x512_S128x256_1792_256 _ _ _ (score_14_256 _ _) (ld_k0 x8) (lowQ_apply x0 x1 x2 x3 x4 x5 x6 x7 x8), ?_⟩
  refine List.forall_mem_cons.2 ⟨score_piece x0 x1 x2 x3 x4 x5 x6 x7 x8 14 0 (by omega) (by omega) inb_S2048x512_S128x256_1792_0 _ _ _ (score_14_0 _ _) (ld_k0 x8) (topQ_apply x0 x1 x2 x3 x4 x5 x6 x7 x8), ?_⟩
  refine List.forall_mem_cons.2 ⟨score_piece x0 x1 x2 x3 x4 x5 x6 x7 x8 13 256 (by omega) (by omega) inb_S2048x512_S128x256_1664_256 _ _ _ (score_13_256 _ _) (ld_k1 x8) (lowQ_apply x0 x1 x2 x3 x4 x5 x6 x7 x8), ?_⟩
  refine List.forall_mem_cons.2 ⟨score_piece x0 x1 x2 x3 x4 x5 x6 x7 x8 13 0 (by omega) (by omega) inb_S2048x512_S128x256_1664_0 _ _ _ (score_13_0 _ _) (ld_k1 x8) (topQ_apply x0 x1 x2 x3 x4 x5 x6 x7 x8), ?_⟩
  refine List.forall_mem_cons.2 ⟨score_piece x0 x1 x2 x3 x4 x5 x6 x7 x8 12 256 (by omega) (by omega) inb_S2048x512_S128x256_1536_256 _ _ _ (score_12_256 _ _) (ld_k0 x8) (lowQ_apply x0 x1 x2 x3 x4 x5 x6 x7 x8), ?_⟩
  refine List.forall_mem_cons.2 ⟨score_piece x0 x1 x2 x3 x4 x5 x6 x7 x8 12 0 (by omega) (by omega) inb_S2048x512_S128x256_1536_0 _ _ _ (score_12_0 _ _) (ld_k0 x8) (topQ_apply x0 x1 x2 x3 x4 x5 x6 x7 x8), ?_⟩
  refine List.forall_mem_cons.2 ⟨score_piece x0 x1 x2 x3 x4 x5 x6 x7 x8 11 256 (by omega) (by omega) inb_S2048x512_S128x256_1408_256 _ _ _ (score_11_256 _ _) (ld_k1 x8) (lowQ_apply x0 x1 x2 x3 x4 x5 x6 x7 x8), ?_⟩
  refine List.forall_mem_cons.2 ⟨score_piece x0 x1 x2 x3 x4 x5 x6 x7 x8 11 0 (by omega) (by omega) inb_S2048x512_S128x256_1408_0 _ _ _ (score_11_0 _ _) (ld_k1 x8) (topQ_apply x0 x1 x2 x3 x4 x5 x6 x7 x8), ?_⟩
  refine List.forall_mem_cons.2 ⟨score_piece x0 x1 x2 x3 x4 x5 x6 x7 x8 10 256 (by omega) (by omega) inb_S2048x512_S128x256_1280_256 _ _ _ (score_10_256 _ _) (ld_k0 x8) (lowQ_apply x0 x1 x2 x3 x4 x5 x6 x7 x8), ?_⟩
  refine List.forall_mem_cons.2 ⟨score_piece x0 x1 x2 x3 x4 x5 x6 x7 x8 10 0 (by omega) (by omega) inb_S2048x512_S128x256_1280_0 _ _ _ (score_10_0 _ _) (ld_k0 x8) (topQ_apply x0 x1 x2 x3 x4 x5 x6 x7 x8), ?_⟩
  refine List.forall_mem_cons.2 ⟨score_piece x0 x1 x2 x3 x4 x5 x6 x7 x8 9 256 (by omega) (by omega) inb_S2048x512_S128x256_1152_256 _ _ _ (score_9_256 _ _) (ld_k1 x8) (lowQ_apply x0 x1 x2 x3 x4 x5 x6 x7 x8), ?_⟩
  refine List.forall_mem_cons.2 ⟨score_piece x0 x1 x2 x3 x4 x5 x6 x7 x8 9 0 (by omega) (by omega) inb_S2048x512_S128x256_1152_0 _ _ _ (score_9_0 _ _) (ld_k1 x8) (topQ_apply x0 x1 x2 x3 x4 x5 x6 x7 x8), ?_⟩
  refine List.forall_mem_cons.2 ⟨score_piece x0 x1 x2 x3 x4 x5 x6 x7 x8 8 256 (by omega) (by omega) inb_S2048x512_S128x256_1024_256 _ _ _ (score_8_256 _ _) (ld_k0 x8) (lowQ_apply x0 x1 x2 x3 x4 x5 x6 x7 x8), ?_⟩
  refine List.forall_mem_cons.2 ⟨score_piece x0 x1 x2 x3 x4 x5 x6 x7 x8 8 0 (by omega) (by omega) inb_S2048x512_S128x256_1024_0 _ _ _ (score_8_0 _ _) (ld_k0 x8) (topQ_apply x0 x1 x2 x3 x4 x5 x6 x7 x8), ?_⟩
  refine List.forall_mem_cons.2 ⟨score_piece x0 x1 x2 x3 x4 x5 x6 x7 x8 7 256 (by omega) (by omega) inb_S2048x512_S128x256_896_256 _ _ _ (score_7_256 _ _) (ld_k1 x8) (lowQ_apply x0 x1 x2 x3 x4 x5 x6 x7 x8), ?_⟩
  refine List.forall_mem_cons.2 ⟨score_piece x0 x1 x2 x3 x4 x5 x6 x7 x8 7 0 (by omega) (by omega) inb_S2048x512_S128x256_896_0 _ _ _ (score_7_0 _ _) (ld_k1 x8) (topQ_apply x0 x1 x2 x3 x4 x5 x6 x7 x8), ?_⟩
  refine List.forall_mem_cons.2 ⟨score_piece x0 x1 x2 x3 x4 x5 x6 x7 x8 6 256 (by omega) (by omega) inb_S2048x512_S128x256_768_256 _ _ _ (score_6_256 _ _) (ld_k0 x8) (lowQ_apply x0 x1 x2 x3 x4 x5 x6 x7 x8), ?_⟩
  refine List.forall_mem_cons.2 ⟨score_piece x0 x1 x2 x3 x4 x5 x6 x7 x8 6 0 (by omega) (by omega) inb_S2048x512_S128x256_768_0 _ _ _ (score_6_0 _ _) (ld_k0 x8) (topQ_apply x0 x1 x2 x3 x4 x5 x6 x7 x8), ?_⟩
  refine List.forall_mem_cons.2 ⟨score_piece x0 x1 x2 x3 x4 x5 x6 x7 x8 5 256 (by omega) (by omega) inb_S2048x512_S128x256_640_256 _ _ _ (score_5_256 _ _) (ld_k1 x8) (lowQ_apply x0 x1 x2 x3 x4 x5 x6 x7 x8), ?_⟩
  refine List.forall_mem_cons.2 ⟨score_piece x0 x1 x2 x3 x4 x5 x6 x7 x8 5 0 (by omega) (by omega) inb_S2048x512_S128x256_640_0 _ _ _ (score_5_0 _ _) (ld_k1 x8) (topQ_apply x0 x1 x2 x3 x4 x5 x6 x7 x8), ?_⟩
  refine List.forall_mem_cons.2 ⟨score_piece x0 x1 x2 x3 x4 x5 x6 x7 x8 4 256 (by omega) (by omega) inb_S2048x512_S128x256_512_256 _ _ _ (score_4_256 _ _) (ld_k0 x8) (lowQ_apply x0 x1 x2 x3 x4 x5 x6 x7 x8), ?_⟩
  refine List.forall_mem_cons.2 ⟨score_piece x0 x1 x2 x3 x4 x5 x6 x7 x8 4 0 (by omega) (by omega) inb_S2048x512_S128x256_512_0 _ _ _ (score_4_0 _ _) (ld_k0 x8) (topQ_apply x0 x1 x2 x3 x4 x5 x6 x7 x8), ?_⟩
  refine List.forall_mem_cons.2 ⟨score_piece x0 x1 x2 x3 x4 x5 x6 x7 x8 3 256 (by omega) (by omega) inb_S2048x512_S128x256_384_256 _ _ _ (score_3_256 _ _) (ld_k1 x8) (lowQ_apply x0 x1 x2 x3 x4 x5 x6 x7 x8), ?_⟩
  refine List.forall_mem_cons.2 ⟨score_piece x0 x1 x2 x3 x4 x5 x6 x7 x8 3 0 (by omega) (by omega) inb_S2048x512_S128x256_384_0 _ _ _ (score_3_0 _ _) (ld_k1 x8) (topQ_apply x0 x1 x2 x3 x4 x5 x6 x7 x8), ?_⟩
  refine List.forall_mem_cons.2 ⟨score_piece x0 x1 x2 x3 x4 x5 x6 x7 x8 2 256 (by omega) (by omega) inb_S2048x512_S128x256_256_256 _ _ _ (score_2_256 _ _) (ld_k0 x8) (lowQ_apply x0 x1 x2 x3 x4 x5 x6 x7 x8), ?_⟩
  refine List.forall_mem_cons.2 ⟨score_piece x0 x1 x2 x3 x4 x5 x6 x7 x8 2 0 (by omega) (by omega) inb_S2048x512_S128x256_256_0 _ _ _ (score_2_0 _ _) (ld_k0 x8) (topQ_apply x0 x1 x2 x3 x4 x5 x6 x7 x8), ?_⟩
  refine List.forall_mem_cons.2 ⟨score_piece x0 x1 x2 x3 x4 x5 x6 x7 x8 1 256 (by omega) (by omega) inb_S2048x512_S128x256_128_256 _ _ _ (score_1_256 _ _) (ld_k1 x8) (lowQ_apply x0 x1 x2 x3 x4 x5 x6 x7 x8), ?_⟩
  refine List.forall_mem_cons.2 ⟨score_piece x0 x1 x2 x3 x4 x5 x6 x7 x8 1 0 (by omega) (by omega) inb_S2048x512_S128x256_128_0 _ _ _ (score_1_0 _ _) (ld_k1 x8) (topQ_apply x0 x1 x2 x3 x4 x5 x6 x7 x8), ?_⟩
  refine List.forall_mem_cons.2 ⟨score_piece x0 x1 x2 x3 x4 x5 x6 x7 x8 0 256 (by omega) (by omega) inb_S2048x512_S128x256_0_256 _ _ _ (score_0_256 _ _ _ _ _ _) (ld_k0 x8) (lowQ_apply x0 x1 x2 x3 x4 x5 x6 x7 x8), ?_⟩
  refine List.forall_mem_cons.2 ⟨score_piece x0 x1 x2 x3 x4 x5 x6 x7 x8 0 0 (by omega) (by omega) inb_S2048x512_S128x256_0_0 _ _ _ (score_0_0 _ _ _) (ld_k0 x8) (topQ_apply x0 x1 x2 x3 x4 x5 x6 x7 x8), ?_⟩
  exact List.forall_mem_nil _

end Pieces

end Cert.Kernel3Ideal.Hand

end
-- ==== Proof.V3.Entry.lean ====
/-
  What the merge's region finds in its operands, each block read at an index of the arguments.
-/
module

public import proofs.«01_k».proof.Proof.V3.Pieces
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Finset Cert.Merge

variable (m : (ℓ : Loc nD τ sig) → Buf (Elt Ideal) ℓ) (c : Dev nD)

/-- Which block of its array each window is at, at grid point `t`. -/
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx9 : ∀ t : Fin grid0.N, win0_9.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0, 0] := by decide +kernel
theorem idx10 : ∀ t : Fin grid0.N, win0_10.index t = ![0, t.val] := by decide +kernel
theorem idx11 : ∀ t : Fin grid0.N, win0_11.index t = ![0, t.val] := by decide +kernel

/-! ## The operands, at an index of the arguments -/

theorem a_entry (b : Fin 4) (n : Fin 4096) (k : Fin 512) :
    V m c main_v5 (ix2 (⟨4096 * b.val + n.val, by omega⟩ : Fin 16384) k) = m ((c : Thread nD τ).loc main_arg0) (ix3 b n k) := by
  entry_read
  pointwise
  refine congrArg (m (c, Proc.tc.devRef main_arg0)) ?_
  congr 1 <;> (apply Fin.ext; dsimp only; omega)
theorem b_entry (b : Fin 4) (n : Fin 4096) (k : Fin 512) :
    V m c main_v7 (ix2 (⟨4096 * b.val + n.val, by omega⟩ : Fin 16384) k) = m ((c : Thread nD τ).loc main_arg1) (ix3 b n k) := by
  entry_read
  pointwise
  refine congrArg (m (c, Proc.tc.devRef main_arg1)) ?_
  congr 1 <;> (apply Fin.ext; dsimp only; omega)
theorem x_entry (b : Fin 4) (n : Fin 4096) (k : Fin 1024) :
    V m c main_v8 (ix2 (⟨4096 * b.val + n.val, by omega⟩ : Fin 16384) k) = m ((c : Thread nD τ).loc main_arg2) (ix3 b n k) := by
  entry_read
  pointwise
theorem u_entry (k : Fin 512) (l : Fin 1024) : V m c main_v1 (ix2 k l) = m ((c : Thread nD τ).loc main_arg3) (ix2 (⟨0 + k.val, by omega⟩ : Fin 1024) l) := by
  entry_read
  pointwise
theorem v_entry (k : Fin 512) (l : Fin 1024) : V m c main_v3 (ix2 k l) = m ((c : Thread nD τ).loc main_arg3) (ix2 (⟨512 + k.val, by omega⟩ : Fin 1024) l) := by
  entry_read
  pointwise
theorem g_entry (l : Fin 1024) : V m c main_v9 (ix2 0 l) = m ((c : Thread nD τ).loc main_arg4) (ix1 l) := by
  entry_read
  pointwise
theorem o_entry (l : Fin 1024) : V m c main_v10 (ix2 0 l) = m ((c : Thread nD τ).loc main_arg5) (ix1 l) := by
  entry_read
  pointwise
theorem q_entry (k : Fin 1024) (j : Fin 2048) : V m c main_v11 (ix2 k j) = m ((c : Thread nD τ).loc main_arg6) (ix2 k j) := by
  entry_read
  pointwise
theorem k_entry (e : Fin 2) (j d : Fin 128) : V m c main_v12 (ix3 e j d) = m ((c : Thread nD τ).loc main_arg7) (ix3 e j d) := by
  entry_read
  pointwise

/-- The grid has 32 points. -/
theorem t_lt (t : Fin cfg0.N) : t.val < 32 := t.isLt

/-! ## Each window's block, at an index of the arguments -/

variable (t : Fin cfg0.N) (b : Fin 4) (i : Fin 8) (ht : t.val = 8 * b.val + i.val)

include ht in
theorem a_blk (r : Fin 512) (k : Fin 512) : iblk m c 0 t (ix2 r k) = m ((c : Thread nD τ).loc main_arg0) (ix3 b (⟨512 * i.val + r.val, by omega⟩ : Fin 4096) k) := by
  have e : iblk m c 0 t (ix2 r k) = V m c main_v5 (ix2 (⟨512 * t.val + r.val, by have := t_lt t; omega⟩ : Fin 16384) k) := by blk_ext [iblk, idx0 t]
  refine e.trans (Eq.trans (congrArg (fun y => V m c main_v5 (ix2 y k)) (Fin.ext ?_)) (a_entry m c b (⟨512 * i.val + r.val, by omega⟩ : Fin 4096) k))
  dsimp only
  omega
include ht in
theorem b_blk (r : Fin 512) (k : Fin 512) : iblk m c 1 t (ix2 r k) = m ((c : Thread nD τ).loc main_arg1) (ix3 b (⟨512 * i.val + r.val, by omega⟩ : Fin 4096) k) := by
  have e : iblk m c 1 t (ix2 r k) = V m c main_v7 (ix2 (⟨512 * t.val + r.val, by have := t_lt t; omega⟩ : Fin 16384) k) := by blk_ext [iblk, idx1 t]
  refine e.trans (Eq.trans (congrArg (fun y => V m c main_v7 (ix2 y k)) (Fin.ext ?_)) (b_entry m c b (⟨512 * i.val + r.val, by omega⟩ : Fin 4096) k))
  dsimp only
  omega
include ht in
theorem x_blk (r : Fin 512) (k : Fin 1024) : iblk m c 2 t (ix2 r k) = m ((c : Thread nD τ).loc main_arg2) (ix3 b (⟨512 * i.val + r.val, by omega⟩ : Fin 4096) k) := by
  have e : iblk m c 2 t (ix2 r k) = V m c main_v8 (ix2 (⟨512 * t.val + r.val, by have := t_lt t; omega⟩ : Fin 16384) k) := by blk_ext [iblk, idx2 t]
  refine e.trans (Eq.trans (congrArg (fun y => V m c main_v8 (ix2 y k)) (Fin.ext ?_)) (x_entry m c b (⟨512 * i.val + r.val, by omega⟩ : Fin 4096) k))
  dsimp only
  omega
theorem u_blk (k : Fin 512) (l : Fin 1024) : iblk m c 3 t (ix2 k l) = V m c main_v1 (ix2 k l) := by
  blk_ext [iblk, idx3 t]
theorem v_blk (k : Fin 512) (l : Fin 1024) : iblk m c 4 t (ix2 k l) = V m c main_v3 (ix2 k l) := by
  blk_ext [iblk, idx4 t]
theorem g_blk (l : Fin 1024) : iblk m c 5 t (ix2 0 l) = V m c main_v9 (ix2 0 l) := by
  blk_ext [iblk, idx5 t]
theorem o_blk (l : Fin 1024) : iblk m c 6 t (ix2 0 l) = V m c main_v10 (ix2 0 l) := by
  blk_ext [iblk, idx6 t]
theorem q_blk (k : Fin 1024) (j : Fin 2048) : iblk m c 7 t (ix2 k j) = V m c main_v11 (ix2 k j) := by
  blk_ext [iblk, idx7 t]
theorem k_blk (e : Fin 2) (j d : Fin 128) : iblk m c 8 t (ix3 e j d) = V m c main_v12 (ix3 e j d) := by
  blk_ext [iblk, idx8 t]

end Cert.Kernel3Ideal.Hand

end
-- ==== Proof.V3.Ref.lean ====
/-
  The reference of the merge as named parts, each read at an index over the extended reals: the residual with the
  attention's projection, the layer normalisation, the queries and the scores against the subkeys.
-/
module

public import proofs.«01_k».proof.Proof.V3.Row
public import proofs.«01_k».proof.Proof.Gen.Reference3Ideal.Run
public import Idealize.ShloMosaic.Lib.Pointwise

@[expose] public section

set_option maxRecDepth 16384

noncomputable section

namespace Cert.Reference3Ideal.Hand

open Cert.Reference3Ideal Cert.Reference3Ideal.Gen
open Idealize.ShloMosaic Idealize.ShloMosaic.TcCoe Idealize.ShloMosaic.Tactic
open Finset Cert.Merge

section Parts

variable {F : FTy → Type} [FloatOps F]

/-- The scaled residual and the projection of the two halves side by side, -/
def yR (p q : FVec F S4x4096x512 .f32) (x : FVec F S4x4096x1024 .f32) (w : FVec F S1024x1024 .f32) : FVec F S4x4096x1024 .f32 :=
  addf (mulf (broadcastInDim S4x4096x1024 ![] bcast_S_S4x4096x1024 (constant S_ .f32 0x3FB504F3#32)) x) (Host.dotGeneral dot_S4x4096x1024_S1024x1024_S4x4096x1024_2_0_01_1_n_n none (concatenate S4x4096x1024 2 [⟨S4x4096x512, p⟩, ⟨S4x4096x512, q⟩] concatenates_S4x4096x512_S4x4096x512_S4x4096x1024_d2) w)
/-- the mean of each row, -/
def meanR (y : FVec F S4x4096x1024 .f32) : FVec F S4x4096x1 .f32 :=
  Host.divf (broadcastInDim S4x4096x1 ![0, 1] bcast_S4x4096_S4x4096x1_0_1 (Host.reduceAdd y (constant S_ .f32 0x00000000#32) reducesTo_S4x4096x1024_S4x4096_d2 h_S_)) (broadcastInDim S4x4096x1 ![] bcast_S_S4x4096x1 (constant S_ .f32 0x44800000#32))
/-- the rows less their means, -/
def cR (y : FVec F S4x4096x1024 .f32) : FVec F S4x4096x1024 .f32 :=
  subf y (broadcastInDim S4x4096x1024 ![0, 1, 2] bcast_S4x4096x1_S4x4096x1024_0_1_2 (meanR y))
/-- the layer normalisation, -/
def nR (c : FVec F S4x4096x1024 .f32) (g b : FVec F S1024 .f32) : FVec F S4x4096x1024 .f32 :=
  addf (mulf (mulf c (broadcastInDim S4x4096x1024 ![0, 1, 2] bcast_S4x4096x1_S4x4096x1024_0_1_2 (Host.rsqrt (addf (meanR (mulf c c)) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S1x1x1024_S4x4096x1024_0_1_2 (broadcastInDim S1x1x1024 ![2] bcast_S1024_S1x1x1024_2 b))
/-- its rows one under another, -/
def x1R (n : FVec F S4x4096x1024 .f32) : FVec F S16384x1024 .f32 := shapeCast _ n shapeCasts_S4x4096x1024_S16384x1024
/-- its transpose, -/
def x1tR (n : FVec F S16384x1024 .f32) : FVec F S1024x16384 .bf16 := truncf .bf16 (transpose S1024x16384 [1, 0] n transposes_S16384x1024_S1024x16384_1_0) bitsLt_bf16_f32
/-- the queries, -/
def qR (n : FVec F S16384x1024 .f32) (w : FVec F S1024x2048 .f32) : FVec F S16384x2048 .f32 := Host.dotGeneral dot_S16384x1024_S1024x2048_S16384x2048_1_0_0_1_n_n none n w
/-- the scores of the first half of every head's query, -/
def s0R (q : FVec F S16384x2048 .f32) (k : FVec F S2x128x128 .f32) : FVec F S16384x8x128 .f32 :=
  Host.dotGeneral dot_S16384x8x128_S128x128_S16384x8x128_2_1_01_0_n_n none (extractStridedSlice S16384x8x128 ![0, 0, 0] (shapeCast _ q shapeCasts_S16384x2048_S16384x8x256) slices_S16384x8x256_S16384x8x128_0_0_0) (shapeCast _ (extractStridedSlice S1x128x128 ![0, 0, 0] k slices_S2x128x128_S1x128x128_0_0_0) shapeCasts_S1x128x128_S128x128)
/-- those of the second, -/
def s1R (q : FVec F S16384x2048 .f32) (k : FVec F S2x128x128 .f32) : FVec F S16384x8x128 .f32 :=
  Host.dotGeneral dot_S16384x8x128_S128x128_S16384x8x128_2_1_01_0_n_n none (extractStridedSlice S16384x8x128 ![0, 0, 128] (shapeCast _ q shapeCasts_S16384x2048_S16384x8x256) slices_S16384x8x256_S16384x8x128_0_0_128) (shapeCast _ (extractStridedSlice S1x128x128 ![1, 0, 0] k slices_S2x128x128_S1x128x128_1_0_0) shapeCasts_S1x128x128_S128x128)
/-- and all of them, a row per head, half and subkey. -/
def sR (s0 s1 : FVec F S16384x8x128 .f32) : FVec F S2048x16384 .f32 :=
  transpose S2048x16384 [1, 0] (shapeCast _ (concatenate S16384x8x2x128 2 [⟨S16384x8x1x128, (broadcastInDim S16384x8x1x128 ![0, 1, 3] bcast_S16384x8x128_S16384x8x1x128_0_1_3 s0)⟩, ⟨S16384x8x1x128, (broadcastInDim S16384x8x1x128 ![0, 1, 3] bcast_S16384x8x128_S16384x8x1x128_0_1_3 s1)⟩] concatenates_S16384x8x1x128_S16384x8x1x128_S16384x8x2x128_d2) shapeCasts_S16384x8x2x128_S16384x2048) transposes_S16384x2048_S2048x16384_1_0

variable (m : (ℓ : Loc nD τ sig) → Buf (Elt F) ℓ) (c : Dev nD)

/-- The normalised rows of the reference, from its arguments. -/
def xR (p q : FVec F S4x4096x512 .f32) (x : FVec F S4x4096x1024 .f32) (w : FVec F S1024x1024 .f32) (g b : FVec F S1024 .f32) : FVec F S16384x1024 .f32 :=
  x1R (nR (cR (yR p q x w)) g b)

/-- The reference's first result is their composition, -/
theorem res0_eq : Cert.Reference3Ideal.Value.res_main_v29 m c
    = xR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.Reference3Ideal.Value.res_main_v29
  rfl
/-- its second the transpose of that, -/
theorem res1_eq : Cert.Reference3Ideal.Value.res_main_v44 m c
    = x1tR (xR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold Cert.Reference3Ideal.Value.res_main_v44
  rfl
/-- and its third the scores of its queries. -/
theorem res2_eq : Cert.Reference3Ideal.Value.res_main_v46 m c
    = sR (s0R (qR (xR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg7)))
        (s1R (qR (xR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg7))) := by
  unfold Cert.Reference3Ideal.Value.res_main_v46
  rfl

end Parts

/-! ## Each part at an index, over the extended reals -/

/-- The projection's sum over the two halves. -/
theorem yR_apply (p q : FVec Ideal S4x4096x512 .f32) (x : FVec Ideal S4x4096x1024 .f32) (w : FVec Ideal S1024x1024 .f32) (b : Fin 4) (t : Fin 4096) (l : Fin 1024) :
    yR (F := Ideal) p q x w (ix3 b t l)
      = mixed (fun k => p (ix3 b t k)) (fun k => q (ix3 b t k)) (x (ix3 b t l))
          (fun k => w (ix2 (⟨k.val, by omega⟩ : Fin 1024) l)) (fun k => w (ix2 (⟨512 + k.val, by omega⟩ : Fin 1024) l)) := by
  pointwise [yR]
  rfl

theorem meanR_apply (y : FVec Ideal S4x4096x1024 .f32) (b : Fin 4) (t : Fin 4096) (l : Fin 1) :
    meanR (F := Ideal) y (ix3 b t l) = mean (fun k => y (ix3 b t k)) := by
  pointwise [meanR]
  rfl

theorem cR_apply (y : FVec Ideal S4x4096x1024 .f32) (b : Fin 4) (t : Fin 4096) (l : Fin 1024) :
    cR (F := Ideal) y (ix3 b t l) = centred (fun k => y (ix3 b t k)) l := by
  rw [centred, ← meanR_apply y b t 0]
  pointwise [cR]

theorem nR_apply (y : FVec Ideal S4x4096x1024 .f32) (g o : FVec Ideal S1024 .f32) (b : Fin 4) (t : Fin 4096) (l : Fin 1024) :
    nR (F := Ideal) (cR y) g o (ix3 b t l) = normal (fun k => y (ix3 b t k)) (g (ix1 l)) (o (ix1 l)) l := by
  have e : mean (fun k => centred (fun k => y (ix3 b t k)) k * centred (fun k => y (ix3 b t k)) k) = meanR (F := Ideal) (mulf (cR y) (cR y)) (ix3 b t 0) := by
    rw [meanR_apply]
    refine congrArg mean (funext fun k => ?_)
    rw [← cR_apply]
    pointwise
  rw [normal, e, ← cR_apply]
  pointwise [nR]

/-- The normalised rows. -/
theorem xR_apply (p q : FVec Ideal S4x4096x512 .f32) (x : FVec Ideal S4x4096x1024 .f32) (w : FVec Ideal S1024x1024 .f32) (g o : FVec Ideal S1024 .f32) (b : Fin 4) (t : Fin 4096) (l : Fin 1024) :
    xR (F := Ideal) p q x w g o (ix2 (⟨4096 * b.val + t.val, by omega⟩ : Fin 16384) l)
      = normal (fun l => mixed (fun k => p (ix3 b t k)) (fun k => q (ix3 b t k)) (x (ix3 b t l))
          (fun k => w (ix2 (⟨k.val, by omega⟩ : Fin 1024) l)) (fun k => w (ix2 (⟨512 + k.val, by omega⟩ : Fin 1024) l))) (g (ix1 l)) (o (ix1 l)) l := by
  have e : xR (F := Ideal) p q x w g o (ix2 (⟨4096 * b.val + t.val, by omega⟩ : Fin 16384) l) = nR (F := Ideal) (cR (yR p q x w)) g o (ix3 b t l) := by
    pointwise [xR, x1R]
  rw [e, nR_apply]
  simp only [yR_apply]

theorem x1tR_apply (n : FVec Ideal S16384x1024 .f32) (l : Fin 1024) (t : Fin 16384) : x1tR (F := Ideal) n (ix2 l t) = n (ix2 t l) := by
  pointwise [x1tR]

theorem qR_apply (n : FVec Ideal S16384x1024 .f32) (w : FVec Ideal S1024x2048 .f32) (t : Fin 16384) (j : Fin 2048) :
    qR (F := Ideal) n w (ix2 t j) = (∑ l : Fin 1024, n (ix2 t l) * w (ix2 l j) : EReal) := by
  pointwise [qR]

theorem s0R_apply (q : FVec Ideal S16384x2048 .f32) (k : FVec Ideal S2x128x128 .f32) (t : Fin 16384) (h : Fin 8) (j : Fin 128) :
    s0R (F := Ideal) q k (ix3 t h j) = (∑ d : Fin 128, q (ix2 t (⟨256 * h.val + d.val, by omega⟩ : Fin 2048)) * k (ix3 0 j d) : EReal) := by
  pointwise [s0R]
  refine Finset.sum_congr rfl fun d _ => ?_
  rw [show (⟨h.val * 256 + d.val, by omega⟩ : Fin 2048) = ⟨256 * h.val + d.val, by omega⟩ from Fin.ext (by dsimp only; omega)]

theorem s1R_apply (q : FVec Ideal S16384x2048 .f32) (k : FVec Ideal S2x128x128 .f32) (t : Fin 16384) (h : Fin 8) (j : Fin 128) :
    s1R (F := Ideal) q k (ix3 t h j) = (∑ d : Fin 128, q (ix2 t (⟨256 * h.val + 128 + d.val, by omega⟩ : Fin 2048)) * k (ix3 1 j d) : EReal) := by
  pointwise [s1R]
  refine Finset.sum_congr rfl fun d _ => ?_
  rw [show (⟨h.val * 256 + (128 + d.val), by omega⟩ : Fin 2048) = ⟨256 * h.val + 128 + d.val, by omega⟩ from Fin.ext (by dsimp only; omega)]

/-- The scores of head `h`'s first half against subkey `j`, -/
theorem sR_apply0 (s0 s1 : FVec Ideal S16384x8x128 .f32) (t : Fin 16384) (h : Fin 8) (j : Fin 128) :
    sR (F := Ideal) s0 s1 (ix2 (⟨256 * h.val + j.val, by omega⟩ : Fin 2048) t) = s0 (ix3 t h j) := by
  pointwise [sR]
  exact dif_pos (by omega)

/-- and of its second. -/
theorem sR_apply1 (s0 s1 : FVec Ideal S16384x8x128 .f32) (t : Fin 16384) (h : Fin 8) (j : Fin 128) :
    sR (F := Ideal) s0 s1 (ix2 (⟨256 * h.val + 128 + j.val, by omega⟩ : Fin 2048) t) = s1 (ix3 t h j) := by
  pointwise [sR]
  exact dif_neg (by omega)

end Cert.Reference3Ideal.Hand

end
-- ==== Proof.V3.Value.lean ====
/-
  The equations of the merge: the kernel's three result arrays, block by block, are the reference's results.
-/
module

public import proofs.«01_k».proof.Proof.V3.Entry
public import proofs.«01_k».proof.Proof.V3.Ref
public import proofs.«01_k».proof.Proof.Gen.Kernel3Ideal.Value
public import proofs.«01_k».proof.Defs

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Finset Cert.Merge
open Idealize.SL.Sem
open Idealize.ShloMosaic.Pipeline (Dat)

variable (m : (ℓ : Loc nD τ sig) → Buf (Elt Ideal) ℓ) (c : Dev nD)
variable (p q : FVec Ideal S4x4096x512 .f32) (x : FVec Ideal S4x4096x1024 .f32) (w : FVec Ideal S1024x1024 .f32) (g o : FVec Ideal S1024 .f32)
  (wq : FVec Ideal S1024x2048 .f32) (sk : FVec Ideal S2x128x128 .f32)

open Cert.Reference3Ideal.Hand (xR x1tR qR s0R s1R sR)

section Point

variable (h0 : m ((c : Thread nD τ).loc main_arg0) = p) (h1 : m ((c : Thread nD τ).loc main_arg1) = q) (h2 : m ((c : Thread nD τ).loc main_arg2) = x) (h3 : m ((c : Thread nD τ).loc main_arg3) = w) (h4 : m ((c : Thread nD τ).loc main_arg4) = g) (h5 : m ((c : Thread nD τ).loc main_arg5) = o) (h6 : m ((c : Thread nD τ).loc main_arg6) = wq) (h7 : m ((c : Thread nD τ).loc main_arg7) = sk)
variable (t : Fin cfg0.N)

include h0 h1 h2 h3 h4 h5

/-- A grid point's normalised rows are the reference's. -/
theorem row_eq (r : Fin 512) (l : Fin 1024) :
    rowN (iblk m c 0 t) (iblk m c 1 t) (iblk m c 2 t) (iblk m c 3 t) (iblk m c 4 t) (iblk m c 5 t) (iblk m c 6 t) r l = xR (F := Ideal) p q x w g o (ix2 (⟨512 * t.val + r.val, by have := t_lt t; omega⟩ : Fin 16384) l) := by
  have htl := t_lt t
  have ht : t.val = 8 * (⟨t.val / 8, by omega⟩ : Fin 4).val + (⟨t.val % 8, by omega⟩ : Fin 8).val := (Nat.div_add_mod _ _).symm
  rw [show (⟨512 * t.val + r.val, by omega⟩ : Fin 16384) = ⟨4096 * (⟨t.val / 8, by omega⟩ : Fin 4).val + (⟨512 * (t.val % 8) + r.val, by omega⟩ : Fin 4096).val, by dsimp only; omega⟩ from Fin.ext (by dsimp only; omega)]
  rw [Cert.Reference3Ideal.Hand.xR_apply, rowN, g_blk, g_entry, o_blk, o_entry]
  have hu : ∀ (k : Fin 512) (l : Fin 1024), iblk m c 3 t (ix2 k l) = w (ix2 (⟨k.val, by omega⟩ : Fin 1024) l) := fun k l =>
    (u_blk m c t k l).trans ((u_entry m c k l).trans ((congrFun h3 _).trans (congrArg (fun y => w (ix2 y l)) (Fin.ext (Nat.zero_add _)))))
  have hv : ∀ (k : Fin 512) (l : Fin 1024), iblk m c 4 t (ix2 k l) = w (ix2 (⟨512 + k.val, by omega⟩ : Fin 1024) l) := fun k l =>
    (v_blk m c t k l).trans ((v_entry m c k l).trans (congrFun h3 _))
  simp only [a_blk m c t _ _ ht, b_blk m c t _ _ ht, x_blk m c t _ _ ht, hu, hv, h0, h1, h2, h4, h5]

include h6 in
/-- Its queries are, -/
theorem query_eq (r : Fin 512) (j : Fin 2048) :
    rowQ (iblk m c 0 t) (iblk m c 1 t) (iblk m c 2 t) (iblk m c 3 t) (iblk m c 4 t) (iblk m c 5 t) (iblk m c 6 t) (iblk m c 7 t) r j = qR (F := Ideal) (xR p q x w g o) wq (ix2 (⟨512 * t.val + r.val, by have := t_lt t; omega⟩ : Fin 16384) j) := by
  rw [Cert.Reference3Ideal.Hand.qR_apply, rowQ]
  refine Finset.sum_congr rfl fun l _ => ?_
  rw [row_eq m c p q x w g o h0 h1 h2 h3 h4 h5 t r l, q_blk, q_entry, h6]

include h6 h7 in
/-- and its scores. -/
theorem score_eq (ρ : Fin 2048) (r : Fin 512) :
    rowS (iblk m c 0 t) (iblk m c 1 t) (iblk m c 2 t) (iblk m c 3 t) (iblk m c 4 t) (iblk m c 5 t) (iblk m c 6 t) (iblk m c 7 t) (iblk m c 8 t) ρ r = sR (F := Ideal) (s0R (qR (xR p q x w g o) wq) sk) (s1R (qR (xR p q x w g o) wq) sk) (ix2 ρ (⟨512 * t.val + r.val, by have := t_lt t; omega⟩ : Fin 16384)) := by
  have hρ : ρ.val = 128 * (ρ.val / 128) + (⟨ρ.val % 128, by omega⟩ : Fin 128).val := (Nat.div_add_mod _ _).symm
  rw [rowS_at (iblk m c 0 t) (iblk m c 1 t) (iblk m c 2 t) (iblk m c 3 t) (iblk m c 4 t) (iblk m c 5 t) (iblk m c 6 t) (iblk m c 7 t) (iblk m c 8 t) (ρ.val / 128) ⟨ρ.val % 128, by omega⟩ (by omega) ρ hρ]
  rcases Nat.mod_two_eq_zero_or_one (ρ.val / 128) with hm | hm
  · have e : ρ = ⟨256 * (⟨ρ.val / 256, by omega⟩ : Fin 8).val + (⟨ρ.val % 128, by omega⟩ : Fin 128).val, by dsimp only; omega⟩ := Fin.ext (by dsimp only; omega)
    refine Eq.trans ?_ (congrArg (fun ρ => sR (F := Ideal) (s0R (qR (xR p q x w g o) wq) sk) (s1R (qR (xR p q x w g o) wq) sk) (ix2 ρ (⟨512 * t.val + r.val, by have := t_lt t; omega⟩ : Fin 16384))) e.symm)
    dsimp only
    refine Eq.trans ?_ (Cert.Reference3Ideal.Hand.sR_apply0 _ _ _ (⟨ρ.val / 256, by omega⟩ : Fin 8) (⟨ρ.val % 128, by omega⟩ : Fin 128)).symm
    rw [Cert.Reference3Ideal.Hand.s0R_apply]
    refine Finset.sum_congr rfl fun d _ => ?_
    rw [query_eq m c p q x w g o wq h0 h1 h2 h3 h4 h5 h6, k_blk, k_entry, h7, mul_comm]
    congr 1
    · congr 2; refine Fin.ext ?_; dsimp only; omega
    · congr 2; refine Fin.ext ?_; dsimp only; omega
  · have e : ρ = ⟨256 * (⟨ρ.val / 256, by omega⟩ : Fin 8).val + 128 + (⟨ρ.val % 128, by omega⟩ : Fin 128).val, by dsimp only; omega⟩ := Fin.ext (by dsimp only; omega)
    refine Eq.trans ?_ (congrArg (fun ρ => sR (F := Ideal) (s0R (qR (xR p q x w g o) wq) sk) (s1R (qR (xR p q x w g o) wq) sk) (ix2 ρ (⟨512 * t.val + r.val, by have := t_lt t; omega⟩ : Fin 16384))) e.symm)
    dsimp only
    refine Eq.trans ?_ (Cert.Reference3Ideal.Hand.sR_apply1 _ _ _ (⟨ρ.val / 256, by omega⟩ : Fin 8) (⟨ρ.val % 128, by omega⟩ : Fin 128)).symm
    rw [Cert.Reference3Ideal.Hand.s1R_apply]
    refine Finset.sum_congr rfl fun d _ => ?_
    rw [query_eq m c p q x w g o wq h0 h1 h2 h3 h4 h5 h6, k_blk, k_entry, h7, mul_comm]
    congr 1
    · congr 2; refine Fin.ext ?_; dsimp only; omega
    · congr 2; refine Fin.ext ?_; dsimp only; omega

/-- The rows' array at the end: the reference's first result. -/
theorem array9 : (dats (F := Ideal) m 0 c).arrAt 9 cfg0.N = xR (F := Ideal) p q x w g o := by
  refine (dats m 0 c).arrAt_eq_of_covers 9 _ (by decide +kernel) fun t hf y => ?_
  blk_simp
  rw [after0_9]
  have hy : y = ix2 (⟨(y 0).val, (y 0).isLt⟩ : Fin 512) (⟨(y 1).val, (y 1).isLt⟩ : Fin 1024) := by
    funext a; fin_cases a <;> rfl
  refine (congrArg (out0_9 (F := Ideal) (iblk m c 0 t) (iblk m c 1 t) (iblk m c 2 t) (iblk m c 3 t) (iblk m c 4 t) (iblk m c 5 t) (iblk m c 6 t) (iblk m c 7 t) (iblk m c 8 t)) hy).trans ((out9_apply (iblk m c 0 t) (iblk m c 1 t) (iblk m c 2 t) (iblk m c 3 t) (iblk m c 4 t) (iblk m c 5 t) (iblk m c 6 t) (iblk m c 7 t) (iblk m c 8 t) _ _).trans ((row_eq m c p q x w g o h0 h1 h2 h3 h4 h5 t _ _).trans (congrArg _ ?_)))
  blk_ext [idx9 t]

/-- The transpose's: its second. -/
theorem array10 : (dats (F := Ideal) m 0 c).arrAt 10 cfg0.N = x1tR (F := Ideal) (xR p q x w g o) := by
  refine (dats m 0 c).arrAt_eq_of_covers 10 _ (by decide +kernel) fun t hf y => ?_
  blk_simp
  rw [after0_10]
  have htl := t_lt t
  have hy1 : (y 1).val < 512 := (y 1).isLt
  have hy : y = ix2 (⟨(y 0).val, (y 0).isLt⟩ : Fin 1024) (⟨(y 1).val, (y 1).isLt⟩ : Fin 512) := by
    funext a; fin_cases a <;> rfl
  refine (congrArg (out0_10 (F := Ideal) (iblk m c 0 t) (iblk m c 1 t) (iblk m c 2 t) (iblk m c 3 t) (iblk m c 4 t) (iblk m c 5 t) (iblk m c 6 t) (iblk m c 7 t) (iblk m c 8 t)) hy).trans ((out10_apply (iblk m c 0 t) (iblk m c 1 t) (iblk m c 2 t) (iblk m c 3 t) (iblk m c 4 t) (iblk m c 5 t) (iblk m c 6 t) (iblk m c 7 t) (iblk m c 8 t) _ _).trans ((row_eq m c p q x w g o h0 h1 h2 h3 h4 h5 t _ _).trans ((Cert.Reference3Ideal.Hand.x1tR_apply _ _ _).symm.trans (congrArg _ ?_))))
  blk_ext [idx10 t]

include h6 h7 in
/-- The scores': its third. -/
theorem array11 : (dats (F := Ideal) m 0 c).arrAt 11 cfg0.N
    = sR (F := Ideal) (s0R (qR (xR p q x w g o) wq) sk) (s1R (qR (xR p q x w g o) wq) sk) := by
  refine (dats m 0 c).arrAt_eq_of_covers 11 _ (by decide +kernel) fun t hf y => ?_
  blk_simp
  rw [after0_11]
  have hy : y = ix2 (⟨(y 0).val, (y 0).isLt⟩ : Fin 2048) (⟨(y 1).val, (y 1).isLt⟩ : Fin 512) := by
    funext a; fin_cases a <;> rfl
  refine (congrArg (out0_11 (F := Ideal) (iblk m c 0 t) (iblk m c 1 t) (iblk m c 2 t) (iblk m c 3 t) (iblk m c 4 t) (iblk m c 5 t) (iblk m c 6 t) (iblk m c 7 t) (iblk m c 8 t)) hy).trans ((out11_apply (iblk m c 0 t) (iblk m c 1 t) (iblk m c 2 t) (iblk m c 3 t) (iblk m c 4 t) (iblk m c 5 t) (iblk m c 6 t) (iblk m c 7 t) (iblk m c 8 t) _ _).trans ((score_eq m c p q x w g o wq sk h0 h1 h2 h3 h4 h5 h6 h7 t _ _).trans (congrArg _ ?_)))
  blk_ext [idx11 t]

end Point

end Cert.Kernel3Ideal.Hand

namespace Cert.Proof

open Idealize.ShloMosaic Idealize.SL.Sem

open Idealize.ShloMosaic.TcCoe in
/-- The merge and its reference, over the extended reals, end with equal results and unchanged arguments. -/
theorem equal3 : Cert.algebraic_Kernel3Ideal_Reference3Ideal := by
  intro m ρ m' ρ' _ hargs
  refine ⟨fun c => (Cert.Kernel3Ideal.Gen.dats (F := Idealize.ShloMosaic.Ideal) m 0 c).arrAt 9 Cert.Kernel3Ideal.cfg0.N,
    fun c => (Cert.Kernel3Ideal.Gen.dats (F := Idealize.ShloMosaic.Ideal) m 0 c).arrAt 10 Cert.Kernel3Ideal.cfg0.N,
    fun c => (Cert.Kernel3Ideal.Gen.dats (F := Idealize.ShloMosaic.Ideal) m 0 c).arrAt 11 Cert.Kernel3Ideal.cfg0.N,
    Cert.Kernel3Ideal.Value.run_blocks m ρ, ?_⟩
  refine (θ_run Cert.Reference3Ideal.defs _ _).mono (fun r h c => ⟨(h c).1.trans ?_, (h c).2.1.trans ?_, (h c).2.2.1.trans ?_, (h c).2.2.2⟩) (Cert.Reference3Ideal.Value.run (F := Idealize.ShloMosaic.Ideal) m' ρ')
  all_goals obtain ⟨h0, h1, h2, h3, h4, h5, h6, h7⟩ := hargs c
  · exact (Cert.Reference3Ideal.Hand.res0_eq m' c).trans
      (Cert.Kernel3Ideal.Hand.array9 m c _ _ _ _ _ _ h0.symm h1.symm h2.symm h3.symm h4.symm h5.symm).symm
  · exact (Cert.Reference3Ideal.Hand.res1_eq m' c).trans
      (Cert.Kernel3Ideal.Hand.array10 m c _ _ _ _ _ _ h0.symm h1.symm h2.symm h3.symm h4.symm h5.symm).symm
  · exact (Cert.Reference3Ideal.Hand.res2_eq m' c).trans
      (Cert.Kernel3Ideal.Hand.array11 m c _ _ _ _ _ _ _ _ h0.symm h1.symm h2.symm h3.symm h4.symm h5.symm h6.symm h7.symm).symm

end Cert.Proof

end
-- ==== Proof.V4.Row.lean ====
/-
  The mathematics of one row of the band attention over the extended reals: a softmax over all the keys of which only
  three blocks count against the same softmax taken over those blocks, divided after the sum instead of before, under
  the head-wise normalisation.
-/
module

public import Idealize.ShloMosaic.Lib.Pointwise

@[expose] public section

noncomputable section

namespace Cert.Band

open Idealize.ShloMosaic
open Finset

/-- A head's row normalised by its root mean square and scaled by the gain. -/
def headNorm (o : Fin 64 → EReal) (g : EReal) (d : Fin 64) : EReal :=
  o d * Ideal.rsqrt (Ideal.div (∑ d, o d * o d) (Ideal.ofBits .f32 0x42800000#32) + Ideal.ofBits .f32 0x3727C5AC#32) * g

theorem sixtyfour : (Ideal.ofBits .f32 0x42800000#32 : EReal) = ((64 : ℝ) : EReal) := by
  simp [Ideal.ofBits, Ideal.ieee, -EReal.coe_mul]; norm_num

theorem eps_nonneg : (0 : EReal) ≤ Ideal.ofBits .f32 0x3727C5AC#32 := by
  simp [Ideal.ofBits, Ideal.ieee, -EReal.coe_mul]

theorem rsqrt_mean_top (x : EReal) (h : x = ⊤) :
    Ideal.rsqrt (Ideal.div x (Ideal.ofBits .f32 0x42800000#32) + Ideal.ofBits .f32 0x3727C5AC#32) = 0 := by
  have h1 : Ideal.div (⊤ : EReal) ((64 : ℝ) : EReal) = ⊤ := by
    rw [Ideal.div, if_neg (by norm_num)]
    rw [← EReal.coe_inv]
    exact EReal.top_mul_coe_of_pos (by norm_num)
  rw [h, sixtyfour, h1, EReal.top_add_of_ne_bot (fun e => by have := eps_nonneg; rw [e] at this; simp at this)]
  rfl

theorem mul_self_nonneg (x : EReal) : 0 ≤ x * x := by
  rcases le_total 0 x with h | h
  · exact EReal.mul_nonneg h h
  · have := EReal.mul_nonneg (EReal.neg_nonneg.2 h) (EReal.neg_nonneg.2 h)
    rwa [neg_mul_neg] at this

/-- A sum of squares with an infinite member is infinite. -/
theorem sum_sq_top (o : Fin 64 → EReal) (d : Fin 64) (h : o d = ⊤ ∨ o d = ⊥) : (∑ d, o d * o d) = ⊤ := by
  have h1 : o d * o d = ⊤ := by rcases h with h | h <;> rw [h] <;> simp
  refine top_le_iff.1 ?_
  rw [← h1]
  exact Finset.single_le_sum (f := fun d => o d * o d) (fun i _ => mul_self_nonneg _) (mem_univ d)

/-- A row with an infinite member is normalised to zeros there, -/
theorem headNorm_inf (o : Fin 64 → EReal) (g : EReal) (d d' : Fin 64) (h : o d' = ⊤ ∨ o d' = ⊥) : headNorm o g d = 0 := by
  rw [headNorm, rsqrt_mean_top _ (sum_sq_top o d' h)]; simp

/-- and a row of zeros and infinities everywhere. -/
theorem headNorm_degenerate (o : Fin 64 → EReal) (g : EReal) (d : Fin 64) (h : ∀ d, o d = ⊤ ∨ o d = ⊥ ∨ o d = 0) :
    headNorm o g d = 0 := by
  rcases h d with e | e | e
  · exact headNorm_inf o g d d (.inl e)
  · exact headNorm_inf o g d d (.inr e)
  · rw [headNorm, e]; simp

theorem sum_mul_fin {ι : Type} (s : Finset ι) (f : ι → EReal) {c : EReal} (h0 : 0 ≤ c) (h1 : c ≠ ⊤) : (∑ d ∈ s, f d) * c = ∑ d ∈ s, f d * c := by
  classical
  induction s using Finset.induction_on with
  | empty => simp
  | insert a s ha ih => rw [Finset.sum_insert ha, Finset.sum_insert ha, EReal.right_distrib_of_nonneg_of_ne_top h0 h1, ih]

/-- A sum of zeros and infinities is one of them. -/
theorem sum_degenerate {ι : Type} (s : Finset ι) (f : ι → EReal) (h : ∀ k, f k = ⊤ ∨ f k = ⊥ ∨ f k = 0) :
    (∑ k ∈ s, f k) = ⊤ ∨ (∑ k ∈ s, f k) = ⊥ ∨ (∑ k ∈ s, f k) = 0 := by
  classical
  induction s using Finset.induction_on with
  | empty => simp
  | insert a s ha ih =>
    rw [Finset.sum_insert ha]
    rcases h a with e | e | e <;> rcases ih with e' | e' | e' <;> rw [e, e'] <;> simp

theorem mul_bot_degenerate (x : EReal) : x * ⊥ = ⊤ ∨ x * ⊥ = ⊥ ∨ x * ⊥ = 0 := by
  rcases lt_trichotomy x 0 with h | h | h
  · exact .inl (EReal.mul_bot_of_neg h)
  · right; right; rw [h]; simp
  · exact .inr (.inl (EReal.mul_bot_of_pos h))

/-- Weights divided by their sum before the weighted sum of the values or after it: the same row once normalised. -/
theorem headNorm_div (e : Fin 4096 → EReal) (v : Fin 4096 → Fin 64 → EReal) (he : ∀ k, 0 ≤ e k) (g : EReal) (d : Fin 64) :
    headNorm (fun d => ∑ k, v k d * Ideal.div (e k) (∑ k, e k)) g d = headNorm (fun d => Ideal.div (∑ k, e k * v k d) (∑ k, e k)) g d := by
  have hs : 0 ≤ ∑ k, e k := Finset.sum_nonneg fun k _ => he k
  generalize hS : (∑ k, e k) = S at hs ⊢
  by_cases h0 : S = 0
  · have hz : ∀ k, e k = 0 := fun k => (Finset.sum_eq_zero_iff_of_nonneg fun k _ => he k).1 (hS.trans h0) k (mem_univ k)
    have hb : Ideal.div (0 : EReal) 0 = ⊥ := by simp [Ideal.div]
    rw [headNorm_degenerate, headNorm_degenerate]
    · intro d
      rw [h0, show (∑ k, e k * v k d) = 0 from Finset.sum_eq_zero fun k _ => by rw [hz k, zero_mul], hb]
      simp
    · intro d
      refine sum_degenerate _ _ fun k => ?_
      rw [h0, hz k, hb]
      exact mul_bot_degenerate _
  · have hd : ∀ x, Ideal.div x S = x * S⁻¹ := fun x => by rw [Ideal.div, if_neg h0]
    have h1 : 0 ≤ S⁻¹ := EReal.inv_nonneg_of_nonneg hs
    have h2 : S⁻¹ ≠ ⊤ := fun e => by
      induction S with
      | bot => simp at hs
      | top => simp at e
      | coe r => rw [← EReal.coe_inv] at e; exact EReal.coe_ne_top _ e
    refine congrArg (fun o => headNorm o g d) (funext fun d => ?_)
    simp only [hd]
    rw [sum_mul_fin _ _ h1 h2]
    exact Finset.sum_congr rfl fun k _ => by rw [mul_comm (e k) (v k d), mul_assoc]

/-- A sum over all keys is one over their sixteen blocks. -/
theorem sum_blocks (f : ℕ → EReal) : (∑ k : Fin 4096, f k.val) = ∑ a ∈ range 16, ∑ c : Fin 256, f (256 * a + c.val) := by
  rw [Finset.sum_range fun a => ∑ c : Fin 256, f (256 * a + c.val), ← Fintype.sum_prod_type' (f := fun (a : Fin 16) (c : Fin 256) => f (256 * a.val + c.val))]
  refine Fintype.sum_equiv (finProdFinEquiv (m := 16) (n := 256)).symm _ _ fun k => ?_
  refine congrArg f ?_
  simp [finProdFinEquiv, Fin.divNat, Fin.modNat]
  omega

/-- If only the blocks `i - 2`, `i - 1` and `i` contribute, it is the sum over those. -/
theorem sum_band (f : ℕ → EReal) (i : ℕ) (hi : i < 16) (hf : ∀ k, ¬ (k / 256 ≤ i ∧ i ≤ k / 256 + 2) → f k = 0) :
    (∑ k : Fin 4096, f k.val)
      = (if 2 ≤ i then ∑ c : Fin 256, f (256 * (i - 2) + c.val) else 0) + (if 1 ≤ i then ∑ c : Fin 256, f (256 * (i - 1) + c.val) else 0)
        + ∑ c : Fin 256, f (256 * i + c.val) := by
  rw [sum_blocks]
  have hz : ∀ a ∈ range 16, a ∉ Icc (i - 2) i → (∑ c : Fin 256, f (256 * a + c.val)) = 0 := fun a _ ha =>
    Finset.sum_eq_zero fun c _ => hf _ (by rw [mem_Icc] at ha; omega)
  rw [← Finset.sum_subset (s₁ := Icc (i - 2) i) (fun a ha => by rw [mem_Icc] at ha; rw [mem_range]; omega) hz]
  match i with
  | 0 => simp
  | 1 => rw [show Icc (1 - 2) 1 = {0, 1} by decide]; simp
  | j + 2 =>
    rw [show Icc (j + 2 - 2) (j + 2) = {j, j + 1, j + 2} by ext a; simp; omega, Finset.sum_insert (by simp), Finset.sum_insert (by simp), Finset.sum_singleton,
      if_pos (by omega), if_pos (by omega), ← add_assoc]
    rfl

/-- Window `w`'s score against its key `c`, from the masked scores of all keys: `-∞` where the stream has no such block. -/
def win (z : ℕ → EReal) (i w : ℕ) (c : Fin 256) : EReal := if 2 ≤ i + w then z (256 * (i + w - 2) + c.val) else ⊥

/-- The kernel's row from the three windows' scores and values, -/
def winRow (w0 w1 w2 : Fin 256 → EReal) (v0 v1 v2 : Fin 256 → Fin 64 → EReal) (M : EReal) (d : Fin 64) : EReal :=
  Ideal.div ((∑ c, Ideal.exp (w0 c - M) * v0 c d) + (∑ c, Ideal.exp (w1 c - M) * v1 c d) + ∑ c, Ideal.exp (w2 c - M) * v2 c d)
    (∑ c, (Ideal.exp (w0 c - M) + Ideal.exp (w1 c - M) + Ideal.exp (w2 c - M)))

/-- and the reference's from all keys. -/
def fullRow (z : Fin 4096 → EReal) (v : Fin 4096 → Fin 64 → EReal) (M : EReal) (d : Fin 64) : EReal :=
  ∑ k, v k d * Ideal.div (Ideal.exp (z k - M)) (∑ k, Ideal.exp (z k - M))

theorem exp_bot_sub (M : EReal) : Ideal.exp (⊥ - M) = 0 := by
  rw [sub_eq_add_neg, EReal.bot_add]; rfl

theorem exp_nonneg (x : EReal) : 0 ≤ Ideal.exp x := by
  induction x with
  | bot => exact le_refl _
  | top => exact le_top
  | coe r => rw [Ideal.exp_coe]; exact_mod_cast (Real.exp_pos r).le

/-- One query's row: over all keys with the masked ones at `-∞`, or over the three blocks that hold its keys. -/
theorem row_eq (z : ℕ → EReal) (v : ℕ → Fin 64 → EReal) (i : ℕ) (hi : i < 16) (hz : ∀ k, ¬ (k / 256 ≤ i ∧ i ≤ k / 256 + 2) → z k = ⊥)
    (v0 v1 : Fin 256 → Fin 64 → EReal) (h0 : 2 ≤ i → ∀ c d, v0 c d = v (256 * (i - 2) + c.val) d) (h1 : 1 ≤ i → ∀ c d, v1 c d = v (256 * (i - 1) + c.val) d)
    (M : EReal) (g : EReal) (d : Fin 64) :
    headNorm (winRow (win z i 0) (win z i 1) (win z i 2) v0 v1 (fun c d => v (256 * i + c.val) d) M) g d
      = headNorm (fullRow (fun k => z k.val) (fun k d => v k.val d) M) g d := by
  have key : headNorm (fullRow (fun k => z k.val) (fun k d => v k.val d) M) g d = _ :=
    headNorm_div (fun k => Ideal.exp (z k.val - M)) (fun k d => v k.val d) (fun k => exp_nonneg _) g d
  rw [key]
  have hs : (∑ k : Fin 4096, Ideal.exp (z k.val - M)) = ∑ c, (Ideal.exp (win z i 0 c - M) + Ideal.exp (win z i 1 c - M) + Ideal.exp (win z i 2 c - M)) := by
    rw [sum_band (fun k => Ideal.exp (z k - M)) i hi (fun k hk => by rw [hz k hk, exp_bot_sub]), Finset.sum_add_distrib, Finset.sum_add_distrib]
    congr 1
    · congr 1
      · split_ifs with h
        · exact Finset.sum_congr rfl fun c _ => by rw [win, if_pos (by omega)]; rfl
        · exact (Finset.sum_eq_zero fun c _ => by rw [win, if_neg (by omega), exp_bot_sub]).symm
      · split_ifs with h
        · exact Finset.sum_congr rfl fun c _ => by rw [win, if_pos (by omega), show i + 1 - 2 = i - 1 by omega]
        · exact (Finset.sum_eq_zero fun c _ => by rw [win, if_neg (by omega), exp_bot_sub]).symm
  have hv : ∀ d, (∑ k : Fin 4096, Ideal.exp (z k.val - M) * v k.val d)
      = (∑ c, Ideal.exp (win z i 0 c - M) * v0 c d) + (∑ c, Ideal.exp (win z i 1 c - M) * v1 c d) + ∑ c, Ideal.exp (win z i 2 c - M) * v (256 * i + c.val) d := fun d => by
    rw [sum_band (fun k => Ideal.exp (z k - M) * v k d) i hi (fun k hk => by rw [hz k hk, exp_bot_sub, zero_mul])]
    congr 1
    · congr 1
      · split_ifs with h
        · exact Finset.sum_congr rfl fun c _ => by rw [win, if_pos (by omega), h0 h]; rfl
        · exact (Finset.sum_eq_zero fun c _ => by rw [win, if_neg (by omega), exp_bot_sub, zero_mul]).symm
      · split_ifs with h
        · exact Finset.sum_congr rfl fun c _ => by rw [win, if_pos (by omega), h1 h, show i + 1 - 2 = i - 1 by omega]
        · exact (Finset.sum_eq_zero fun c _ => by rw [win, if_neg (by omega), exp_bot_sub, zero_mul]).symm
  refine congrArg (fun o => headNorm o g d) (funext fun d => ?_)
  rw [winRow, hs, hv d]

theorem neg_inf : (Ideal.ofBits .f32 0xFF800000#32 : EReal) = ⊥ := by
  simp [Ideal.ofBits, Ideal.ieee, -EReal.coe_mul]

/-- The score of key `k` for the query at `s`: with the bias of their distance, `-∞` unless the key's chunk is the query's or one of the
    eight before it. -/
def bandZ (sc : ℕ → EReal) (bias : Fin 257 → EReal) (s k : ℕ) : EReal :=
  if k / 64 ≤ s / 64 ∧ s / 64 ≤ k / 64 + 8 then sc k + bias ⟨min (s + 128 - k) 256, by omega⟩ else ⊥

/-- Outside the three blocks every key is masked. -/
theorem bandZ_out (sc : ℕ → EReal) (bias : Fin 257 → EReal) (s k i : ℕ) (hs : s / 256 = i) (h : ¬ (k / 256 ≤ i ∧ i ≤ k / 256 + 2)) :
    bandZ sc bias s k = ⊥ := by
  rw [bandZ, if_neg (by omega)]

/-- The greatest score over the three windows is the greatest over all keys. -/
theorem max_band (z : ℕ → EReal) (i : ℕ) (hi : i < 16) (hz : ∀ k, ¬ (k / 256 ≤ i ∧ i ≤ k / 256 + 2) → z k = ⊥) :
    (Finset.univ.fold max ⊥ fun c : Fin 256 => max (max (win z i 0 c) (win z i 1 c)) (win z i 2 c)) = Finset.univ.fold max ⊥ fun k : Fin 4096 => z k.val := by
  have up : ∀ w : ℕ, w < 3 → ∀ c : Fin 256, win z i w c ≤ Finset.univ.fold max ⊥ fun k : Fin 4096 => z k.val := fun w hw c => by
    rw [win]
    split_ifs with h
    · exact Finset.le_fold_max (c := z (256 * (i + w - 2) + c.val)) |>.2 (.inr ⟨⟨256 * (i + w - 2) + c.val, by omega⟩, mem_univ _, le_refl _⟩)
    · exact bot_le
  refine le_antisymm (Finset.fold_max_le _ |>.2 ⟨bot_le, fun c _ => max_le (max_le (up 0 (by omega) c) (up 1 (by omega) c)) (up 2 (by omega) c)⟩)
    (Finset.fold_max_le _ |>.2 ⟨bot_le, fun k _ => ?_⟩)
  by_cases hk : k.val / 256 ≤ i ∧ i ≤ k.val / 256 + 2
  · have hw : win z i (k.val / 256 + 2 - i) ⟨k.val % 256, Nat.mod_lt _ (by norm_num)⟩ = z k.val := by
      rw [win, if_pos (by omega)]
      refine congrArg z ?_
      dsimp only
      omega
    refine Finset.le_fold_max _ |>.2 (.inr ⟨⟨k.val % 256, Nat.mod_lt _ (by norm_num)⟩, mem_univ _, ?_⟩)
    rw [← hw]
    have h3 : k.val / 256 + 2 - i = 0 ∨ k.val / 256 + 2 - i = 1 ∨ k.val / 256 + 2 - i = 2 := by omega
    rcases h3 with e | e | e <;> rw [e]
    · exact le_max_of_le_left (le_max_left _ _)
    · exact le_max_of_le_left (le_max_right _ _)
    · exact le_max_right _ _
  · rw [hz _ hk]; exact bot_le

end Cert.Band
-- ==== Proof.V4.Head.lean ====
/-
  What the band attention's body leaves in its output block at a grid point, read at an index: one head at a time.
-/
module

public import proofs.«01_k».proof.Proof.Gen.Kernel4Ideal.Frame
public import proofs.«01_k».proof.Proof.V4.Row
public import Idealize.ShloMosaic.Lib.Pointwise
public import Idealize.ShloMosaic.Lib.Pipeline.ValueKit

@[expose] public section

set_option maxRecDepth 16384

noncomputable section

namespace Cert.Kernel4Ideal.Hand

open Cert.Kernel4Ideal Cert.Kernel4Ideal.Gen Cert.Band
open Idealize.ShloMosaic Idealize.ShloMosaic.TcCoe Idealize.ShloMosaic.Tactic
open Finset

section
variable {F : FTy → Type} [FloatOps F] [Named F]

/-! ## One head in vector operations -/

/-- The scores of a window: the products of queries and keys plus the bias. -/
def sc2 (q k : FVec F S256x64 .bf16) (b : Vec F S1x1x256x256 .f32) : FVec F S256x256 .f32 :=
  addf (matmul dot_S256x64_S256x64_S256x256_1_1_0_0_n_n none q k (constant S256x256 .f32 0x00000000#32)) (shapeCast S256x256 b shapeCasts_S1x1x256x256_S256x256)

/-- The same where the window lies within the stream, masked where it lies before its start. -/
def sc01 (i : grid0.Coords) (n : BitVec 32) (q k : FVec F S256x64 .bf16) (b : Vec F S1x1x256x256 .f32) : FVec F S256x256 .f32 :=
  Scalar.select (Scalar.cmpi .sge (BitVec.ofNat 32 (i 1).val) n) (sc2 q k b) (broadcast S256x256 (Named.named κ "masked" 0xF149F2CA#32 : F .f32))

/-- The greatest score of each query. -/
def top (s0 s1 s2 : FVec F S256x256 .f32) : FVec F S256x1 .f32 :=
  shapeCast S256x1 (multiReduction .maximumf [1] S256 (maximumf (maximumf s0 s1) s2) 0xFF800000#32 reduces_S256x256_S256 (.inl rfl) rfl) shapeCasts_S256_S256x1

/-- A window's exponentials. -/
def ex (s : FVec F S256x256 .f32) (m : FVec F S256x1 .f32) : FVec F S256x256 .f32 :=
  exp (subf s (broadcastTo S256x256 m broadcasts_S256x1_S256x256))

/-- Their sums. -/
def den (e0 e1 e2 : FVec F S256x256 .f32) : FVec F S256x1 .f32 :=
  shapeCast S256x1 (multiReduction .add [1] S256 (addf (addf e0 e1) e2) 0x00000000#32 reduces_S256x256_S256 (.inl rfl) rfl) shapeCasts_S256_S256x1

/-- A window's exponentials against its values. -/
def pv (e : FVec F S256x256 .f32) (v : FVec F S256x64 .bf16) : FVec F S256x64 .f32 :=
  matmul dot_S256x256_S256x64_S256x64_1_0_0_1_n_n none (truncf .bf16 e bitsLt_bf16_f32) v (constant S256x64 .f32 0x00000000#32)

/-- A head's output scaled by its root mean square and the gain. -/
def nrm (o : FVec F S256x64 .f32) (g : Vec F S1x64 .f32) : FVec F S256x64 .f32 :=
  mulf (mulf o (broadcastTo S256x64 (rsqrt (addf (divf (shapeCast S256x1 (multiReduction .add [1] S256 (mulf o o) 0x00000000#32 reduces_S256x64_S256 (.inl rfl) rfl) shapeCasts_S256_S256x1)
    (broadcast S256x1 (Scalar.ofBits .f32 0x42800000#32 : F .f32))) (broadcast S256x1 (Scalar.ofBits .f32 0x3727C5AC#32 : F .f32)))) broadcasts_S256x1_S256x64))
    (broadcastTo S256x64 (shapeCast S1x64 g shapeCasts_S1x64_S1x64) broadcasts_S1x64_S256x64)

/-- The windows' shares together over the sum of the exponentials. -/
def mix (e0 e1 e2 : FVec F S256x256 .f32) (v0 v1 v2 : FVec F S256x64 .bf16) : FVec F S256x64 .f32 :=
  divf (addf (addf (pv e0 v0) (pv e1 v1)) (pv e2 v2)) (broadcastTo S256x64 (den e0 e1 e2) broadcasts_S256x1_S256x64)

/-- A head from its scores. -/
def endOf (s0 s1 s2 : FVec F S256x256 .f32) (v0 v1 v2 : FVec F S256x64 .bf16) (g : Vec F S1x64 .f32) : FVec F S256x64 .f32 :=
  nrm (mix (ex s0 (top s0 s1 s2)) (ex s1 (top s0 s1 s2)) (ex s2 (top s0 s1 s2)) v0 v1 v2) g

/-- Sixty-four columns of a block, from the `o`-th on. -/
def cols (o : ℕ) (h : S256x512.Slices ![0, o] S256x64) (x : Vec F S256x512 .bf16) : FVec F S256x64 .bf16 :=
  extractStridedSlice S256x64 ![0, o] (shapeCast S256x512 (View.ld x r0_0) shapeCasts_S256x512_S256x512) h

/-- A head from the blocks of the grid point. -/
def headOf (i : grid0.Coords) (o : ℕ) (h : S256x512.Slices ![0, o] S256x64) (x0 x1 x2 x3 x4 x5 x6 : Vec F S256x512 .bf16) (b0 b1 b2 : Vec F S1x1x256x256 .f32)
    (g : Vec F S1x64 .f32) : FVec F S256x64 .f32 :=
  endOf (sc01 i 2#32 (cols o h x0) (cols o h x1) b0) (sc01 i 1#32 (cols o h x0) (cols o h x2) b1) (sc2 (cols o h x0) (cols o h x3) b2)
    (cols o h x4) (cols o h x5) (cols o h x6) g

/-- The eight heads side by side. -/
def joined (h0 h1 h2 h3 h4 h5 h6 h7 : FVec F S256x64 .f32) : FVec F S256x512 .bf16 :=
  truncf .bf16 (concatenate S256x512 1 [⟨S256x64, h0⟩, ⟨S256x64, h1⟩, ⟨S256x64, h2⟩, ⟨S256x64, h3⟩, ⟨S256x64, h4⟩, ⟨S256x64, h5⟩, ⟨S256x64, h6⟩, ⟨S256x64, h7⟩]
    concatenates_S256x64_S256x64_S256x64_S256x64_S256x64_S256x64_S256x64_S256x64_S256x512_d1) bitsLt_bf16_f32

variable (i : grid0.Coords) (x0 x1 x2 x3 x4 x5 x6 : Vec F S256x512 .bf16) (x7 : Vec F S8x3x256x256 .f32) (x8 : Vec F S1x512 .f32)

/-- The output block is the eight heads. -/
theorem out_heads : out0_9 i x0 x1 x2 x3 x4 x5 x6 x7 x8 = View.canon [⟨r0_0, joined
    (headOf i 0 slices_S256x512_o0_0_S256x64 x0 x1 x2 x3 x4 x5 x6 (View.ld x7 r0_1) (View.ld x7 r0_2) (View.ld x7 r0_3) (View.ld x8 r0_13))
    (headOf i 64 slices_S256x512_o0_64_S256x64 x0 x1 x2 x3 x4 x5 x6 (View.ld x7 r0_4) (View.ld x7 r0_5) (View.ld x7 r0_6) (View.ld x8 r0_14))
    (headOf i 128 slices_S256x512_o0_128_S256x64 x0 x1 x2 x3 x4 x5 x6 (View.ld x7 r0_7) (View.ld x7 r0_8) (View.ld x7 r0_9) (View.ld x8 r0_15))
    (headOf i 192 slices_S256x512_o0_192_S256x64 x0 x1 x2 x3 x4 x5 x6 (View.ld x7 r0_10) (View.ld x7 r0_11) (View.ld x7 r0_12) (View.ld x8 r0_16))
    (headOf i 256 slices_S256x512_o0_256_S256x64 x0 x1 x2 x3 x4 x5 x6 (View.ld x7 r0_17) (View.ld x7 r0_18) (View.ld x7 r0_19) (View.ld x8 r0_29))
    (headOf i 320 slices_S256x512_o0_320_S256x64 x0 x1 x2 x3 x4 x5 x6 (View.ld x7 r0_20) (View.ld x7 r0_21) (View.ld x7 r0_22) (View.ld x8 r0_30))
    (headOf i 384 slices_S256x512_o0_384_S256x64 x0 x1 x2 x3 x4 x5 x6 (View.ld x7 r0_23) (View.ld x7 r0_24) (View.ld x7 r0_25) (View.ld x8 r0_31))
    (headOf i 448 slices_S256x512_o0_448_S256x64 x0 x1 x2 x3 x4 x5 x6 (View.ld x7 r0_26) (View.ld x7 r0_27) (View.ld x7 r0_28) (View.ld x8 r0_32))⟩] := by
  unfold_out out0_9
  rfl

end

/-! ## Each of them at an index, over the extended reals -/

theorem sc2_apply (q k : FVec Ideal S256x64 .bf16) (b : Vec Ideal S1x1x256x256 .f32) (r c : Fin 256) :
    sc2 (F := Ideal) q k b (ix2 r c) = ((∑ x : Fin 64, q (ix2 r x) * k (ix2 c x)) + b (ix4 (0 : Fin 1) (0 : Fin 1) r c) : EReal) := by
  pointwise [sc2]

theorem sc01_apply (i : grid0.Coords) (n : ℕ) (hn : n ≤ 2) (q k : FVec Ideal S256x64 .bf16) (b : Vec Ideal S1x1x256x256 .f32) (r c : Fin 256) :
    sc01 (F := Ideal) i (BitVec.ofNat 32 n) q k b (ix2 r c) = if n ≤ (i 1).val then sc2 (F := Ideal) q k b (ix2 r c) else (⊥ : EReal) := by
  have hc : ∀ n : Fin 3, ∀ a : Fin 16, Scalar.cmpi .sge (BitVec.ofNat 32 a.val) (BitVec.ofNat 32 n.val) = if n.val ≤ a.val then 1#1 else 0#1 := by decide +kernel
  rw [sc01, hc ⟨n, by omega⟩ (i 1)]
  dsimp only
  split_ifs with h
  · rfl
  · rfl

theorem top_apply (s0 s1 s2 : FVec Ideal S256x256 .f32) (r : Fin 256) :
    top (F := Ideal) s0 s1 s2 (ix2 r (0 : Fin 1)) = (univ.fold max ⊥ fun c : Fin 256 => max (max (s0 (ix2 r c)) (s1 (ix2 r c))) (s2 (ix2 r c)) : EReal) := by
  rw [← neg_inf]
  pointwise [top]

theorem ex_apply (s : FVec Ideal S256x256 .f32) (m : FVec Ideal S256x1 .f32) (r c : Fin 256) :
    ex (F := Ideal) s m (ix2 r c) = (Ideal.exp (s (ix2 r c) - m (ix2 r (0 : Fin 1))) : EReal) := by
  pointwise [ex]

theorem mix_apply (e0 e1 e2 : FVec Ideal S256x256 .f32) (v0 v1 v2 : FVec Ideal S256x64 .bf16) (r : Fin 256) (d : Fin 64) :
    mix (F := Ideal) e0 e1 e2 v0 v1 v2 (ix2 r d) = (Ideal.div (((∑ c : Fin 256, e0 (ix2 r c) * v0 (ix2 c d)) + ∑ c : Fin 256, e1 (ix2 r c) * v1 (ix2 c d))
      + ∑ c : Fin 256, e2 (ix2 r c) * v2 (ix2 c d)) (∑ c : Fin 256, (e0 (ix2 r c) + e1 (ix2 r c) + e2 (ix2 r c))) : EReal) := by
  pointwise [mix, pv, den]

theorem nrm_apply (o : FVec Ideal S256x64 .f32) (g : Vec Ideal S1x64 .f32) (r : Fin 256) (d : Fin 64) :
    nrm (F := Ideal) o g (ix2 r d) = headNorm (fun d => o (ix2 r d)) (g (ix2 (0 : Fin 1) d)) d := by
  pointwise [nrm]
  rfl

theorem cols_apply (o : ℕ) (h : S256x512.Slices ![0, o] S256x64) (ho : o + 64 ≤ 512) (x : Vec Ideal S256x512 .bf16) (r : Fin 256) (d : Fin 64) :
    cols (F := Ideal) o h x (ix2 r d) = x (ix2 r (⟨o + d.val, by omega⟩ : Fin 512)) := by
  pointwise [cols]

/-- A head at row `r`, lane `d`: the windows' scores, their softmax against the values, and the norm. -/
theorem headOf_apply (i : grid0.Coords) (o : ℕ) (h : S256x512.Slices ![0, o] S256x64) (ho : o + 64 ≤ 512) (x0 x1 x2 x3 x4 x5 x6 : Vec Ideal S256x512 .bf16)
    (b0 b1 b2 : Vec Ideal S1x1x256x256 .f32) (g : Vec Ideal S1x64 .f32) (r : Fin 256) (d : Fin 64) (w0 w1 w2 : Fin 256 → EReal)
    (h0 : ∀ c, w0 c = if 2 ≤ (i 1).val then (∑ x : Fin 64, (show EReal from x0 (ix2 r (⟨o + x.val, by omega⟩ : Fin 512))) * x1 (ix2 c (⟨o + x.val, by omega⟩ : Fin 512))) + b0 (ix4 (0 : Fin 1) (0 : Fin 1) r c) else ⊥)
    (h1 : ∀ c, w1 c = if 1 ≤ (i 1).val then (∑ x : Fin 64, (show EReal from x0 (ix2 r (⟨o + x.val, by omega⟩ : Fin 512))) * x2 (ix2 c (⟨o + x.val, by omega⟩ : Fin 512))) + b1 (ix4 (0 : Fin 1) (0 : Fin 1) r c) else ⊥)
    (h2 : ∀ c, w2 c = (∑ x : Fin 64, (show EReal from x0 (ix2 r (⟨o + x.val, by omega⟩ : Fin 512))) * x3 (ix2 c (⟨o + x.val, by omega⟩ : Fin 512))) + b2 (ix4 (0 : Fin 1) (0 : Fin 1) r c)) :
    headOf (F := Ideal) i o h x0 x1 x2 x3 x4 x5 x6 b0 b1 b2 g (ix2 r d)
      = headNorm (winRow w0 w1 w2 (fun c d => x4 (ix2 c (⟨o + d.val, by omega⟩ : Fin 512))) (fun c d => x5 (ix2 c (⟨o + d.val, by omega⟩ : Fin 512)))
          (fun c d => x6 (ix2 c (⟨o + d.val, by omega⟩ : Fin 512))) (univ.fold max ⊥ fun c => max (max (w0 c) (w1 c)) (w2 c))) (g (ix2 (0 : Fin 1) d)) d := by
  have e0 : ∀ c, sc01 (F := Ideal) i 2#32 (cols o h x0) (cols o h x1) b0 (ix2 r c) = w0 c := fun c => by
    rw [h0, sc01_apply i 2 (by norm_num), sc2_apply]
    simp only [cols_apply o h ho]
  have e1 : ∀ c, sc01 (F := Ideal) i 1#32 (cols o h x0) (cols o h x2) b1 (ix2 r c) = w1 c := fun c => by
    rw [h1, sc01_apply i 1 (by norm_num), sc2_apply]
    simp only [cols_apply o h ho]
  have e2 : ∀ c, sc2 (F := Ideal) (cols o h x0) (cols o h x3) b2 (ix2 r c) = w2 c := fun c => by
    rw [h2, sc2_apply]
    simp only [cols_apply o h ho]
  rw [headOf, endOf, nrm_apply]
  refine congrArg (fun o => headNorm o _ d) (funext fun d => ?_)
  simp only [mix_apply, ex_apply, top_apply, e0, e1, e2, cols_apply o h ho]
  rfl

end Cert.Kernel4Ideal.Hand
-- ==== Proof.V4.Block.lean ====
/-
  The band attention's output block at a grid point, read at row `r` and lane `64 h + d`: head `h` of that row.
-/
module

public import proofs.«01_k».proof.Proof.V4.Head

@[expose] public section

set_option maxRecDepth 16384

noncomputable section

namespace Cert.Kernel4Ideal.Hand

open Cert.Kernel4Ideal Cert.Kernel4Ideal.Gen Cert.Band
open Idealize.ShloMosaic Idealize.ShloMosaic.TcCoe Idealize.ShloMosaic.Tactic
open Finset

/-! ## The eight heads side by side -/

section
variable (h0 h1 h2 h3 h4 h5 h6 h7 : FVec Ideal S256x64 .f32) (r : Fin 256) (d : Fin 64)

theorem join0 : joined (F := Ideal) h0 h1 h2 h3 h4 h5 h6 h7 (ix2 r (⟨0 + d.val, by omega⟩ : Fin 512)) = h0 (ix2 r d) := by
  pointwise [joined]

theorem join1 : joined (F := Ideal) h0 h1 h2 h3 h4 h5 h6 h7 (ix2 r (⟨64 + d.val, by omega⟩ : Fin 512)) = h1 (ix2 r d) := by
  pointwise [joined]

theorem join2 : joined (F := Ideal) h0 h1 h2 h3 h4 h5 h6 h7 (ix2 r (⟨128 + d.val, by omega⟩ : Fin 512)) = h2 (ix2 r d) := by
  pointwise [joined]
  split_ifs <;> first | (exfalso; omega) | exact congrArg h2 (congrArg (fun y => ix2 r y) (Fin.ext (by dsimp only; omega)))

theorem join3 : joined (F := Ideal) h0 h1 h2 h3 h4 h5 h6 h7 (ix2 r (⟨192 + d.val, by omega⟩ : Fin 512)) = h3 (ix2 r d) := by
  pointwise [joined]
  split_ifs <;> first | (exfalso; omega) | exact congrArg h3 (congrArg (fun y => ix2 r y) (Fin.ext (by dsimp only; omega)))

theorem join4 : joined (F := Ideal) h0 h1 h2 h3 h4 h5 h6 h7 (ix2 r (⟨256 + d.val, by omega⟩ : Fin 512)) = h4 (ix2 r d) := by
  pointwise [joined]
  split_ifs <;> first | (exfalso; omega) | exact congrArg h4 (congrArg (fun y => ix2 r y) (Fin.ext (by dsimp only; omega)))

theorem join5 : joined (F := Ideal) h0 h1 h2 h3 h4 h5 h6 h7 (ix2 r (⟨320 + d.val, by omega⟩ : Fin 512)) = h5 (ix2 r d) := by
  pointwise [joined]
  split_ifs <;> first | (exfalso; omega) | exact congrArg h5 (congrArg (fun y => ix2 r y) (Fin.ext (by dsimp only; omega)))

theorem join6 : joined (F := Ideal) h0 h1 h2 h3 h4 h5 h6 h7 (ix2 r (⟨384 + d.val, by omega⟩ : Fin 512)) = h6 (ix2 r d) := by
  pointwise [joined]
  split_ifs <;> first | (exfalso; omega) | exact congrArg h6 (congrArg (fun y => ix2 r y) (Fin.ext (by dsimp only; omega)))

theorem join7 : joined (F := Ideal) h0 h1 h2 h3 h4 h5 h6 h7 (ix2 r (⟨448 + d.val, by omega⟩ : Fin 512)) = h7 (ix2 r d) := by
  pointwise [joined]
  split_ifs <;> first | (exfalso; omega) | exact congrArg h7 (congrArg (fun y => ix2 r y) (Fin.ext (by dsimp only; omega)))

end

/-- A window's score: queries against keys plus the bias, masked where the window lies before the stream's start. -/
def blockW (n : ℕ) (i : grid0.Coords) (x0 xk : Vec Ideal S256x512 .bf16) (x7 : Vec Ideal S8x3x256x256 .f32) (h : Fin 8) (w : Fin 3) (r c : Fin 256) : EReal :=
  if n ≤ (i 1).val then (∑ x : Fin 64, (show EReal from x0 (ix2 r (⟨64 * h.val + x.val, by omega⟩ : Fin 512))) * xk (ix2 c (⟨64 * h.val + x.val, by omega⟩ : Fin 512))) + x7 (ix4 h w r c) else ⊥

variable (i : grid0.Coords) (x0 x1 x2 x3 x4 x5 x6 : Vec Ideal S256x512 .bf16) (x7 : Vec Ideal S8x3x256x256 .f32) (x8 : Vec Ideal S1x512 .f32)

/-- Row `r` of head `h`. -/
def blockRow (h : Fin 8) (r : Fin 256) (d : Fin 64) : EReal :=
  headNorm (winRow (blockW 2 i x0 x1 x7 h 0 r) (blockW 1 i x0 x2 x7 h 1 r) (blockW 0 i x0 x3 x7 h 2 r)
      (fun c d => x4 (ix2 c (⟨64 * h.val + d.val, by omega⟩ : Fin 512))) (fun c d => x5 (ix2 c (⟨64 * h.val + d.val, by omega⟩ : Fin 512)))
      (fun c d => x6 (ix2 c (⟨64 * h.val + d.val, by omega⟩ : Fin 512)))
      (univ.fold max ⊥ fun c => max (max (blockW 2 i x0 x1 x7 h 0 r c) (blockW 1 i x0 x2 x7 h 1 r c)) (blockW 0 i x0 x3 x7 h 2 r c)))
    (x8 (ix2 (0 : Fin 1) (⟨64 * h.val + d.val, by omega⟩ : Fin 512))) d

theorem head_col (h : Fin 8) (o : ℕ) (ho : o = 64 * h.val) (hs : S256x512.Slices ![0, o] S256x64) (b0 b1 b2 : Vec Ideal S1x1x256x256 .f32) (g : Vec Ideal S1x64 .f32)
    (r : Fin 256) (d : Fin 64) (hb0 : ∀ r c : Fin 256, b0 (ix4 (0 : Fin 1) (0 : Fin 1) r c) = x7 (ix4 h (0 : Fin 3) r c))
    (hb1 : ∀ r c : Fin 256, b1 (ix4 (0 : Fin 1) (0 : Fin 1) r c) = x7 (ix4 h (1 : Fin 3) r c)) (hb2 : ∀ r c : Fin 256, b2 (ix4 (0 : Fin 1) (0 : Fin 1) r c) = x7 (ix4 h (2 : Fin 3) r c))
    (hg : ∀ d : Fin 64, g (ix2 (0 : Fin 1) d) = x8 (ix2 (0 : Fin 1) (⟨64 * h.val + d.val, by omega⟩ : Fin 512))) :
    headOf (F := Ideal) i o hs x0 x1 x2 x3 x4 x5 x6 b0 b1 b2 g (ix2 r d) = blockRow i x0 x1 x2 x3 x4 x5 x6 x7 x8 h r d := by
  subst ho
  rw [headOf_apply i (64 * h.val) hs (by omega) x0 x1 x2 x3 x4 x5 x6 b0 b1 b2 g r d (blockW 2 i x0 x1 x7 h 0 r) (blockW 1 i x0 x2 x7 h 1 r) (blockW 0 i x0 x3 x7 h 2 r)
    (fun c => by rw [hb0]; rfl) (fun c => by rw [hb1]; rfl) (fun c => by rw [hb2, blockW, if_pos (Nat.zero_le _)]), hg]
  rfl

/-- The output block at row `r`, lane `64 h + d`. -/
theorem out_apply (h : Fin 8) (r : Fin 256) (d : Fin 64) :
    out0_9 (F := Ideal) i x0 x1 x2 x3 x4 x5 x6 x7 x8 (ix2 r (⟨64 * h.val + d.val, by omega⟩ : Fin 512)) = blockRow i x0 x1 x2 x3 x4 x5 x6 x7 x8 h r d := by
  rw [out_heads, View.canon_unit_zero (by decide)]
  match h with
  | 0 => exact (join0 _ _ _ _ _ _ _ _ r d).trans (head_col i x0 x1 x2 x3 x4 x5 x6 x7 x8 0 0 rfl _ _ _ _ _ r d (fun r c => by pointwise) (fun r c => by pointwise) (fun r c => by pointwise) (fun d => by pointwise))
  | 1 => exact (join1 _ _ _ _ _ _ _ _ r d).trans (head_col i x0 x1 x2 x3 x4 x5 x6 x7 x8 1 64 rfl _ _ _ _ _ r d (fun r c => by pointwise) (fun r c => by pointwise) (fun r c => by pointwise) (fun d => by pointwise))
  | 2 => exact (join2 _ _ _ _ _ _ _ _ r d).trans (head_col i x0 x1 x2 x3 x4 x5 x6 x7 x8 2 128 rfl _ _ _ _ _ r d (fun r c => by pointwise) (fun r c => by pointwise) (fun r c => by pointwise) (fun d => by pointwise))
  | 3 => exact (join3 _ _ _ _ _ _ _ _ r d).trans (head_col i x0 x1 x2 x3 x4 x5 x6 x7 x8 3 192 rfl _ _ _ _ _ r d (fun r c => by pointwise) (fun r c => by pointwise) (fun r c => by pointwise) (fun d => by pointwise))
  | 4 => exact (join4 _ _ _ _ _ _ _ _ r d).trans (head_col i x0 x1 x2 x3 x4 x5 x6 x7 x8 4 256 rfl _ _ _ _ _ r d (fun r c => by pointwise) (fun r c => by pointwise) (fun r c => by pointwise) (fun d => by pointwise))
  | 5 => exact (join5 _ _ _ _ _ _ _ _ r d).trans (head_col i x0 x1 x2 x3 x4 x5 x6 x7 x8 5 320 rfl _ _ _ _ _ r d (fun r c => by pointwise) (fun r c => by pointwise) (fun r c => by pointwise) (fun d => by pointwise))
  | 6 => exact (join6 _ _ _ _ _ _ _ _ r d).trans (head_col i x0 x1 x2 x3 x4 x5 x6 x7 x8 6 384 rfl _ _ _ _ _ r d (fun r c => by pointwise) (fun r c => by pointwise) (fun r c => by pointwise) (fun d => by pointwise))
  | 7 => exact (join7 _ _ _ _ _ _ _ _ r d).trans (head_col i x0 x1 x2 x3 x4 x5 x6 x7 x8 7 448 rfl _ _ _ _ _ r d (fun r c => by pointwise) (fun r c => by pointwise) (fun r c => by pointwise) (fun d => by pointwise))

end Cert.Kernel4Ideal.Hand
-- ==== Proof.V4.Gather.lean ====
/-
  The two gathers of the band attention's relative bias read at an index: a column of the table `[8, 257]` per entry
  of the list of distances.
-/
module

public import proofs.«01_k».proof.Proof.Gen.Kernel4Ideal
public import proofs.«01_k».proof.Proof.Gen.Reference4Ideal
public import Idealize.ShloMosaic.Lib.Pointwise

@[expose] public section

set_option maxRecDepth 16384

noncomputable section

namespace Cert.Band

open Idealize.ShloMosaic Idealize.ShloMosaic.TcCoe Idealize.ShloMosaic.Tactic

/-- A word that holds a column's number below 257, read as a signed number, is that number. -/
theorem col_toInt (b : Fin 257) : min (BitVec.ofNat 32 b.val).toInt.toNat 256 = b.val := by
  revert b; decide +kernel

/-- The reference's gather: entry `(h, s, t)` is the table's entry `(h, b)` where the distances hold `b` at `(s, t)`. -/
theorem gatherR {α : Type} (x : Cert.Reference4Ideal.S8x257.Idx → α) (idx : IVec Cert.Reference4Ideal.S4096x4096x1 32)
    (h : Fin 8) (s t : Fin 4096) (b : Fin 257) (hb : idx (ix3 s t (0 : Fin 1)) = BitVec.ofNat 32 b.val) :
    Host.gather Cert.Reference4Ideal.gather_S8x257_S4096x4096x1_S8x4096x4096_0_1_n_n_1_2_81 x idx (ix3 h s t) = x (ix2 h b) := by
  unfold Host.gather
  refine congrArg x (funext fun a => Fin.ext ?_)
  match a with
  | ⟨0, _⟩ =>
    show Cert.Reference4Ideal.gather_S8x257_S4096x4096x1_S8x4096x4096_0_1_n_n_1_2_81.start (ix3 h s t) idx 0
      + Cert.Reference4Ideal.gather_S8x257_S4096x4096x1_S8x4096x4096_0_1_n_n_1_2_81.batchCoord (ix3 h s t) 0
      + Cert.Reference4Ideal.gather_S8x257_S4096x4096x1_S8x4096x4096_0_1_n_n_1_2_81.offCoord (ix3 h s t) 0 = h.val
    rw [GatherDims.batchCoord_eq_zero _ _ _ List.not_mem_nil, Nat.add_zero]
    unfold GatherDims.start
    rw [dif_neg (by decide), Nat.zero_add]
    unfold GatherDims.offCoord
    rw [dif_pos (by decide)]
    rfl
  | ⟨1, _⟩ =>
    show Cert.Reference4Ideal.gather_S8x257_S4096x4096x1_S8x4096x4096_0_1_n_n_1_2_81.start (ix3 h s t) idx 1
      + Cert.Reference4Ideal.gather_S8x257_S4096x4096x1_S8x4096x4096_0_1_n_n_1_2_81.batchCoord (ix3 h s t) 1
      + Cert.Reference4Ideal.gather_S8x257_S4096x4096x1_S8x4096x4096_0_1_n_n_1_2_81.offCoord (ix3 h s t) 1 = b.val
    rw [GatherDims.batchCoord_eq_zero _ _ _ List.not_mem_nil,
      GatherDims.offCoord_eq_zero _ _ _ (fun h => ((GatherDims.mem_sKept _ _).mp h).1 (List.mem_singleton.mpr rfl)), Nat.add_zero]
    unfold GatherDims.start
    rw [dif_pos (by decide)]
    refine Eq.trans ?_ (col_toInt b)
    refine congrArg (fun w : BitVec 32 => min w.toInt.toNat 256) (Eq.trans (congrArg idx ?_) hb)
    funext a
    refine Fin.ext ?_
    match a with
    | ⟨0, _⟩ => rfl
    | ⟨1, _⟩ => rfl
    | ⟨2, _⟩ => rfl

/-- The kernel's: entry `(h, n)` is the table's entry `(h, b)` where the distances hold `b` at `n`. -/
theorem gatherK {α : Type} (x : Cert.Kernel4Ideal.S8x257.Idx → α) (idx : IVec Cert.Kernel4Ideal.S1025x1 32)
    (h : Fin 8) (n : Fin 1025) (b : Fin 257) (hb : idx (ix2 n (0 : Fin 1)) = BitVec.ofNat 32 b.val) :
    Host.gather Cert.Kernel4Ideal.gather_S8x257_S1025x1_S8x1025_0_1_n_n_1_1_81 x idx (ix2 h n) = x (ix2 h b) := by
  unfold Host.gather
  refine congrArg x (funext fun a => Fin.ext ?_)
  match a with
  | ⟨0, _⟩ =>
    show Cert.Kernel4Ideal.gather_S8x257_S1025x1_S8x1025_0_1_n_n_1_1_81.start (ix2 h n) idx 0
      + Cert.Kernel4Ideal.gather_S8x257_S1025x1_S8x1025_0_1_n_n_1_1_81.batchCoord (ix2 h n) 0
      + Cert.Kernel4Ideal.gather_S8x257_S1025x1_S8x1025_0_1_n_n_1_1_81.offCoord (ix2 h n) 0 = h.val
    rw [GatherDims.batchCoord_eq_zero _ _ _ List.not_mem_nil, Nat.add_zero]
    unfold GatherDims.start
    rw [dif_neg (by decide), Nat.zero_add]
    unfold GatherDims.offCoord
    rw [dif_pos (by decide)]
    rfl
  | ⟨1, _⟩ =>
    show Cert.Kernel4Ideal.gather_S8x257_S1025x1_S8x1025_0_1_n_n_1_1_81.start (ix2 h n) idx 1
      + Cert.Kernel4Ideal.gather_S8x257_S1025x1_S8x1025_0_1_n_n_1_1_81.batchCoord (ix2 h n) 1
      + Cert.Kernel4Ideal.gather_S8x257_S1025x1_S8x1025_0_1_n_n_1_1_81.offCoord (ix2 h n) 1 = b.val
    rw [GatherDims.batchCoord_eq_zero _ _ _ List.not_mem_nil,
      GatherDims.offCoord_eq_zero _ _ _ (fun h => ((GatherDims.mem_sKept _ _).mp h).1 (List.mem_singleton.mpr rfl)), Nat.add_zero]
    unfold GatherDims.start
    rw [dif_pos (by decide)]
    refine Eq.trans ?_ (col_toInt b)
    refine congrArg (fun w : BitVec 32 => min w.toInt.toNat 256) (Eq.trans (congrArg idx ?_) hb)
    funext a
    refine Fin.ext ?_
    match a with
    | ⟨0, _⟩ => rfl
    | ⟨1, _⟩ => rfl

end Cert.Band
-- ==== Proof.V4.Bias.lean ====
/-
  The table the band attention reads its bias and mask from, as the host code builds it: the bias of each offset laid out
  periodically, so that a row of it is the row before it shifted by one, and `-∞` where the key's chunk is out of reach.
-/
module

public import proofs.«01_k».proof.Proof.V4.Block
public import proofs.«01_k».proof.Proof.V4.Gather
public import Idealize.ShloMosaic.Lib.Claim

@[expose] public section

set_option maxRecDepth 16384

noncomputable section

namespace Cert.Kernel4Ideal.Hand

open Cert.Kernel4Ideal Cert.Kernel4Ideal.Gen Cert.Band
open Idealize.ShloMosaic Idealize.ShloMosaic.TcCoe Idealize.ShloMosaic.Tactic
open Finset

section
variable {F : FTy → Type} [FloatOps F]

/-- The offset at each place of a period: upwards from zero, then from below. -/
def shiftK : IVec S1025 32 :=
  select (cmpi .slt (iotaInDim S1025 32 0) (broadcastInDim S1025 ![] bcast_S_S1025 (constantI S_ 32 768#32))) (iotaInDim S1025 32 0)
    (subi (iotaInDim S1025 32 0) (broadcastInDim S1025 ![] bcast_S_S1025 (constantI S_ 32 1025#32)))
/-- The clipped distance there, -/
def distK : IVec S1025 32 :=
  addi (minsi (broadcastInDim S1025 ![] bcast_S_S1025 (id (constantI S_ 32 128#32))) (maxsi (broadcastInDim S1025 ![] bcast_S_S1025 (id (constantI S_ 32 4294967168#32)))
    (subi (broadcastInDim S1025 ![] bcast_S_S1025 (constantI S_ 32 512#32)) shiftK))) (broadcastInDim S1025 ![] bcast_S_S1025 (constantI S_ 32 128#32))
/-- as a column of the table. -/
def idxK : IVec S1025x1 32 :=
  broadcastInDim S1025x1 ![0] bcast_S1025_S1025x1_0 (select (cmpi .slt distK (broadcastInDim S1025 ![] bcast_S_S1025 (constantI S_ 32 0#32)))
    (addi distK (broadcastInDim S1025 ![] bcast_S_S1025 (constantI S_ 32 257#32))) distK)
/-- The periods one after another, cut into rows one shorter than a period. -/
def tileK (x : FVec F S8x1025 .f32) : FVec F S8x256x768 .f32 :=
  extractStridedSlice S8x256x768 ![0, 0, 0] (shapeCast S8x256x1024 (extractStridedSlice S8x262144 ![0, 0] (shapeCast S8x262400
    (broadcastInDim S1x8x256x1025 ![0, 1, 2, 3] bcast_S1x8x1x1025_S1x8x256x1025_0_1_2_3 (shapeCast S1x8x1x1025 x shapeCasts_S8x1025_S1x8x1x1025))
    shapeCasts_S1x8x256x1025_S8x262400) slices_S8x262400_S8x262144_0_0) shapeCasts_S8x262144_S8x256x1024) slices_S8x256x1024_S8x256x768_0_0_0
/-- The chunk of each key, counted from the third block back, -/
def kcK : IVec S1x768 32 :=
  subi (select (andi (cmpi .ne (signi (broadcastInDim S1x768 ![1] bcast_S768_S1x768_1 (iotaInDim S768 32 0))) (broadcastInDim S1x768 ![] bcast_S_S1x768 (signi (id (constantI S_ 32 64#32)))))
      (cmpi .ne (Host.remsi (broadcastInDim S1x768 ![1] bcast_S768_S1x768_1 (iotaInDim S768 32 0)) (broadcastInDim S1x768 ![] bcast_S_S1x768 (id (constantI S_ 32 64#32)))) (broadcastInDim S1x768 ![] bcast_S_S1x768 (constantI S_ 32 0#32))))
    (subi (Host.divsi (broadcastInDim S1x768 ![1] bcast_S768_S1x768_1 (iotaInDim S768 32 0)) (broadcastInDim S1x768 ![] bcast_S_S1x768 (id (constantI S_ 32 64#32)))) (broadcastInDim S1x768 ![] bcast_S_S1x768 (constantI S_ 32 1#32)))
    (Host.divsi (broadcastInDim S1x768 ![1] bcast_S768_S1x768_1 (iotaInDim S768 32 0)) (broadcastInDim S1x768 ![] bcast_S_S1x768 (id (constantI S_ 32 64#32)))))
  (broadcastInDim S1x768 ![] bcast_S_S1x768 (constantI S_ 32 8#32))
/-- and of each query. -/
def qcK : IVec S256x1 32 :=
  select (andi (cmpi .ne (signi (broadcastInDim S256x1 ![0] bcast_S256_S256x1_0 (iotaInDim S256 32 0))) (broadcastInDim S256x1 ![] bcast_S_S256x1 (signi (id (constantI S_ 32 64#32)))))
      (cmpi .ne (Host.remsi (broadcastInDim S256x1 ![0] bcast_S256_S256x1_0 (iotaInDim S256 32 0)) (broadcastInDim S256x1 ![] bcast_S_S256x1 (id (constantI S_ 32 64#32)))) (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (id (constantI S_ 32 64#32)))) (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (id (constantI S_ 32 64#32))))
/-- The keys a query may see. -/
def maskK : IVec S256x768 1 :=
  andi (cmpi .sle (broadcastInDim S256x768 ![0, 1] bcast_S1x768_S256x768_0_1 kcK) (broadcastInDim S256x768 ![0, 1] bcast_S256x1_S256x768_0_1 qcK))
    (cmpi .sge (broadcastInDim S256x768 ![0, 1] bcast_S1x768_S256x768_0_1 kcK)
      (broadcastInDim S256x768 ![0, 1] bcast_S256x1_S256x768_0_1 (subi qcK (broadcastInDim S256x1 ![] bcast_S_S256x1 (constantI S_ 32 8#32)))))
/-- The table. -/
def biasK (rb : FVec F S8x257 .f32) : FVec F S8x3x256x256 .f32 :=
  transpose S8x3x256x256 [0, 2, 1, 3] (shapeCast S8x256x3x256
    (select (broadcastInDim S8x256x768 ![0, 1, 2] bcast_S1x256x768_S8x256x768_0_1_2 (broadcastInDim S1x256x768 ![1, 2] bcast_S256x768_S1x256x768_1_2 maskK))
      (tileK (Host.gather gather_S8x257_S1025x1_S8x1025_0_1_n_n_1_1_81 rb idxK)) (broadcastInDim S8x256x768 ![] bcast_S_S8x256x768 (id (constant S_ .f32 0xFF800000#32))))
    shapeCasts_S8x256x768_S8x256x3x256) transposes_S8x256x3x256_S8x3x256x256_0_2_1_3

end

/-! ## Read at an index -/

theorem shift_word : ∀ n : Fin 1025, IntOp.addi (IntOp.minsi 128#32 (IntOp.maxsi 4294967168#32 (IntOp.subi 512#32
      (Scalar.select (IntOp.cmpi .slt (BitVec.ofNat 32 n.val) 768#32) (BitVec.ofNat 32 n.val) (IntOp.subi (BitVec.ofNat 32 n.val) 1025#32))))) 128#32
    = BitVec.ofNat 32 (if n.val < 768 then min (640 - n.val) 256 else 256) := by decide +kernel

theorem distK_apply (n : Fin 1025) : distK (ix1 n) = BitVec.ofNat 32 (if n.val < 768 then min (640 - n.val) 256 else 256) := by
  pointwise [distK, shiftK]
  exact shift_word n

theorem col_word : ∀ n : Fin 257, Scalar.select (IntOp.cmpi CmpIPredicate.slt (BitVec.ofNat 32 n.val) 0#32)
    (IntOp.addi (BitVec.ofNat 32 n.val) 257#32) (BitVec.ofNat 32 n.val) = BitVec.ofNat 32 n.val := by decide +kernel

theorem idxK_apply (n : Fin 1025) : idxK (ix2 n (0 : Fin 1)) = BitVec.ofNat 32 (if n.val < 768 then min (640 - n.val) 256 else 256) := by
  pointwise [idxK]
  rw [distK_apply]
  exact col_word ⟨if n.val < 768 then min (640 - n.val) 256 else 256, by split_ifs <;> omega⟩

theorem tileK_apply (x : FVec Ideal S8x1025 .f32) (h : Fin 8) (r : Fin 256) (C : Fin 768) :
    tileK (F := Ideal) x (ix3 h r C) = x (ix2 h (⟨(1024 * r.val + C.val) % 1025, Nat.mod_lt _ (by norm_num)⟩ : Fin 1025)) := by
  pointwise [tileK]
  exact congrArg x (congrArg (fun y => ix2 h y) (Fin.ext (by dsimp only; omega)))

/-- Where a row's entry lies in its period. -/
theorem period_mod (r C : ℕ) (hr : r < 256) (hC : C < 768) : (1024 * r + C) % 1025 = if r ≤ C then C - r else C + 1025 - r := by
  split_ifs with h
  · rw [show 1024 * r + C = 1025 * r + (C - r) by omega, Nat.mul_add_mod, Nat.mod_eq_of_lt (by omega)]
  · rw [show 1024 * r + C = 1025 * (r - 1) + (C + 1025 - r) by omega, Nat.mul_add_mod, Nat.mod_eq_of_lt (by omega)]

theorem kc_word : ∀ n : Fin 768, IntOp.subi (Scalar.select
      (IntOp.andi
        (IntOp.cmpi CmpIPredicate.ne (if BitVec.ofNat 32 n.val = 0 then 0 else if (BitVec.ofNat 32 n.val).msb = true then -1 else 1 : BitVec 32)
          (if (64#32 : BitVec 32) = 0 then 0 else if (64#32 : BitVec 32).msb = true then -1 else 1 : BitVec 32))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32)) 8#32 = IntOp.subi (BitVec.ofNat 32 (n.val / 64)) 8#32 := by decide +kernel

theorem kcK_apply (n : Fin 768) : kcK (ix2 (0 : Fin 1) n) = IntOp.subi (BitVec.ofNat 32 (n.val / 64)) 8#32 := by
  pointwise [kcK]
  exact kc_word n

theorem qc_word : ∀ n : Fin 256, Scalar.select
      (IntOp.andi
        (IntOp.cmpi CmpIPredicate.ne (if BitVec.ofNat 32 n.val = 0 then 0 else if (BitVec.ofNat 32 n.val).msb = true then -1 else 1 : BitVec 32)
          (if (64#32 : BitVec 32) = 0 then 0 else if (64#32 : BitVec 32).msb = true then -1 else 1 : BitVec 32))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

theorem qcK_apply (n : Fin 256) : qcK (ix2 n (0 : Fin 1)) = BitVec.ofNat 32 (n.val / 64) := by
  pointwise [qcK]
  exact qc_word n

theorem maskK_word : ∀ (y : Fin 12) (x : Fin 4), IntOp.andi (IntOp.cmpi CmpIPredicate.sle (IntOp.subi (BitVec.ofNat 32 y.val) 8#32) (BitVec.ofNat 32 x.val))
    (IntOp.cmpi CmpIPredicate.sge (IntOp.subi (BitVec.ofNat 32 y.val) 8#32) (IntOp.subi (BitVec.ofNat 32 x.val) 8#32))
      = if y.val ≤ x.val + 8 ∧ x.val ≤ y.val then 1#1 else 0#1 := by decide +kernel

theorem maskK_apply (r : Fin 256) (C : Fin 768) : maskK (ix2 r C) = if C.val / 64 ≤ r.val / 64 + 8 ∧ r.val / 64 ≤ C.val / 64 then 1#1 else 0#1 := by
  pointwise [maskK]
  rw [kcK_apply, qcK_apply]
  exact maskK_word ⟨C.val / 64, by omega⟩ ⟨r.val / 64, by omega⟩

/-- The table at head `h`, window `w`, query `r` and key `n`: the bias of their distance where the key may be seen. -/
theorem biasK_apply (rb : FVec Ideal S8x257 .f32) (h : Fin 8) (w : Fin 3) (r n : Fin 256) :
    biasK (F := Ideal) rb (ix4 h w r n)
      = if (256 * w.val + n.val) / 64 ≤ r.val / 64 + 8 ∧ r.val / 64 ≤ (256 * w.val + n.val) / 64
          then (show EReal from rb (ix2 h (⟨min (640 + r.val - (256 * w.val + n.val)) 256, by omega⟩ : Fin 257))) else ⊥ := by
  have e : biasK (F := Ideal) rb (ix4 h w r n) = Scalar.select (maskK (ix2 r (⟨256 * w.val + n.val, by omega⟩ : Fin 768)))
      (tileK (F := Ideal) (Host.gather gather_S8x257_S1025x1_S8x1025_0_1_n_n_1_1_81 rb idxK) (ix3 h r (⟨256 * w.val + n.val, by omega⟩ : Fin 768))) (Ideal.ofBits .f32 0xFF800000#32) := by
    pointwise [biasK]
    rw [show (⟨w.val * 256 + n.val, by omega⟩ : Fin 768) = ⟨256 * w.val + n.val, by omega⟩ from Fin.ext (by dsimp only; omega)]
    rfl
  rw [e, maskK_apply, tileK_apply]
  dsimp only
  split_ifs with hc
  · refine (gatherK rb idxK h _ ⟨min (640 + r.val - (256 * w.val + n.val)) 256, by omega⟩ ((idxK_apply _).trans (congrArg (BitVec.ofNat 32) ?_)))
    have key : ∀ x : ℕ, x = (if r.val ≤ 256 * w.val + n.val then 256 * w.val + n.val - r.val else 256 * w.val + n.val + 1025 - r.val) →
        (if x < 768 then min (640 - x) 256 else 256) = min (640 + r.val - (256 * w.val + n.val)) 256 := fun x hx => by
      subst hx; split_ifs <;> omega
    exact key _ (period_mod _ _ r.isLt (by omega))
  · exact neg_inf

variable (m : (ℓ : Loc nD τ sig) → Buf (Elt Ideal) ℓ) (c : Dev nD)

/-- What the region finds. -/
theorem bias_entry (h : Fin 8) (w : Fin 3) (r n : Fin 256) :
    V m c main_v52 (ix4 h w r n) = biasK (F := Ideal) (m ((c : Thread nD τ).loc main_arg3)) (ix4 h w r n) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append]
  entry_read
  simp -implicitDefEqProofs only [StableHlo.TRef.toBuf, StableHlo.TRef.ofBuf, cast_cast, cast_eq]
  rfl

/-- The queries times 1/8, row `s` of stream `b`, -/
theorem q_entry (b : Fin 4) (n : Fin 4096) (h : Fin 8) (d : Fin 64) :
    V m c main_v3 (ix2 (⟨4096 * b.val + n.val, by omega⟩ : Fin 16384) (⟨64 * h.val + d.val, by omega⟩ : Fin 512))
      = (show EReal from m ((c : Thread nD τ).loc main_arg0) (ix4 b n h d)) * Ideal.ofBits .f32 0x3E000000#32 := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append]
  entry_read
  pointwise
  refine congrArg (fun x => (show EReal from m ((c : Thread nD τ).loc main_arg0) x) * Ideal.ofBits .f32 0x3E000000#32) ?_
  congr 1 <;> (apply Fin.ext; dsimp only; omega)
/-- the keys, -/
theorem k_entry (b : Fin 4) (n : Fin 4096) (h : Fin 8) (d : Fin 64) :
    V m c main_v5 (ix2 (⟨4096 * b.val + n.val, by omega⟩ : Fin 16384) (⟨64 * h.val + d.val, by omega⟩ : Fin 512))
      = m ((c : Thread nD τ).loc main_arg1) (ix4 b n h d) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append]
  entry_read
  pointwise
  refine congrArg (m (c, Proc.tc.devRef main_arg1)) ?_
  congr 1 <;> (apply Fin.ext; dsimp only; omega)
/-- the values, -/
theorem v_entry (b : Fin 4) (n : Fin 4096) (h : Fin 8) (d : Fin 64) :
    V m c main_v7 (ix2 (⟨4096 * b.val + n.val, by omega⟩ : Fin 16384) (⟨64 * h.val + d.val, by omega⟩ : Fin 512))
      = m ((c : Thread nD τ).loc main_arg2) (ix4 b n h d) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append]
  entry_read
  pointwise
  refine congrArg (m (c, Proc.tc.devRef main_arg2)) ?_
  congr 1 <;> (apply Fin.ext; dsimp only; omega)
/-- and the gain. -/
theorem g_entry (l : Fin 512) : V m c main_v53 (ix2 0 l) = m ((c : Thread nD τ).loc main_arg4) (ix1 l) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
    List.nil_append]
  entry_read
  pointwise

end Cert.Kernel4Ideal.Hand
-- ==== Proof.V4.Entry.lean ====
/-
  What the band attention's region finds in its operands at a grid point, each block read at an index of the arguments.
-/
module

public import proofs.«01_k».proof.Proof.V4.Bias
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Finset Cert.Band
open Idealize.SL.Sem
open Idealize.ShloMosaic.Pipeline (Dat)

/-! ## The blocks -/

/-- Which block of its array each window is at, at grid point `t`. -/
theorem idx0 : ∀ t : Fin grid0.N, win0_0.index t = ![t.val, 0] := by decide +kernel
theorem idx1 : ∀ t : Fin grid0.N, win0_1.index t = ![16 * (t.val / 16) + (t.val % 16 - 2), 0] := by decide +kernel
theorem idx2 : ∀ t : Fin grid0.N, win0_2.index t = ![16 * (t.val / 16) + (t.val % 16 - 1), 0] := by decide +kernel
theorem idx3 : ∀ t : Fin grid0.N, win0_3.index t = ![16 * (t.val / 16) + (t.val % 16 - 0), 0] := by decide +kernel
theorem idx4 : ∀ t : Fin grid0.N, win0_4.index t = ![16 * (t.val / 16) + (t.val % 16 - 2), 0] := by decide +kernel
theorem idx5 : ∀ t : Fin grid0.N, win0_5.index t = ![16 * (t.val / 16) + (t.val % 16 - 1), 0] := by decide +kernel
theorem idx6 : ∀ t : Fin grid0.N, win0_6.index t = ![16 * (t.val / 16) + (t.val % 16 - 0), 0] := by decide +kernel
theorem idx7 : ∀ t : Fin grid0.N, win0_7.index t = ![0, 0, 0, 0] := by decide +kernel
theorem idx8 : ∀ t : Fin grid0.N, win0_8.index t = ![0, 0] := by decide +kernel
theorem idx9 : ∀ t : Fin grid0.N, win0_9.index t = ![t.val, 0] := by decide +kernel
theorem coord1 : ∀ t : Fin grid0.N, (grid0.coords t 1).val = t.val % 16 := by decide +kernel

/-- The grid has 64 points. -/
theorem t_lt (t : Fin cfg0.N) : t.val < 64 := t.isLt

variable (m : (ℓ : Loc nD τ sig) → Buf (Elt Ideal) ℓ) (c : Dev nD)

section Blocks

variable (t : Fin cfg0.N) (b : Fin 4) (i : Fin 16) (ht : t.val = 16 * b.val + i.val)

theorem bias_blk (h : Fin 8) (w : Fin 3) (r n : Fin 256) : iblk m c 7 t (ix4 h w r n) = V m c main_v52 (ix4 h w r n) := by
  blk_ext [iblk, idx7 t]
theorem g_blk (l : Fin 512) : iblk m c 8 t (ix2 0 l) = V m c main_v53 (ix2 0 l) := by
  blk_ext [iblk, idx8 t]

include ht
theorem q_blk (r : Fin 256) (h : Fin 8) (d : Fin 64) : iblk m c 0 t (ix2 r (⟨64 * h.val + d.val, by omega⟩ : Fin 512))
    = (show EReal from m ((c : Thread nD τ).loc main_arg0) (ix4 b (⟨256 * i.val + r.val, by omega⟩ : Fin 4096) h d)) * Ideal.ofBits .f32 0x3E000000#32 := by
  have e : iblk m c 0 t (ix2 r (⟨64 * h.val + d.val, by omega⟩ : Fin 512)) = V m c main_v3 (ix2 (⟨256 * t.val + r.val, by have := t_lt t; omega⟩ : Fin 16384) (⟨64 * h.val + d.val, by omega⟩ : Fin 512)) := by
    blk_ext [iblk, idx0 t]
  refine e.trans (Eq.trans (congrArg (fun y => V m c main_v3 (ix2 y (⟨64 * h.val + d.val, by omega⟩ : Fin 512))) (Fin.ext ?_)) (q_entry m c b (⟨256 * i.val + r.val, by omega⟩ : Fin 4096) h d))
  dsimp only
  omega
theorem k0_blk (r : Fin 256) (h : Fin 8) (d : Fin 64) : iblk m c 1 t (ix2 r (⟨64 * h.val + d.val, by omega⟩ : Fin 512))
    = m ((c : Thread nD τ).loc main_arg1) (ix4 b (⟨256 * (i.val - 2) + r.val, by omega⟩ : Fin 4096) h d) := by
  have e : iblk m c 1 t (ix2 r (⟨64 * h.val + d.val, by omega⟩ : Fin 512)) = V m c main_v5 (ix2 (⟨256 * (16 * (t.val / 16) + (t.val % 16 - 2)) + r.val, by have := t_lt t; omega⟩ : Fin 16384) (⟨64 * h.val + d.val, by omega⟩ : Fin 512)) := by
    blk_ext [iblk, idx1 t]
  refine e.trans (Eq.trans (congrArg (fun y => V m c main_v5 (ix2 y (⟨64 * h.val + d.val, by omega⟩ : Fin 512))) (Fin.ext ?_)) (k_entry m c b (⟨256 * (i.val - 2) + r.val, by omega⟩ : Fin 4096) h d))
  dsimp only
  omega
theorem k1_blk (r : Fin 256) (h : Fin 8) (d : Fin 64) : iblk m c 2 t (ix2 r (⟨64 * h.val + d.val, by omega⟩ : Fin 512))
    = m ((c : Thread nD τ).loc main_arg1) (ix4 b (⟨256 * (i.val - 1) + r.val, by omega⟩ : Fin 4096) h d) := by
  have e : iblk m c 2 t (ix2 r (⟨64 * h.val + d.val, by omega⟩ : Fin 512)) = V m c main_v5 (ix2 (⟨256 * (16 * (t.val / 16) + (t.val % 16 - 1)) + r.val, by have := t_lt t; omega⟩ : Fin 16384) (⟨64 * h.val + d.val, by omega⟩ : Fin 512)) := by
    blk_ext [iblk, idx2 t]
  refine e.trans (Eq.trans (congrArg (fun y => V m c main_v5 (ix2 y (⟨64 * h.val + d.val, by omega⟩ : Fin 512))) (Fin.ext ?_)) (k_entry m c b (⟨256 * (i.val - 1) + r.val, by omega⟩ : Fin 4096) h d))
  dsimp only
  omega
theorem k2_blk (r : Fin 256) (h : Fin 8) (d : Fin 64) : iblk m c 3 t (ix2 r (⟨64 * h.val + d.val, by omega⟩ : Fin 512))
    = m ((c : Thread nD τ).loc main_arg1) (ix4 b (⟨256 * (i.val - 0) + r.val, by omega⟩ : Fin 4096) h d) := by
  have e : iblk m c 3 t (ix2 r (⟨64 * h.val + d.val, by omega⟩ : Fin 512)) = V m c main_v5 (ix2 (⟨256 * (16 * (t.val / 16) + (t.val % 16 - 0)) + r.val, by have := t_lt t; omega⟩ : Fin 16384) (⟨64 * h.val + d.val, by omega⟩ : Fin 512)) := by
    blk_ext [iblk, idx3 t]
  refine e.trans (Eq.trans (congrArg (fun y => V m c main_v5 (ix2 y (⟨64 * h.val + d.val, by omega⟩ : Fin 512))) (Fin.ext ?_)) (k_entry m c b (⟨256 * (i.val - 0) + r.val, by omega⟩ : Fin 4096) h d))
  dsimp only
  omega
theorem v0_blk (r : Fin 256) (h : Fin 8) (d : Fin 64) : iblk m c 4 t (ix2 r (⟨64 * h.val + d.val, by omega⟩ : Fin 512))
    = m ((c : Thread nD τ).loc main_arg2) (ix4 b (⟨256 * (i.val - 2) + r.val, by omega⟩ : Fin 4096) h d) := by
  have e : iblk m c 4 t (ix2 r (⟨64 * h.val + d.val, by omega⟩ : Fin 512)) = V m c main_v7 (ix2 (⟨256 * (16 * (t.val / 16) + (t.val % 16 - 2)) + r.val, by have := t_lt t; omega⟩ : Fin 16384) (⟨64 * h.val + d.val, by omega⟩ : Fin 512)) := by
    blk_ext [iblk, idx4 t]
  refine e.trans (Eq.trans (congrArg (fun y => V m c main_v7 (ix2 y (⟨64 * h.val + d.val, by omega⟩ : Fin 512))) (Fin.ext ?_)) (v_entry m c b (⟨256 * (i.val - 2) + r.val, by omega⟩ : Fin 4096) h d))
  dsimp only
  omega
theorem v1_blk (r : Fin 256) (h : Fin 8) (d : Fin 64) : iblk m c 5 t (ix2 r (⟨64 * h.val + d.val, by omega⟩ : Fin 512))
    = m ((c : Thread nD τ).loc main_arg2) (ix4 b (⟨256 * (i.val - 1) + r.val, by omega⟩ : Fin 4096) h d) := by
  have e : iblk m c 5 t (ix2 r (⟨64 * h.val + d.val, by omega⟩ : Fin 512)) = V m c main_v7 (ix2 (⟨256 * (16 * (t.val / 16) + (t.val % 16 - 1)) + r.val, by have := t_lt t; omega⟩ : Fin 16384) (⟨64 * h.val + d.val, by omega⟩ : Fin 512)) := by
    blk_ext [iblk, idx5 t]
  refine e.trans (Eq.trans (congrArg (fun y => V m c main_v7 (ix2 y (⟨64 * h.val + d.val, by omega⟩ : Fin 512))) (Fin.ext ?_)) (v_entry m c b (⟨256 * (i.val - 1) + r.val, by omega⟩ : Fin 4096) h d))
  dsimp only
  omega
theorem v2_blk (r : Fin 256) (h : Fin 8) (d : Fin 64) : iblk m c 6 t (ix2 r (⟨64 * h.val + d.val, by omega⟩ : Fin 512))
    = m ((c : Thread nD τ).loc main_arg2) (ix4 b (⟨256 * (i.val - 0) + r.val, by omega⟩ : Fin 4096) h d) := by
  have e : iblk m c 6 t (ix2 r (⟨64 * h.val + d.val, by omega⟩ : Fin 512)) = V m c main_v7 (ix2 (⟨256 * (16 * (t.val / 16) + (t.val % 16 - 0)) + r.val, by have := t_lt t; omega⟩ : Fin 16384) (⟨64 * h.val + d.val, by omega⟩ : Fin 512)) := by
    blk_ext [iblk, idx6 t]
  refine e.trans (Eq.trans (congrArg (fun y => V m c main_v7 (ix2 y (⟨64 * h.val + d.val, by omega⟩ : Fin 512))) (Fin.ext ?_)) (v_entry m c b (⟨256 * (i.val - 0) + r.val, by omega⟩ : Fin 4096) h d))
  dsimp only
  omega
end Blocks

end Cert.Kernel4Ideal.Hand
-- ==== Proof.V4.Ref.lean ====
/-
  The reference of the band attention as named parts, each read at an index over the extended reals: chunks, distances,
  the masked scores of every query against every key, their softmax and the head-wise normalisation.
-/
module

public import proofs.«01_k».proof.Proof.V4.Gather
public import proofs.«01_k».proof.Proof.V4.Row
public import proofs.«01_k».proof.Proof.Gen.Reference4Ideal.Run
public import Idealize.ShloMosaic.Lib.Pointwise

@[expose] public section

set_option maxRecDepth 16384

noncomputable section

namespace Cert.Reference4Ideal.Hand

open Cert.Reference4Ideal Cert.Reference4Ideal.Gen
open Idealize.ShloMosaic Idealize.ShloMosaic.TcCoe Idealize.ShloMosaic.Tactic
open Finset Cert.Band

section Parts

variable {F : FTy → Type} [FloatOps F]

/-- The chunk of each position, -/
def chunkR : IVec S4096 32 :=
  (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))
/-- the clipped distances from queries to keys, -/
def distR : IVec S4096x4096 32 :=
  (addi (minsi (broadcastInDim S4096x4096 ![] bcast_S_S4096x4096 (id (constantI S_ 32 128#32))) (maxsi (broadcastInDim S4096x4096 ![] bcast_S_S4096x4096 (id (constantI S_ 32 4294967168#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constantI S_ 32 128#32)))
/-- as columns of the table, -/
def idxR : IVec S4096x4096x1 32 :=
  (broadcastInDim S4096x4096x1 ![0, 1] bcast_S4096x4096_S4096x4096x1_0_1 (select (cmpi .slt distR (broadcastInDim S4096x4096 ![] bcast_S_S4096x4096 (constantI S_ 32 0#32))) (addi distR (broadcastInDim S4096x4096 ![] bcast_S_S4096x4096 (constantI S_ 32 257#32))) distR))
/-- the keys a query may see, -/
def maskR : IVec S4096x4096 1 :=
  (andi (cmpi .sle (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (broadcastInDim S4096x1 ![0] bcast_S4096_S4096x1_0 chunkR))) (cmpi .sge (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (subi (broadcastInDim S4096x1 ![0] bcast_S4096_S4096x1_0 chunkR) (broadcastInDim S4096x1 ![] bcast_S_S4096x1 (constantI S_ 32 8#32))))))
/-- the masked scores, -/
def zR (q k : FVec F S4x4096x8x64 .f32) (rb : FVec F S8x257 .f32) : FVec F S4x8x4096x4096 .f32 :=
  (select (broadcastInDim S4x8x4096x4096 ![2, 3] bcast_S4096x4096_S4x8x4096x4096_2_3 maskR) (addf (mulf (Host.dotGeneral dot_S4x4096x8x64_S4x4096x8x64_S4x8x4096x4096_3_3_1_1_02_02 none q k) (broadcastInDim S4x8x4096x4096 ![] bcast_S_S4x8x4096x4096 (constant S_ .f32 0x3E000000#32))) (broadcastInDim S4x8x4096x4096 ![0, 1, 2, 3] bcast_S1x8x4096x4096_S4x8x4096x4096_0_1_2_3 (broadcastInDim S1x8x4096x4096 ![1, 2, 3] bcast_S8x4096x4096_S1x8x4096x4096_1_2_3 (Host.gather gather_S8x257_S4096x4096x1_S8x4096x4096_0_1_n_n_1_2_81 rb idxR)))) (broadcastInDim S4x8x4096x4096 ![] bcast_S_S4x8x4096x4096 (id (constant S_ .f32 0xFF800000#32))))
/-- the greatest of them for each query, -/
def topR (z : FVec F S4x8x4096x4096 .f32) : FVec F S4x8x4096 .f32 :=
  Host.reduce FloatOps.maximumf z (constant S_ .f32 0xFF800000#32) reducesTo_S4x8x4096x4096_S4x8x4096_d3 h_S_
/-- along a new axis, -/
def maxB (x : FVec F S4x8x4096 .f32) : FVec F S4x8x4096x1 .f32 :=
  broadcastInDim S4x8x4096x1 ![0, 1, 2] bcast_S4x8x4096_S4x8x4096x1_0_1_2 (maximumf (broadcastInDim S4x8x4096 ![] bcast_S_S4x8x4096 (constant S_ .f32 0xFF800000#32)) x)
def maxR (z : FVec F S4x8x4096x4096 .f32) : FVec F S4x8x4096x1 .f32 :=
  maxB (topR z)
/-- the exponentials, -/
def expR (z : FVec F S4x8x4096x4096 .f32) : FVec F S4x8x4096x4096 .f32 :=
  (Host.exp (subf z (broadcastInDim S4x8x4096x4096 ![0, 1, 2, 3] bcast_S4x8x4096x1_S4x8x4096x4096_0_1_2_3 (maxR z))))
/-- the softmax, -/
def softR (e : FVec F S4x8x4096x4096 .f32) : FVec F S4x8x4096x4096 .f32 :=
  (Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd e (constant S_ .f32 0x00000000#32) reducesTo_S4x8x4096x4096_S4x8x4096_d3 h_S_))))
/-- the mean of the values, -/
def oR (v : FVec F S4x4096x8x64 .f32) (p : FVec F S4x8x4096x4096 .f32) : FVec F S4x4096x8x64 .f32 :=
  (transpose S4x4096x8x64 [0, 3, 1, 2] (Host.dotGeneral dot_S4x4096x8x64_S4x8x4096x4096_S4x8x64x4096_1_3_3_2_02_01 none v p) transposes_S4x8x64x4096_S4x4096x8x64_0_3_1_2)
/-- and its head-wise normalisation. -/
def outR (o : FVec F S4x4096x8x64 .f32) (g : FVec F S512 .f32) : FVec F S16384x512 .bf16 :=
  truncf .bf16 (shapeCast _ (mulf (shapeCast _ (mulf o (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x3727C5AC#32)))))) shapeCasts_S4x4096x8x64_S4x4096x512) (broadcastInDim S4x4096x512 ![0, 1, 2] bcast_S1x1x512_S4x4096x512_0_1_2 (broadcastInDim S1x1x512 ![2] bcast_S512_S1x1x512_2 g))) shapeCasts_S4x4096x512_S16384x512) bitsLt_bf16_f32

variable (m : (ℓ : Loc nD τ sig) → Buf (Elt F) ℓ) (c : Dev nD)

/-- The reference is their composition. -/
theorem res_eq : Cert.Reference4Ideal.Value.res_main_v65 m c
    = outR (oR (m ((c.tc : Thread nD τ).loc main_arg2)) (softR (expR (zR (m ((c.tc : Thread nD τ).loc main_arg0)) (m ((c.tc : Thread nD τ).loc main_arg1)) (m ((c.tc : Thread nD τ).loc main_arg3)))))) (m ((c.tc : Thread nD τ).loc main_arg4)) := by
  unfold Cert.Reference4Ideal.Value.res_main_v65
  rfl

end Parts

/-! ## Each part at an index, over the extended reals -/

theorem chunk_word : ∀ n : Fin 4096, Scalar.select
      (IntOp.andi
        (IntOp.cmpi CmpIPredicate.ne (if BitVec.ofNat 32 n.val = 0 then 0 else if (BitVec.ofNat 32 n.val).msb = true then -1 else 1 : BitVec 32)
          (if (64#32 : BitVec 32) = 0 then 0 else if (64#32 : BitVec 32).msb = true then -1 else 1 : BitVec 32))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

/-- The chunk of position `n`, -/
theorem chunkR_apply (n : Fin 4096) : chunkR (ix1 n) = BitVec.ofNat 32 (n.val / 64) := by
  pointwise [chunkR]
  exact chunk_word n

theorem dist_word : ∀ n : Fin 8192, IntOp.addi (IntOp.minsi 128#32 (IntOp.maxsi 4294967168#32 (BitVec.ofNat 32 n.val - 4096#32))) 128#32
    = BitVec.ofNat 32 (min (n.val + 128 - 4096) 256) := by decide +kernel

theorem sub_word (a b : ℕ) (ha : a < 4096) (hb : b < 4096) : IntOp.subi (BitVec.ofNat 32 a) (BitVec.ofNat 32 b) = BitVec.ofNat 32 (a + 4096 - b) - 4096#32 := by
  show BitVec.ofNat 32 a - BitVec.ofNat 32 b = _
  apply BitVec.eq_of_toNat_eq
  simp only [BitVec.toNat_sub, BitVec.toNat_ofNat]
  omega

/-- the clipped distance, -/
theorem distR_apply (a b : Fin 4096) : distR (ix2 a b) = BitVec.ofNat 32 (min (a.val + 128 - b.val) 256) := by
  pointwise [distR]
  rw [sub_word _ _ a.isLt b.isLt]
  have key : ∀ n : ℕ, n < 8192 → IntOp.addi (IntOp.minsi 128#32 (IntOp.maxsi 4294967168#32 (BitVec.ofNat 32 n - 4096#32))) 128#32
      = BitVec.ofNat 32 (min (n + 128 - 4096) 256) := fun n hn => dist_word ⟨n, hn⟩
  refine (key (a.val + 4096 - b.val) (by omega)).trans (congrArg (BitVec.ofNat 32) ?_)
  omega

theorem idx_word : ∀ n : Fin 257, Scalar.select (IntOp.cmpi CmpIPredicate.slt (BitVec.ofNat 32 n.val) 0#32)
    (IntOp.addi (BitVec.ofNat 32 n.val) 257#32) (BitVec.ofNat 32 n.val) = BitVec.ofNat 32 n.val := by decide +kernel

theorem idxR_apply (a b : Fin 4096) : idxR (ix3 a b (0 : Fin 1)) = BitVec.ofNat 32 (min (a.val + 128 - b.val) 256) := by
  pointwise [idxR]
  rw [distR_apply]
  exact idx_word ⟨min (a.val + 128 - b.val) 256, by omega⟩

theorem mask_word : ∀ x y : Fin 64, IntOp.andi (IntOp.cmpi CmpIPredicate.sle (BitVec.ofNat 32 y.val) (BitVec.ofNat 32 x.val))
    (IntOp.cmpi CmpIPredicate.sge (BitVec.ofNat 32 y.val) (IntOp.subi (BitVec.ofNat 32 x.val) 8#32))
      = if y.val ≤ x.val ∧ x.val ≤ y.val + 8 then 1#1 else 0#1 := by decide +kernel

/-- the keys of the query's chunk and the eight before it, -/
theorem maskR_apply (a b : Fin 4096) : maskR (ix2 a b) = if b.val / 64 ≤ a.val / 64 ∧ a.val / 64 ≤ b.val / 64 + 8 then 1#1 else 0#1 := by
  pointwise [maskR]
  simp only [chunkR_apply]
  exact mask_word ⟨a.val / 64, by omega⟩ ⟨b.val / 64, by omega⟩

/-- the masked score, -/
theorem zR_apply (q k : FVec Ideal S4x4096x8x64 .f32) (rb : FVec Ideal S8x257 .f32) (b : Fin 4) (h : Fin 8) (s t : Fin 4096) :
    zR (F := Ideal) q k rb (ix4 b h s t)
      = bandZ (fun t => (∑ x : Fin 64, (show EReal from q (ix4 b s h x)) * k (ix4 b (⟨t % 4096, Nat.mod_lt _ (by norm_num)⟩ : Fin 4096) h x)) * Ideal.ofBits .f32 0x3E000000#32)
          (fun n => rb (ix2 h n)) s.val t.val := by
  have ht : (⟨t.val % 4096, Nat.mod_lt _ (by norm_num)⟩ : Fin 4096) = t := Fin.ext (Nat.mod_eq_of_lt t.isLt)
  pointwise [zR]
  rw [maskR_apply, gatherR rb idxR h s t ⟨min (s.val + 128 - t.val) 256, by omega⟩ (idxR_apply s t), bandZ]
  rw [ht]
  split_ifs with hc
  · rfl
  · exact neg_inf

theorem host_max {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = (Finset.univ.fold max (init (Shape.Idx.first hu)) fun k : Fin n3 => x (ix4 a b c k) : EReal) := by
  pointwise

/-- the greatest score of a query, -/
theorem topR_apply (z : FVec Ideal S4x8x4096x4096 .f32) (b : Fin 4) (h : Fin 8) (s : Fin 4096) :
    topR (F := Ideal) z (ix3 b h s) = (Finset.univ.fold max ⊥ fun k : Fin 4096 => z (ix4 b h s k) : EReal) := by
  rw [topR, ← neg_inf]
  exact host_max z _ _ _ b h s

theorem maxB_apply (x : FVec Ideal S4x8x4096 .f32) (b : Fin 4) (h : Fin 8) (s : Fin 4096) :
    maxB (F := Ideal) x (ix4 b h s (0 : Fin 1)) = x (ix3 b h s) := by
  pointwise [maxB]
  rw [neg_inf]
  exact max_eq_right bot_le

theorem maxR_apply (z : FVec Ideal S4x8x4096x4096 .f32) (b : Fin 4) (h : Fin 8) (s : Fin 4096) :
    maxR (F := Ideal) z (ix4 b h s (0 : Fin 1)) = (Finset.univ.fold max ⊥ fun k : Fin 4096 => z (ix4 b h s k) : EReal) := by
  rw [maxR, maxB_apply, topR_apply]

theorem softR_apply (z : FVec Ideal S4x8x4096x4096 .f32) (b : Fin 4) (h : Fin 8) (s t : Fin 4096) :
    softR (F := Ideal) (expR z) (ix4 b h s t)
      = (Ideal.div (Ideal.exp (z (ix4 b h s t) - maxR (F := Ideal) z (ix4 b h s (0 : Fin 1))))
          (∑ x : Fin 4096, Ideal.exp (z (ix4 b h s x) - maxR (F := Ideal) z (ix4 b h s (0 : Fin 1)))) : EReal) := by
  pointwise [softR, expR]

theorem oR_apply (v : FVec Ideal S4x4096x8x64 .f32) (p : FVec Ideal S4x8x4096x4096 .f32) (b : Fin 4) (h : Fin 8) (s : Fin 4096) (d : Fin 64) :
    oR (F := Ideal) v p (ix4 b s h d) = (∑ k : Fin 4096, v (ix4 b k h d) * p (ix4 b h s k) : EReal) := by
  pointwise [oR]

theorem outR_apply (o : FVec Ideal S4x4096x8x64 .f32) (g : FVec Ideal S512 .f32) (b : Fin 4) (s : Fin 4096) (h : Fin 8) (d : Fin 64) :
    outR (F := Ideal) o g (ix2 (⟨4096 * b.val + s.val, by omega⟩ : Fin 16384) (⟨64 * h.val + d.val, by omega⟩ : Fin 512))
      = headNorm (fun d => o (ix4 b s h d)) (g (ix1 (⟨64 * h.val + d.val, by omega⟩ : Fin 512))) d := by
  pointwise [outR]
  rfl

/-- The reference's result for query `s` of stream `b`, head `h`. -/
theorem ref_apply (q k v : FVec Ideal S4x4096x8x64 .f32) (rb : FVec Ideal S8x257 .f32) (g : FVec Ideal S512 .f32) (b : Fin 4) (s : Fin 4096) (h : Fin 8) (d : Fin 64) :
    outR (F := Ideal) (oR v (softR (expR (zR q k rb)))) g (ix2 (⟨4096 * b.val + s.val, by omega⟩ : Fin 16384) (⟨64 * h.val + d.val, by omega⟩ : Fin 512))
      = headNorm (fullRow (fun t => zR (F := Ideal) q k rb (ix4 b h s t)) (fun t d => v (ix4 b t h d))
          (Finset.univ.fold max ⊥ fun t : Fin 4096 => zR (F := Ideal) q k rb (ix4 b h s t))) (g (ix1 (⟨64 * h.val + d.val, by omega⟩ : Fin 512))) d := by
  rw [outR_apply]
  refine congrArg (fun o => headNorm o _ d) (funext fun d => ?_)
  rw [oR_apply, fullRow]
  refine Finset.sum_congr rfl fun t _ => ?_
  rw [softR_apply, maxR_apply]

end Cert.Reference4Ideal.Hand
-- ==== Proof.V4.Value.lean ====
/-
  The equation of the band attention: the kernel's result array, block by block, is the reference's result.
-/
module

public import proofs.«01_k».proof.Proof.V4.Entry
public import proofs.«01_k».proof.Proof.V4.Ref
public import proofs.«01_k».proof.Proof.V.Value
public import proofs.«01_k».proof.Proof.Gen.Kernel4Ideal.Value
public import proofs.«01_k».proof.Defs

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Finset Cert.Band
open Idealize.SL.Sem
open Idealize.ShloMosaic.Pipeline (Dat)
open Cert.KernelIdeal.Hand (sum_scale scale_eq)
open Cert.Reference4Ideal.Hand (zR zR_apply oR softR expR outR ref_apply)

/-- The scale may be taken into the queries. -/
theorem scaled_sum (f g : Fin 64 → EReal) :
    ∑ x, f x * Ideal.ofBits .f32 0x3E000000#32 * g x = (∑ x, f x * g x) * Ideal.ofBits .f32 0x3E000000#32 := by
  have h0 : (0 : EReal) ≤ Ideal.ofBits .f32 0x3E000000#32 := by rw [scale_eq]; exact_mod_cast (by norm_num : (0 : ℝ) ≤ 1 / 8)
  have h1 : (Ideal.ofBits .f32 0x3E000000#32 : EReal) ≠ ⊤ := by rw [scale_eq]; exact EReal.coe_ne_top _
  rw [sum_scale _ h0 h1]
  exact Finset.sum_congr rfl fun x _ => mul_right_comm _ _ _

variable (m : (ℓ : Loc nD τ sig) → Buf (Elt Ideal) ℓ) (c : Dev nD)

/-! ## Rows with equal parts -/

theorem fullRow_congr {z z' : Fin 4096 → EReal} {v v' : Fin 4096 → Fin 64 → EReal} (hz : ∀ n, z n = z' n) (hv : ∀ n d, v n d = v' n d) (d : Fin 64) :
    fullRow z v (univ.fold max ⊥ z) d = fullRow z' v' (univ.fold max ⊥ z') d := by
  obtain rfl : z = z' := funext hz
  obtain rfl : v = v' := funext fun n => funext (hv n)
  rfl

theorem blockRow_congr (i : grid0.Coords) (x0 x1 x2 x3 x4 x5 x6 : Vec Ideal S256x512 .bf16) (x7 : Vec Ideal S8x3x256x256 .f32) (x8 : Vec Ideal S1x512 .f32) (h : Fin 8)
    (r : Fin 256) (d : Fin 64) (w0 w1 w2 : Fin 256 → EReal) (u0 u1 u2 : Fin 256 → Fin 64 → EReal) (g : EReal) (h0 : blockW 2 i x0 x1 x7 h 0 r = w0)
    (h1 : blockW 1 i x0 x2 x7 h 1 r = w1) (h2 : blockW 0 i x0 x3 x7 h 2 r = w2)
    (e0 : ∀ (n : Fin 256) (d : Fin 64), x4 (ix2 n (⟨64 * h.val + d.val, by omega⟩ : Fin 512)) = u0 n d)
    (e1 : ∀ (n : Fin 256) (d : Fin 64), x5 (ix2 n (⟨64 * h.val + d.val, by omega⟩ : Fin 512)) = u1 n d)
    (e2 : ∀ (n : Fin 256) (d : Fin 64), x6 (ix2 n (⟨64 * h.val + d.val, by omega⟩ : Fin 512)) = u2 n d)
    (eg : x8 (ix2 (0 : Fin 1) (⟨64 * h.val + d.val, by omega⟩ : Fin 512)) = g) :
    blockRow i x0 x1 x2 x3 x4 x5 x6 x7 x8 h r d = headNorm (winRow w0 w1 w2 u0 u1 u2 (univ.fold max ⊥ fun n => max (max (w0 n) (w1 n)) (w2 n))) g d := by
  subst h0 h1 h2 eg
  obtain rfl : (fun (n : Fin 256) (d : Fin 64) => x4 (ix2 n (⟨64 * h.val + d.val, by omega⟩ : Fin 512))) = u0 := funext fun n => funext (e0 n)
  obtain rfl : (fun (n : Fin 256) (d : Fin 64) => x5 (ix2 n (⟨64 * h.val + d.val, by omega⟩ : Fin 512))) = u1 := funext fun n => funext (e1 n)
  obtain rfl : (fun (n : Fin 256) (d : Fin 64) => x6 (ix2 n (⟨64 * h.val + d.val, by omega⟩ : Fin 512))) = u2 := funext fun n => funext (e2 n)
  rfl

/-! ## A grid point -/

section Point

variable (q k v : FVec Ideal S4x4096x8x64 .f32) (rb : FVec Ideal S8x257 .f32) (g : FVec Ideal S512 .f32)
variable (hq : m ((c : Thread nD τ).loc main_arg0) = q) (hk : m ((c : Thread nD τ).loc main_arg1) = k) (hv : m ((c : Thread nD τ).loc main_arg2) = v)
  (hb : m ((c : Thread nD τ).loc main_arg3) = rb) (hg : m ((c : Thread nD τ).loc main_arg4) = g)

/-- The product of query `s` with key `n`, over all positions. -/
def scoreOf (b : Fin 4) (h : Fin 8) (s : Fin 4096) (n : ℕ) : EReal :=
  (∑ x : Fin 64, (show EReal from q (ix4 b s h x)) * k (ix4 b (⟨n % 4096, Nat.mod_lt _ (by norm_num)⟩ : Fin 4096) h x)) * Ideal.ofBits .f32 0x3E000000#32

/-- The masked scores of a query. -/
def zOf (b : Fin 4) (h : Fin 8) (s : Fin 4096) : ℕ → EReal :=
  bandZ (scoreOf q k b h s) (fun n => rb (ix2 h n)) s.val

/-- Product and table together are the masked score. -/
theorem masked_eq (b : Fin 4) (h : Fin 8) (i : Fin 16) (w : Fin 3) (r n : Fin 256) (p : Fin 4096) (hp : p.val + 512 = 256 * i.val + 256 * w.val + n.val) :
    (∑ x : Fin 64, (show EReal from q (ix4 b (⟨256 * i.val + r.val, by omega⟩ : Fin 4096) h x)) * k (ix4 b p h x)) * Ideal.ofBits .f32 0x3E000000#32 + biasK (F := Ideal) rb (ix4 h w r n)
      = zOf q k rb b h (⟨256 * i.val + r.val, by omega⟩ : Fin 4096) p.val := by
  have e : (⟨p.val % 4096, Nat.mod_lt _ (by norm_num)⟩ : Fin 4096) = p := Fin.ext (Nat.mod_eq_of_lt p.isLt)
  rw [biasK_apply, zOf, bandZ, scoreOf, e]
  dsimp only
  by_cases hc : (256 * w.val + n.val) / 64 ≤ r.val / 64 + 8 ∧ r.val / 64 ≤ (256 * w.val + n.val) / 64
  · rw [if_pos hc, if_pos (by omega)]
    refine congrArg (fun y => _ + (show EReal from rb (ix2 h y))) (Fin.ext ?_)
    dsimp only
    omega
  · rw [if_neg hc, if_neg (by omega)]
    exact EReal.add_bot _

variable (t : Fin cfg0.N) (b : Fin 4) (i : Fin 16) (ht : t.val = 16 * b.val + i.val)

section Row

include hq hk hb ht

/-- A window's score at the grid point is the masked score of its key. -/
theorem window_eq (h : Fin 8) (w : Fin 3) (hw : 2 ≤ i.val + w.val) (xk : Vec Ideal S256x512 .bf16)
    (hx : ∀ (n : Fin 256) (d : Fin 64), xk (ix2 n (⟨64 * h.val + d.val, by omega⟩ : Fin 512)) = k (ix4 b (⟨256 * (i.val + w.val - 2) + n.val, by omega⟩ : Fin 4096) h d)) (r n : Fin 256) :
    (∑ x : Fin 64, (show EReal from iblk m c 0 t (ix2 r (⟨64 * h.val + x.val, by omega⟩ : Fin 512))) * xk (ix2 n (⟨64 * h.val + x.val, by omega⟩ : Fin 512))) + iblk m c 7 t (ix4 h w r n)
      = zOf q k rb b h (⟨256 * i.val + r.val, by omega⟩ : Fin 4096) (256 * (i.val + w.val - 2) + n.val) := by
  rw [bias_blk, bias_entry, hb]
  simp only [q_blk m c t b i ht, hx, hq]
  refine (congrArg (fun y => y + biasK (F := Ideal) rb (ix4 h w r n)) (scaled_sum (fun x => q (ix4 b (⟨256 * i.val + r.val, by omega⟩ : Fin 4096) h x))
    (fun x => k (ix4 b (⟨256 * (i.val + w.val - 2) + n.val, by omega⟩ : Fin 4096) h x)))).trans ?_
  exact masked_eq q k rb b h i w r n (⟨256 * (i.val + w.val - 2) + n.val, by omega⟩ : Fin 4096) (by dsimp only; omega)

theorem w0_eq (h : Fin 8) (r : Fin 256) : blockW 2 (grid0.coords t) (iblk m c 0 t) (iblk m c 1 t) (iblk m c 7 t) h 0 r
    = win (zOf q k rb b h (⟨256 * i.val + r.val, by omega⟩ : Fin 4096)) i.val 0 := by
  funext n
  rw [blockW, win, coord1, show t.val % 16 = i.val by omega]
  by_cases hi : 2 ≤ i.val
  · rw [if_pos hi, if_pos (by omega)]
    exact window_eq m c q k rb hq hk hb t b i ht h 0 hi (iblk m c 1 t) (fun n d => (k0_blk m c t b i ht n h d).trans (congrFun hk _)) r n
  · rw [if_neg hi, if_neg (by omega)]

theorem w1_eq (h : Fin 8) (r : Fin 256) : blockW 1 (grid0.coords t) (iblk m c 0 t) (iblk m c 2 t) (iblk m c 7 t) h 1 r
    = win (zOf q k rb b h (⟨256 * i.val + r.val, by omega⟩ : Fin 4096)) i.val 1 := by
  funext n
  rw [blockW, win, coord1, show t.val % 16 = i.val by omega]
  by_cases hi : 1 ≤ i.val
  · rw [if_pos hi, if_pos (by omega)]
    exact window_eq m c q k rb hq hk hb t b i ht h 1 (by show 2 ≤ i.val + 1; omega) (iblk m c 2 t) (fun n d => (k1_blk m c t b i ht n h d).trans (congrFun hk _)) r n
  · rw [if_neg hi, if_neg (by omega)]

theorem w2_eq (h : Fin 8) (r : Fin 256) : blockW 0 (grid0.coords t) (iblk m c 0 t) (iblk m c 3 t) (iblk m c 7 t) h 2 r
    = win (zOf q k rb b h (⟨256 * i.val + r.val, by omega⟩ : Fin 4096)) i.val 2 := by
  funext n
  rw [blockW, win, if_pos (Nat.zero_le _), if_pos (by omega)]
  exact window_eq m c q k rb hq hk hb t b i ht h 2 (by show 2 ≤ i.val + 2; omega) (iblk m c 3 t) (fun n d => (k2_blk m c t b i ht n h d).trans (congrFun hk _)) r n

include hv hg in
/-- A row of the grid point is the reference's row. -/
theorem point_eq (h : Fin 8) (r : Fin 256) (d : Fin 64) :
    blockRow (grid0.coords t) (iblk m c 0 t) (iblk m c 1 t) (iblk m c 2 t) (iblk m c 3 t) (iblk m c 4 t) (iblk m c 5 t) (iblk m c 6 t) (iblk m c 7 t) (iblk m c 8 t) h r d
      = outR (F := Ideal) (oR v (softR (expR (zR q k rb)))) g (ix2 (⟨4096 * b.val + (⟨256 * i.val + r.val, by omega⟩ : Fin 4096).val, by dsimp only; omega⟩ : Fin 16384) (⟨64 * h.val + d.val, by omega⟩ : Fin 512)) := by
  have hz : ∀ p, ¬ (p / 256 ≤ i.val ∧ i.val ≤ p / 256 + 2) → zOf q k rb b h (⟨256 * i.val + r.val, by omega⟩ : Fin 4096) p = ⊥ := fun p hp =>
    bandZ_out _ _ _ p i.val (by dsimp only; omega) hp
  have hR : ∀ p : Fin 4096, zR (F := Ideal) q k rb (ix4 b h (⟨256 * i.val + r.val, by omega⟩ : Fin 4096) p) = zOf q k rb b h (⟨256 * i.val + r.val, by omega⟩ : Fin 4096) p.val := fun p =>
    zR_apply q k rb b h _ p
  refine (blockRow_congr (grid0.coords t) (iblk m c 0 t) (iblk m c 1 t) (iblk m c 2 t) (iblk m c 3 t) (iblk m c 4 t) (iblk m c 5 t) (iblk m c 6 t) (iblk m c 7 t) (iblk m c 8 t) h r d
    _ _ _ (fun n d => v (ix4 b (⟨256 * (i.val - 2) + n.val, by omega⟩ : Fin 4096) h d)) (fun n d => v (ix4 b (⟨256 * (i.val - 1) + n.val, by omega⟩ : Fin 4096) h d))
    (fun n d => v (ix4 b (⟨(256 * i.val + n.val) % 4096, Nat.mod_lt _ (by norm_num)⟩ : Fin 4096) h d)) (g (ix1 (⟨64 * h.val + d.val, by omega⟩ : Fin 512)))
    (w0_eq m c q k rb hq hk hb t b i ht h r) (w1_eq m c q k rb hq hk hb t b i ht h r) (w2_eq m c q k rb hq hk hb t b i ht h r)
    (fun n d => (v0_blk m c t b i ht n h d).trans (congrFun hv _)) (fun n d => (v1_blk m c t b i ht n h d).trans (congrFun hv _))
    (fun n d => (v2_blk m c t b i ht n h d).trans ((congrFun hv _).trans (congrArg (fun y => v (ix4 b y h d)) (Fin.ext (by dsimp only; omega)))))
    ((g_blk m c t _).trans ((g_entry m c _).trans (congrFun hg _)))).trans ?_
  refine (row_eq (zOf q k rb b h (⟨256 * i.val + r.val, by omega⟩ : Fin 4096)) (fun n d => v (ix4 b (⟨n % 4096, Nat.mod_lt _ (by norm_num)⟩ : Fin 4096) h d)) i.val i.isLt hz
    (fun n d => v (ix4 b (⟨256 * (i.val - 2) + n.val, by omega⟩ : Fin 4096) h d)) (fun n d => v (ix4 b (⟨256 * (i.val - 1) + n.val, by omega⟩ : Fin 4096) h d))
    (fun _ n d => congrArg (fun y => v (ix4 b y h d)) (Fin.ext (by dsimp only; omega))) (fun _ n d => congrArg (fun y => v (ix4 b y h d)) (Fin.ext (by dsimp only; omega))) _ _ d).trans ?_
  refine Eq.trans ?_ (ref_apply q k v rb g b (⟨256 * i.val + r.val, by omega⟩ : Fin 4096) h d).symm
  rw [max_band (zOf q k rb b h (⟨256 * i.val + r.val, by omega⟩ : Fin 4096)) i.val i.isLt hz]
  exact congrArg (fun o => headNorm o (g (ix1 (⟨64 * h.val + d.val, by omega⟩ : Fin 512))) d) (funext fun d => fullRow_congr (fun p => (hR p).symm)
    (fun p d => congrArg (fun y => v (ix4 b y h d)) (Fin.ext (Nat.mod_eq_of_lt p.isLt))) d)

end Row

include hq hk hv hb hg in
/-- The result array at the end: the reference's result. -/
theorem array9 : (dats (F := Ideal) m 0 c).arrAt 9 cfg0.N = outR (F := Ideal) (oR v (softR (expR (zR q k rb)))) g := by
  refine (dats m 0 c).arrAt_eq_of_covers 9 _ (by decide +kernel) fun t hf y => ?_
  blk_simp
  rw [after0_9]
  have htl := t_lt t
  have hy1 : (y 1).val < 512 := (y 1).isLt
  have hy : y = ix2 (⟨(y 0).val, (y 0).isLt⟩ : Fin 256) (⟨64 * (⟨(y 1).val / 64, by omega⟩ : Fin 8).val + (⟨(y 1).val % 64, by omega⟩ : Fin 64).val, by dsimp only; omega⟩ : Fin 512) := by
    funext a; fin_cases a
    · rfl
    · exact Fin.ext (Nat.div_add_mod _ _).symm
  refine (congrArg (out0_9 (F := Ideal) (grid0.coords t) (iblk m c 0 t) (iblk m c 1 t) (iblk m c 2 t) (iblk m c 3 t) (iblk m c 4 t) (iblk m c 5 t) (iblk m c 6 t) (iblk m c 7 t) (iblk m c 8 t)) hy).trans
    ((out_apply (grid0.coords t) (iblk m c 0 t) (iblk m c 1 t) (iblk m c 2 t) (iblk m c 3 t) (iblk m c 4 t) (iblk m c 5 t) (iblk m c 6 t) (iblk m c 7 t) (iblk m c 8 t) _ _ _).trans
      ((point_eq m c q k v rb g hq hk hv hb hg t (⟨t.val / 16, by omega⟩ : Fin 4) (⟨t.val % 16, by omega⟩ : Fin 16) (Nat.div_add_mod _ _).symm _ _ _).trans ?_))
  refine congrArg (outR (F := Ideal) (oR v (softR (expR (zR q k rb)))) g) ?_
  have hy0 : (y 0).val < 256 := (y 0).isLt
  have hm : 4096 * (t.val / 16) + (256 * (t.val % 16) + (y 0).val) = 256 * t.val + (y 0).val := by omega
  have hd : 64 * ((y 1).val / 64) + (y 1).val % 64 = (y 1).val := Nat.div_add_mod _ _
  refine (congrArg₂ (fun (a : Fin 16384) (e : Fin 512) => ix2 a e) (Fin.ext hm) (Fin.ext hd) : _ = ix2 (⟨256 * t.val + (y 0).val, by omega⟩ : Fin 16384) (⟨(y 1).val, hy1⟩ : Fin 512)).trans ?_
  blk_ext [idx9 t]

end Point

end Cert.Kernel4Ideal.Hand

namespace Cert.Proof

open Idealize.ShloMosaic Idealize.SL.Sem

open Idealize.ShloMosaic.TcCoe in
/-- The band attention and its reference, over the extended reals, end with equal results and unchanged arguments. -/
theorem equal4 : Cert.algebraic_Kernel4Ideal_Reference4Ideal := by
  intro m ρ m' ρ' _ hargs
  refine ⟨fun c => (Cert.Kernel4Ideal.Gen.dats (F := Idealize.ShloMosaic.Ideal) m 0 c).arrAt 9 Cert.Kernel4Ideal.cfg0.N,
    Cert.Kernel4Ideal.Value.run_blocks m ρ, ?_⟩
  refine (θ_run Cert.Reference4Ideal.defs _ _).mono (fun r h c => ⟨(h c).1.trans ?_, (h c).2⟩) (Cert.Reference4Ideal.Value.run (F := Idealize.ShloMosaic.Ideal) m' ρ')
  obtain ⟨h0, h1, h2, h3, h4⟩ := hargs c
  exact (Cert.Reference4Ideal.Hand.res_eq m' c).trans
    (Cert.Kernel4Ideal.Hand.array9 m c _ _ _ _ _ h0.symm h1.symm h2.symm h3.symm h4.symm).symm

end Cert.Proof
-- ==== Proof.V5.Point.lean ====
/-
  What the sample's projection leaves in each of its ten blocks, read at an index: a sum of products, for the queries times
  1/8.
-/
module

public import proofs.«01_k».proof.Proof.Gen.Kernel5Ideal.Frame
public import Idealize.ShloMosaic.Lib.Pointwise
public import Idealize.ShloMosaic.Lib.Pipeline.ValueKit

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Finset

/-- A row of the block against a column of the weights. -/
def entry (x0 : Vec Ideal S512x1024 .f32) (x1 : Vec Ideal S1024x3072 .bf16) (r : Fin 512) (l : Fin 3072) : EReal :=
  ∑ k : Fin 1024, x0 (ix2 r k) * x1 (ix2 k l)

variable (x0 : Vec Ideal S512x1024 .f32) (x1 : Vec Ideal S1024x3072 .bf16)

/-- The queries of the first mixer. -/
theorem out2_apply (r l : Fin 512) : out0_2 (F := Ideal) x0 x1 (ix2 r l) = (entry x0 x1 r ⟨0 + l.val, by omega⟩ * Ideal.ofBits .f32 1040187392#32 : EReal) := by
  unfold_out out0_2
  rw [View.canon_unit_zero (by decide)]
  pointwise [k0_pay6, k0_pay5, entry]

/-- The keys of the first mixer. -/
theorem out3_apply (r l : Fin 512) : out0_3 (F := Ideal) x0 x1 (ix2 r l) = entry x0 x1 r ⟨512 + l.val, by omega⟩ := by
  unfold_out out0_3
  rw [View.canon_unit_zero (by decide)]
  pointwise [k0_pay7, k0_pay5, entry]

/-- The values of the first mixer. -/
theorem out4_apply (r l : Fin 512) : out0_4 (F := Ideal) x0 x1 (ix2 r l) = entry x0 x1 r ⟨1024 + l.val, by omega⟩ := by
  unfold_out out0_4
  rw [View.canon_unit_zero (by decide)]
  pointwise [k0_pay9, k0_pay5, entry]

/-- The same keys, rounded. -/
theorem out5_apply (r l : Fin 512) : out0_5 (F := Ideal) x0 x1 (ix2 r l) = entry x0 x1 r ⟨512 + l.val, by omega⟩ := by
  unfold_out out0_5
  rw [View.canon_unit_zero (by decide)]
  pointwise [k0_pay8, k0_pay7, k0_pay5, entry]

/-- The same values, rounded. -/
theorem out6_apply (r l : Fin 512) : out0_6 (F := Ideal) x0 x1 (ix2 r l) = entry x0 x1 r ⟨1024 + l.val, by omega⟩ := by
  unfold_out out0_6
  rw [View.canon_unit_zero (by decide)]
  pointwise [k0_pay10, k0_pay9, k0_pay5, entry]

/-- The queries of the second mixer. -/
theorem out7_apply (r l : Fin 512) : out0_7 (F := Ideal) x0 x1 (ix2 r l) = (entry x0 x1 r ⟨1536 + l.val, by omega⟩ * Ideal.ofBits .f32 1040187392#32 : EReal) := by
  unfold_out out0_7
  rw [View.canon_unit_zero (by decide)]
  pointwise [k0_pay11, k0_pay5, entry]

/-- The keys of the second mixer. -/
theorem out8_apply (r l : Fin 512) : out0_8 (F := Ideal) x0 x1 (ix2 r l) = entry x0 x1 r ⟨2048 + l.val, by omega⟩ := by
  unfold_out out0_8
  rw [View.canon_unit_zero (by decide)]
  pointwise [k0_pay1, k0_pay5, entry]

/-- The values of the second mixer. -/
theorem out9_apply (r l : Fin 512) : out0_9 (F := Ideal) x0 x1 (ix2 r l) = entry x0 x1 r ⟨2560 + l.val, by omega⟩ := by
  unfold_out out0_9
  rw [View.canon_unit_zero (by decide)]
  pointwise [k0_pay3, k0_pay5, entry]

/-- The same keys, rounded. -/
theorem out10_apply (r l : Fin 512) : out0_10 (F := Ideal) x0 x1 (ix2 r l) = entry x0 x1 r ⟨2048 + l.val, by omega⟩ := by
  unfold_out out0_10
  rw [View.canon_unit_zero (by decide)]
  pointwise [k0_pay2, k0_pay1, k0_pay5, entry]

/-- The same values, rounded. -/
theorem out11_apply (r l : Fin 512) : out0_11 (F := Ideal) x0 x1 (ix2 r l) = entry x0 x1 r ⟨2560 + l.val, by omega⟩ := by
  unfold_out out0_11
  rw [View.canon_unit_zero (by decide)]
  pointwise [k0_pay4, k0_pay3, k0_pay5, entry]

end Cert.Kernel5Ideal.Hand

end
-- ==== Proof.V5.Ref.lean ====
/-
  The reference of the sample's projection: its ten results read at an index.
-/
module

public import proofs.«01_k».proof.Proof.Gen.Reference5Ideal.Run
public import Idealize.ShloMosaic.Lib.Pointwise

@[expose] public section

set_option maxRecDepth 16384

noncomputable section

namespace Cert.Reference5Ideal.Hand

open Cert.Reference5Ideal Cert.Reference5Ideal.Gen
open Idealize.ShloMosaic Idealize.ShloMosaic.TcCoe Idealize.ShloMosaic.Tactic
open Finset

variable (x : FVec Ideal S16x32x1024 .f32) (w : FVec Ideal S1024x3072 .f32)

/-- A row of the flattened input, `n` over stream and position, against a column of the weights. -/
def proj (n : Fin 512) (l : Fin 3072) : EReal :=
  ∑ k : Fin 1024, x (ix3 (⟨n.val / 32, by omega⟩ : Fin 16) (⟨n.val % 32, by omega⟩ : Fin 32) k) * w (ix2 k l)

/-- The queries of the first mixer. -/
def y2 : FVec Ideal S512x512 .bf16 := truncf .bf16 (mulf (shapeCast _ (extractStridedSlice S16x32x512 ![0, 0, 0] (Host.dotGeneral dot_S16x32x1024_S1024x3072_S16x32x3072_2_0_01_1_n_n none x w) slices_S16x32x3072_S16x32x512_0_0_0) shapeCasts_S16x32x512_S512x512) (broadcastInDim S512x512 ![] bcast_S_S512x512 (constant S_ .f32 0x3E000000#32))) bitsLt_bf16_f32

theorem y2_apply (n l : Fin 512) : y2 x w (ix2 n l) = (proj x w n ⟨0 + l.val, by omega⟩ * Ideal.ofBits .f32 1040187392#32 : EReal) := by
  pointwise [y2, proj]

/-- The keys of the first mixer. -/
def y3 : FVec Ideal S512x512 .f32 := shapeCast _ (extractStridedSlice S16x32x512 ![0, 0, 512] (Host.dotGeneral dot_S16x32x1024_S1024x3072_S16x32x3072_2_0_01_1_n_n none x w) slices_S16x32x3072_S16x32x512_0_0_512) shapeCasts_S16x32x512_S512x512

theorem y3_apply (n l : Fin 512) : y3 x w (ix2 n l) = proj x w n ⟨512 + l.val, by omega⟩ := by
  pointwise [y3, proj]

/-- The values of the first mixer. -/
def y4 : FVec Ideal S512x512 .f32 := shapeCast _ (extractStridedSlice S16x32x512 ![0, 0, 1024] (Host.dotGeneral dot_S16x32x1024_S1024x3072_S16x32x3072_2_0_01_1_n_n none x w) slices_S16x32x3072_S16x32x512_0_0_1024) shapeCasts_S16x32x512_S512x512

theorem y4_apply (n l : Fin 512) : y4 x w (ix2 n l) = proj x w n ⟨1024 + l.val, by omega⟩ := by
  pointwise [y4, proj]

/-- The same keys, rounded. -/
def y5 : FVec Ideal S512x512 .bf16 := truncf .bf16 (shapeCast _ (extractStridedSlice S16x32x512 ![0, 0, 512] (Host.dotGeneral dot_S16x32x1024_S1024x3072_S16x32x3072_2_0_01_1_n_n none x w) slices_S16x32x3072_S16x32x512_0_0_512) shapeCasts_S16x32x512_S512x512) bitsLt_bf16_f32

theorem y5_apply (n l : Fin 512) : y5 x w (ix2 n l) = proj x w n ⟨512 + l.val, by omega⟩ := by
  pointwise [y5, proj]

/-- The same values, rounded. -/
def y6 : FVec Ideal S512x512 .bf16 := truncf .bf16 (shapeCast _ (extractStridedSlice S16x32x512 ![0, 0, 1024] (Host.dotGeneral dot_S16x32x1024_S1024x3072_S16x32x3072_2_0_01_1_n_n none x w) slices_S16x32x3072_S16x32x512_0_0_1024) shapeCasts_S16x32x512_S512x512) bitsLt_bf16_f32

theorem y6_apply (n l : Fin 512) : y6 x w (ix2 n l) = proj x w n ⟨1024 + l.val, by omega⟩ := by
  pointwise [y6, proj]

/-- The queries of the second mixer. -/
def y7 : FVec Ideal S512x512 .bf16 := truncf .bf16 (mulf (shapeCast _ (extractStridedSlice S16x32x512 ![0, 0, 1536] (Host.dotGeneral dot_S16x32x1024_S1024x3072_S16x32x3072_2_0_01_1_n_n none x w) slices_S16x32x3072_S16x32x512_0_0_1536) shapeCasts_S16x32x512_S512x512) (broadcastInDim S512x512 ![] bcast_S_S512x512 (constant S_ .f32 0x3E000000#32))) bitsLt_bf16_f32

theorem y7_apply (n l : Fin 512) : y7 x w (ix2 n l) = (proj x w n ⟨1536 + l.val, by omega⟩ * Ideal.ofBits .f32 1040187392#32 : EReal) := by
  pointwise [y7, proj]

/-- The keys of the second mixer. -/
def y8 : FVec Ideal S512x512 .f32 := shapeCast _ (extractStridedSlice S16x32x512 ![0, 0, 2048] (Host.dotGeneral dot_S16x32x1024_S1024x3072_S16x32x3072_2_0_01_1_n_n none x w) slices_S16x32x3072_S16x32x512_0_0_2048) shapeCasts_S16x32x512_S512x512

theorem y8_apply (n l : Fin 512) : y8 x w (ix2 n l) = proj x w n ⟨2048 + l.val, by omega⟩ := by
  pointwise [y8, proj]

/-- The values of the second mixer. -/
def y9 : FVec Ideal S512x512 .f32 := shapeCast _ (extractStridedSlice S16x32x512 ![0, 0, 2560] (Host.dotGeneral dot_S16x32x1024_S1024x3072_S16x32x3072_2_0_01_1_n_n none x w) slices_S16x32x3072_S16x32x512_0_0_2560) shapeCasts_S16x32x512_S512x512

theorem y9_apply (n l : Fin 512) : y9 x w (ix2 n l) = proj x w n ⟨2560 + l.val, by omega⟩ := by
  pointwise [y9, proj]

/-- The same keys, rounded. -/
def y10 : FVec Ideal S512x512 .bf16 := truncf .bf16 (shapeCast _ (extractStridedSlice S16x32x512 ![0, 0, 2048] (Host.dotGeneral dot_S16x32x1024_S1024x3072_S16x32x3072_2_0_01_1_n_n none x w) slices_S16x32x3072_S16x32x512_0_0_2048) shapeCasts_S16x32x512_S512x512) bitsLt_bf16_f32

theorem y10_apply (n l : Fin 512) : y10 x w (ix2 n l) = proj x w n ⟨2048 + l.val, by omega⟩ := by
  pointwise [y10, proj]

/-- The same values, rounded. -/
def y11 : FVec Ideal S512x512 .bf16 := truncf .bf16 (shapeCast _ (extractStridedSlice S16x32x512 ![0, 0, 2560] (Host.dotGeneral dot_S16x32x1024_S1024x3072_S16x32x3072_2_0_01_1_n_n none x w) slices_S16x32x3072_S16x32x512_0_0_2560) shapeCasts_S16x32x512_S512x512) bitsLt_bf16_f32

theorem y11_apply (n l : Fin 512) : y11 x w (ix2 n l) = proj x w n ⟨2560 + l.val, by omega⟩ := by
  pointwise [y11, proj]

end Cert.Reference5Ideal.Hand

end
-- ==== Proof.V5.Value.lean ====
/-
  The equations of the sample's projection: the kernel's ten result arrays are the reference's results.
-/
module

public import proofs.«01_k».proof.Proof.V5.Point
public import proofs.«01_k».proof.Proof.V5.Ref
public import proofs.«01_k».proof.Proof.Gen.Kernel5Ideal.Value
public import proofs.«01_k».proof.Defs
public import Idealize.ShloMosaic.Lib.Claim

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Finset
open Idealize.SL.Sem
open Idealize.ShloMosaic.Pipeline (Dat)
open Cert.Reference5Ideal.Hand (proj)

variable (m : (ℓ : Loc nD τ sig) → Buf (Elt Ideal) ℓ) (c : Dev nD)

/-- Each window is one block, its whole array. -/
theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel

theorem x_entry (n : Fin 512) (k : Fin 1024) :
    V m c main_v0 (ix2 n k) = m ((c : Thread nD τ).loc main_arg0) (ix3 (⟨n.val / 32, by omega⟩ : Fin 16) (⟨n.val % 32, by omega⟩ : Fin 32) k) := by
  entry_read
  pointwise

theorem w_entry (k : Fin 1024) (l : Fin 3072) : V m c main_v1 (ix2 k l) = m ((c : Thread nD τ).loc main_arg1) (ix2 k l) := by
  entry_read
  pointwise

theorem x_blk (t : Fin cfg0.N) (r : Fin 512) (k : Fin 1024) : iblk m c 0 t (ix2 r k) = V m c main_v0 (ix2 r k) := by
  blk_ext [iblk, idx0 t]

theorem w_blk (t : Fin cfg0.N) (k : Fin 1024) (l : Fin 3072) : iblk m c 1 t (ix2 k l) = V m c main_v1 (ix2 k l) := by
  blk_ext [iblk, idx1 t]

variable (x : FVec Ideal S16x32x1024 .f32) (w : FVec Ideal S1024x3072 .f32)
  (h0 : m ((c : Thread nD τ).loc main_arg0) = x) (h1 : m ((c : Thread nD τ).loc main_arg1) = w)

include h0 h1

/-- A row of the block against a column of the weights is a row of the flattened input against it. -/
theorem entry_eq (t : Fin cfg0.N) (r : Fin 512) (l : Fin 3072) : entry (iblk m c 0 t) (iblk m c 1 t) r l = proj x w r l :=
  Finset.sum_congr rfl fun k _ => congrArg₂ (fun a b => (show EReal from a * b))
    ((x_blk m c t r k).trans ((x_entry m c _ k).trans (congrFun h0 _))) ((w_blk m c t k l).trans ((w_entry m c k l).trans (congrFun h1 _)))

/-- The array of the queries of the first mixer is the reference's. -/
theorem array2 : (dats (F := Ideal) m 0 c).arrAt 2 cfg0.N = Cert.Reference5Ideal.Hand.y2 x w := by
  refine (dats m 0 c).arrAt_eq_of_covers 2 _ (by decide +kernel) fun t hf y => ?_
  blk_simp
  rw [after0_2]
  have hy : y = ix2 (⟨(y 0).val, (y 0).isLt⟩ : Fin 512) (⟨(y 1).val, (y 1).isLt⟩ : Fin 512) := by
    funext a; fin_cases a <;> rfl
  refine (congrArg (out0_2 (F := Ideal) (iblk m c 0 t) (iblk m c 1 t)) hy).trans ((out2_apply (iblk m c 0 t) (iblk m c 1 t) _ _).trans
    ((congrArg (fun a : EReal => a * Ideal.ofBits .f32 1040187392#32) (entry_eq m c x w h0 h1 t _ _)).trans ((Cert.Reference5Ideal.Hand.y2_apply x w _ _).symm.trans (congrArg _ ?_))))
  blk_ext [idx2 t]

/-- The array of the keys of the first mixer is the reference's. -/
theorem array3 : (dats (F := Ideal) m 0 c).arrAt 3 cfg0.N = Cert.Reference5Ideal.Hand.y3 x w := by
  refine (dats m 0 c).arrAt_eq_of_covers 3 _ (by decide +kernel) fun t hf y => ?_
  blk_simp
  rw [after0_3]
  have hy : y = ix2 (⟨(y 0).val, (y 0).isLt⟩ : Fin 512) (⟨(y 1).val, (y 1).isLt⟩ : Fin 512) := by
    funext a; fin_cases a <;> rfl
  refine (congrArg (out0_3 (F := Ideal) (iblk m c 0 t) (iblk m c 1 t)) hy).trans ((out3_apply (iblk m c 0 t) (iblk m c 1 t) _ _).trans
    ((entry_eq m c x w h0 h1 t _ _).trans ((Cert.Reference5Ideal.Hand.y3_apply x w _ _).symm.trans (congrArg _ ?_))))
  blk_ext [idx3 t]

/-- The array of the values of the first mixer is the reference's. -/
theorem array4 : (dats (F := Ideal) m 0 c).arrAt 4 cfg0.N = Cert.Reference5Ideal.Hand.y4 x w := by
  refine (dats m 0 c).arrAt_eq_of_covers 4 _ (by decide +kernel) fun t hf y => ?_
  blk_simp
  rw [after0_4]
  have hy : y = ix2 (⟨(y 0).val, (y 0).isLt⟩ : Fin 512) (⟨(y 1).val, (y 1).isLt⟩ : Fin 512) := by
    funext a; fin_cases a <;> rfl
  refine (congrArg (out0_4 (F := Ideal) (iblk m c 0 t) (iblk m c 1 t)) hy).trans ((out4_apply (iblk m c 0 t) (iblk m c 1 t) _ _).trans
    ((entry_eq m c x w h0 h1 t _ _).trans ((Cert.Reference5Ideal.Hand.y4_apply x w _ _).symm.trans (congrArg _ ?_))))
  blk_ext [idx4 t]

/-- The array of the same keys, rounded is the reference's. -/
theorem array5 : (dats (F := Ideal) m 0 c).arrAt 5 cfg0.N = Cert.Reference5Ideal.Hand.y5 x w := by
  refine (dats m 0 c).arrAt_eq_of_covers 5 _ (by decide +kernel) fun t hf y => ?_
  blk_simp
  rw [after0_5]
  have hy : y = ix2 (⟨(y 0).val, (y 0).isLt⟩ : Fin 512) (⟨(y 1).val, (y 1).isLt⟩ : Fin 512) := by
    funext a; fin_cases a <;> rfl
  refine (congrArg (out0_5 (F := Ideal) (iblk m c 0 t) (iblk m c 1 t)) hy).trans ((out5_apply (iblk m c 0 t) (iblk m c 1 t) _ _).trans
    ((entry_eq m c x w h0 h1 t _ _).trans ((Cert.Reference5Ideal.Hand.y5_apply x w _ _).symm.trans (congrArg _ ?_))))
  blk_ext [idx5 t]

/-- The array of the same values, rounded is the reference's. -/
theorem array6 : (dats (F := Ideal) m 0 c).arrAt 6 cfg0.N = Cert.Reference5Ideal.Hand.y6 x w := by
  refine (dats m 0 c).arrAt_eq_of_covers 6 _ (by decide +kernel) fun t hf y => ?_
  blk_simp
  rw [after0_6]
  have hy : y = ix2 (⟨(y 0).val, (y 0).isLt⟩ : Fin 512) (⟨(y 1).val, (y 1).isLt⟩ : Fin 512) := by
    funext a; fin_cases a <;> rfl
  refine (congrArg (out0_6 (F := Ideal) (iblk m c 0 t) (iblk m c 1 t)) hy).trans ((out6_apply (iblk m c 0 t) (iblk m c 1 t) _ _).trans
    ((entry_eq m c x w h0 h1 t _ _).trans ((Cert.Reference5Ideal.Hand.y6_apply x w _ _).symm.trans (congrArg _ ?_))))
  blk_ext [idx6 t]

/-- The array of the queries of the second mixer is the reference's. -/
theorem array7 : (dats (F := Ideal) m 0 c).arrAt 7 cfg0.N = Cert.Reference5Ideal.Hand.y7 x w := by
  refine (dats m 0 c).arrAt_eq_of_covers 7 _ (by decide +kernel) fun t hf y => ?_
  blk_simp
  rw [after0_7]
  have hy : y = ix2 (⟨(y 0).val, (y 0).isLt⟩ : Fin 512) (⟨(y 1).val, (y 1).isLt⟩ : Fin 512) := by
    funext a; fin_cases a <;> rfl
  refine (congrArg (out0_7 (F := Ideal) (iblk m c 0 t) (iblk m c 1 t)) hy).trans ((out7_apply (iblk m c 0 t) (iblk m c 1 t) _ _).trans
    ((congrArg (fun a : EReal => a * Ideal.ofBits .f32 1040187392#32) (entry_eq m c x w h0 h1 t _ _)).trans ((Cert.Reference5Ideal.Hand.y7_apply x w _ _).symm.trans (congrArg _ ?_))))
  blk_ext [idx7 t]

/-- The array of the keys of the second mixer is the reference's. -/
theorem array8 : (dats (F := Ideal) m 0 c).arrAt 8 cfg0.N = Cert.Reference5Ideal.Hand.y8 x w := by
  refine (dats m 0 c).arrAt_eq_of_covers 8 _ (by decide +kernel) fun t hf y => ?_
  blk_simp
  rw [after0_8]
  have hy : y = ix2 (⟨(y 0).val, (y 0).isLt⟩ : Fin 512) (⟨(y 1).val, (y 1).isLt⟩ : Fin 512) := by
    funext a; fin_cases a <;> rfl
  refine (congrArg (out0_8 (F := Ideal) (iblk m c 0 t) (iblk m c 1 t)) hy).trans ((out8_apply (iblk m c 0 t) (iblk m c 1 t) _ _).trans
    ((entry_eq m c x w h0 h1 t _ _).trans ((Cert.Reference5Ideal.Hand.y8_apply x w _ _).symm.trans (congrArg _ ?_))))
  blk_ext [idx8 t]

/-- The array of the values of the second mixer is the reference's. -/
theorem array9 : (dats (F := Ideal) m 0 c).arrAt 9 cfg0.N = Cert.Reference5Ideal.Hand.y9 x w := by
  refine (dats m 0 c).arrAt_eq_of_covers 9 _ (by decide +kernel) fun t hf y => ?_
  blk_simp
  rw [after0_9]
  have hy : y = ix2 (⟨(y 0).val, (y 0).isLt⟩ : Fin 512) (⟨(y 1).val, (y 1).isLt⟩ : Fin 512) := by
    funext a; fin_cases a <;> rfl
  refine (congrArg (out0_9 (F := Ideal) (iblk m c 0 t) (iblk m c 1 t)) hy).trans ((out9_apply (iblk m c 0 t) (iblk m c 1 t) _ _).trans
    ((entry_eq m c x w h0 h1 t _ _).trans ((Cert.Reference5Ideal.Hand.y9_apply x w _ _).symm.trans (congrArg _ ?_))))
  blk_ext [idx9 t]

/-- The array of the same keys, rounded is the reference's. -/
theorem array10 : (dats (F := Ideal) m 0 c).arrAt 10 cfg0.N = Cert.Reference5Ideal.Hand.y10 x w := by
  refine (dats m 0 c).arrAt_eq_of_covers 10 _ (by decide +kernel) fun t hf y => ?_
  blk_simp
  rw [after0_10]
  have hy : y = ix2 (⟨(y 0).val, (y 0).isLt⟩ : Fin 512) (⟨(y 1).val, (y 1).isLt⟩ : Fin 512) := by
    funext a; fin_cases a <;> rfl
  refine (congrArg (out0_10 (F := Ideal) (iblk m c 0 t) (iblk m c 1 t)) hy).trans ((out10_apply (iblk m c 0 t) (iblk m c 1 t) _ _).trans
    ((entry_eq m c x w h0 h1 t _ _).trans ((Cert.Reference5Ideal.Hand.y10_apply x w _ _).symm.trans (congrArg _ ?_))))
  blk_ext [idx10 t]

/-- The array of the same values, rounded is the reference's. -/
theorem array11 : (dats (F := Ideal) m 0 c).arrAt 11 cfg0.N = Cert.Reference5Ideal.Hand.y11 x w := by
  refine (dats m 0 c).arrAt_eq_of_covers 11 _ (by decide +kernel) fun t hf y => ?_
  blk_simp
  rw [after0_11]
  have hy : y = ix2 (⟨(y 0).val, (y 0).isLt⟩ : Fin 512) (⟨(y 1).val, (y 1).isLt⟩ : Fin 512) := by
    funext a; fin_cases a <;> rfl
  refine (congrArg (out0_11 (F := Ideal) (iblk m c 0 t) (iblk m c 1 t)) hy).trans ((out11_apply (iblk m c 0 t) (iblk m c 1 t) _ _).trans
    ((entry_eq m c x w h0 h1 t _ _).trans ((Cert.Reference5Ideal.Hand.y11_apply x w _ _).symm.trans (congrArg _ ?_))))
  blk_ext [idx11 t]

end Cert.Kernel5Ideal.Hand

namespace Cert.Proof

open Idealize.ShloMosaic Idealize.SL.Sem

open Idealize.ShloMosaic.TcCoe in
/-- The sample's projection and its reference, over the extended reals, end with equal results and unchanged arguments. -/
theorem equal5 : Cert.algebraic_Kernel5Ideal_Reference5Ideal := by
  intro m ρ m' ρ' _ hargs
  refine ⟨fun c => (Cert.Kernel5Ideal.Gen.dats (F := Idealize.ShloMosaic.Ideal) m 0 c).arrAt 2 Cert.Kernel5Ideal.cfg0.N,
    fun c => (Cert.Kernel5Ideal.Gen.dats (F := Idealize.ShloMosaic.Ideal) m 0 c).arrAt 3 Cert.Kernel5Ideal.cfg0.N,
    fun c => (Cert.Kernel5Ideal.Gen.dats (F := Idealize.ShloMosaic.Ideal) m 0 c).arrAt 4 Cert.Kernel5Ideal.cfg0.N,
    fun c => (Cert.Kernel5Ideal.Gen.dats (F := Idealize.ShloMosaic.Ideal) m 0 c).arrAt 5 Cert.Kernel5Ideal.cfg0.N,
    fun c => (Cert.Kernel5Ideal.Gen.dats (F := Idealize.ShloMosaic.Ideal) m 0 c).arrAt 6 Cert.Kernel5Ideal.cfg0.N,
    fun c => (Cert.Kernel5Ideal.Gen.dats (F := Idealize.ShloMosaic.Ideal) m 0 c).arrAt 7 Cert.Kernel5Ideal.cfg0.N,
    fun c => (Cert.Kernel5Ideal.Gen.dats (F := Idealize.ShloMosaic.Ideal) m 0 c).arrAt 8 Cert.Kernel5Ideal.cfg0.N,
    fun c => (Cert.Kernel5Ideal.Gen.dats (F := Idealize.ShloMosaic.Ideal) m 0 c).arrAt 9 Cert.Kernel5Ideal.cfg0.N,
    fun c => (Cert.Kernel5Ideal.Gen.dats (F := Idealize.ShloMosaic.Ideal) m 0 c).arrAt 10 Cert.Kernel5Ideal.cfg0.N,
    fun c => (Cert.Kernel5Ideal.Gen.dats (F := Idealize.ShloMosaic.Ideal) m 0 c).arrAt 11 Cert.Kernel5Ideal.cfg0.N,
    Cert.Kernel5Ideal.Value.run_blocks m ρ, ?_⟩
  refine (θ_run Cert.Reference5Ideal.defs _ _).mono (fun r h c => ?_) (Cert.Reference5Ideal.Value.run (F := Idealize.ShloMosaic.Ideal) m' ρ')
  obtain ⟨e0, e1, e2, e3, e4, e5, e6, e7, e8, e9, e⟩ := h c
  obtain ⟨h0, h1⟩ := hargs c
  exact ⟨e0.trans (Cert.Kernel5Ideal.Hand.array2 m c _ _ h0.symm h1.symm).symm,
    e1.trans (Cert.Kernel5Ideal.Hand.array3 m c _ _ h0.symm h1.symm).symm,
    e2.trans (Cert.Kernel5Ideal.Hand.array4 m c _ _ h0.symm h1.symm).symm,
    e3.trans (Cert.Kernel5Ideal.Hand.array5 m c _ _ h0.symm h1.symm).symm,
    e4.trans (Cert.Kernel5Ideal.Hand.array6 m c _ _ h0.symm h1.symm).symm,
    e5.trans (Cert.Kernel5Ideal.Hand.array7 m c _ _ h0.symm h1.symm).symm,
    e6.trans (Cert.Kernel5Ideal.Hand.array8 m c _ _ h0.symm h1.symm).symm,
    e7.trans (Cert.Kernel5Ideal.Hand.array9 m c _ _ h0.symm h1.symm).symm,
    e8.trans (Cert.Kernel5Ideal.Hand.array10 m c _ _ h0.symm h1.symm).symm,
    e9.trans (Cert.Kernel5Ideal.Hand.array11 m c _ _ h0.symm h1.symm).symm, e⟩

end Cert.Proof

end
-- ==== Proof.lean ====
/-
  The certificate of five kernels of the layer: for the prompt the projection of the queries, keys and values, the
  stick-breaking attention, the chunk-band attention and the merge, for the sample the projection. The frames of each
  kernel, of its idealization and of its reference, the named constants of the two attentions, and the five equations of
  results.
-/
module

public import proofs.«01_k».proof.Proof.Gen.ReferenceIdeal.Run
public import proofs.«01_k».proof.Proof.K.Run
public import proofs.«01_k».proof.Proof.KI.Run
public import proofs.«01_k».proof.Proof.V.Value
public import proofs.«01_k».proof.Proof.V2.Value
public import proofs.«01_k».proof.Proof.V3.Value
public import proofs.«01_k».proof.Proof.V4.Value
public import proofs.«01_k».proof.Proof.V5.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

/-- The reference runs, its arguments end unchanged; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same of the projection's reference, -/
theorem frame_reference2 : Cert.quiescent_Reference2Ideal := fun m ρ _ =>
  (θ_run Cert.Reference2Ideal.defs _ _).mono
    (fun r h => ⟨fun c => (h c).2.2.2.2.2.2.2.2.2.2, sem_eq_zero_of_no_sems (by decide) r.2⟩) (Cert.Reference2Ideal.Value.run (F := Ideal) m ρ)

/-- of the merge's, -/
theorem frame_reference3 : Cert.quiescent_Reference3Ideal := fun m ρ _ =>
  (θ_run Cert.Reference3Ideal.defs _ _).mono
    (fun r h => ⟨fun c => (h c).2.2.2, sem_eq_zero_of_no_sems (by decide) r.2⟩) (Cert.Reference3Ideal.Value.run (F := Ideal) m ρ)

/-- of the band attention's, -/
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- and of the sample's projection's. -/
theorem frame_reference5 : Cert.quiescent_Reference5Ideal := fun m ρ _ =>
  (θ_run Cert.Reference5Ideal.defs _ _).mono
    (fun r h => ⟨fun c => (h c).2.2.2.2.2.2.2.2.2.2, sem_eq_zero_of_no_sems (by decide) r.2⟩) (Cert.Reference5Ideal.Value.run (F := Ideal) m ρ)

/-- The constant of the loop's test names minus infinity. -/
theorem preserves : Cert.preserves_Kernel_KernelIdeal :=
  IdealRules.named_const.statement Cert.KernelIdeal.κ "dead" .f32 0xC2D00000#32 ⊥ rfl

/-- The band attention's constant for masked scores names minus infinity. -/
theorem preserves4 : Cert.preserves_Kernel4_Kernel4Ideal :=
  IdealRules.named_const.statement Cert.Kernel4Ideal.κ "masked" .f32 0xF149F2CA#32 ⊥ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Hand.frame m ρ, fun m ρ _ => Cert.KernelIdeal.Hand.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  preserves, equal, trivial, equal2, trivial, equal3, preserves4, equal4, trivial, equal5⟩

end Cert.Proof

end
